-- ==== Defs.lean ====
def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7)) (m ((c.tc : Thread Cert.ReferenceBIdeal.nD Cert.ReferenceBIdeal.τ).loc Cert.ReferenceBIdeal.main_arg8)) (m ((c.tc : Thread Cert.ReferenceBIdeal.nD Cert.ReferenceBIdeal.τ).loc Cert.ReferenceBIdeal.main_arg9))) = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_laid_out_a [hPre_laid_out_a : Cert.Pre_laid_out_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_laid_out_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_laid_out_a [hPre_laid_out_a : Cert.Pre_laid_out_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_laid_out_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8)
      ∧ r.2.mem ((c.tc : Thread Cert.KernelB.nD Cert.KernelB.τ).loc Cert.KernelB.main_arg9) = m ((c.tc : Thread Cert.KernelB.nD Cert.KernelB.τ).loc Cert.KernelB.main_arg9))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_KernelAIdeal_pre_laid_out_a [hKernelAIdeal : Cert.KernelAIdeal.Facts] [hPre_laid_out_a : Cert.Pre_laid_out_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_laid_out_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def quiescent_ReferenceAIdeal_pre_laid_out_a [hReferenceAIdeal : Cert.ReferenceAIdeal.Facts] [hPre_laid_out_a : Cert.Pre_laid_out_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_laid_out_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4)
      ∧ r.2.mem ((c.tc : Thread Cert.KernelD.nD Cert.KernelD.τ).loc Cert.KernelD.main_arg5) = m ((c.tc : Thread Cert.KernelD.nD Cert.KernelD.τ).loc Cert.KernelD.main_arg5)
      ∧ r.2.mem ((c.tc : Thread Cert.KernelD.nD Cert.KernelD.τ).loc Cert.KernelD.main_arg6) = m ((c.tc : Thread Cert.KernelD.nD Cert.KernelD.τ).loc Cert.KernelD.main_arg6))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
      ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5)
      ∧ r.2.mem ((c.tc : Thread Cert.ReferenceDIdeal.nD Cert.ReferenceDIdeal.τ).loc Cert.ReferenceDIdeal.main_arg6) = m ((c.tc : Thread Cert.ReferenceDIdeal.nD Cert.ReferenceDIdeal.τ).loc Cert.ReferenceDIdeal.main_arg6))
      ∧ r.2.sem = fun _ => 0)

def preserves_KernelB_KernelBIdeal : Prop :=
  IdealRules.named_const.Statement Cert.KernelBIdeal.κ "mask" .f32 0xF149F2CA#32 ⊥

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)
      ∧ m' ((c.tc : Thread Cert.ReferenceBIdeal.nD Cert.ReferenceBIdeal.τ).loc Cert.ReferenceBIdeal.main_arg9) = m ((c.tc : Thread Cert.KernelBIdeal.nD Cert.KernelBIdeal.τ).loc Cert.KernelBIdeal.main_arg9)) →
    ∃ (v0 : (c : Dev Cert.KernelBIdeal.nD) → Buf (Elt Ideal) ((c.tc : Thread Cert.KernelBIdeal.nD Cert.KernelBIdeal.τ).loc Cert.KernelBIdeal.main_v23)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v23) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
          ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v67) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8)
          ∧ r.2.mem ((c.tc : Thread Cert.ReferenceBIdeal.nD Cert.ReferenceBIdeal.τ).loc Cert.ReferenceBIdeal.main_arg9) = m' ((c.tc : Thread Cert.ReferenceBIdeal.nD Cert.ReferenceBIdeal.τ).loc Cert.ReferenceBIdeal.main_arg9))

def preserves_KernelA_KernelAIdeal : Prop :=
  IdealRules.named_const.Statement Cert.KernelAIdeal.κ "mask" .f32 0xF149F2CA#32 ⊥

def algebraic_KernelAIdeal_ReferenceAIdeal_pre_laid_out_a [hKernelAIdeal : Cert.KernelAIdeal.Facts] [hReferenceAIdeal : Cert.ReferenceAIdeal.Facts] [hPre_laid_out_a : Cert.Pre_laid_out_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_laid_out_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)) →
    ∃ (v0 : (c : Dev Cert.KernelAIdeal.nD) → Buf (Elt Ideal) ((c.tc : Thread Cert.KernelAIdeal.nD Cert.KernelAIdeal.τ).loc Cert.KernelAIdeal.main_v8)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v8) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v40) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)
      ∧ m' ((c.tc : Thread Cert.ReferenceCIdeal.nD Cert.ReferenceCIdeal.τ).loc Cert.ReferenceCIdeal.main_arg7) = m ((c.tc : Thread Cert.KernelCIdeal.nD Cert.KernelCIdeal.τ).loc Cert.KernelCIdeal.main_arg7)) →
    ∃ (v0 : (c : Dev Cert.KernelCIdeal.nD) → Buf (Elt Ideal) ((c.tc : Thread Cert.KernelCIdeal.nD Cert.KernelCIdeal.τ).loc Cert.KernelCIdeal.main_v15)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v15) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
          ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v29) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6)
          ∧ r.2.mem ((c.tc : Thread Cert.ReferenceCIdeal.nD Cert.ReferenceCIdeal.τ).loc Cert.ReferenceCIdeal.main_arg7) = m' ((c.tc : Thread Cert.ReferenceCIdeal.nD Cert.ReferenceCIdeal.τ).loc Cert.ReferenceCIdeal.main_arg7))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)
      ∧ m' ((c.tc : Thread Cert.ReferenceDIdeal.nD Cert.ReferenceDIdeal.τ).loc Cert.ReferenceDIdeal.main_arg5) = m ((c.tc : Thread Cert.KernelDIdeal.nD Cert.KernelDIdeal.τ).loc Cert.KernelDIdeal.main_arg5)
      ∧ m' ((c.tc : Thread Cert.ReferenceDIdeal.nD Cert.ReferenceDIdeal.τ).loc Cert.ReferenceDIdeal.main_arg6) = m ((c.tc : Thread Cert.KernelDIdeal.nD Cert.KernelDIdeal.τ).loc Cert.KernelDIdeal.main_arg6)) →
    ∃ (v0 : (c : Dev Cert.KernelDIdeal.nD) → Buf (Elt Ideal) ((c.tc : Thread Cert.KernelDIdeal.nD Cert.KernelDIdeal.τ).loc Cert.KernelDIdeal.main_v139_0)) (v1 : (c : Dev Cert.KernelDIdeal.nD) → Buf (Elt Ideal) ((c.tc : Thread Cert.KernelDIdeal.nD Cert.KernelDIdeal.τ).loc Cert.KernelDIdeal.main_v139_1)) (v2 : (c : Dev Cert.KernelDIdeal.nD) → Buf (Elt Ideal) ((c.tc : Thread Cert.KernelDIdeal.nD Cert.KernelDIdeal.τ).loc Cert.KernelDIdeal.main_v139_2)) (v3 : (c : Dev Cert.KernelDIdeal.nD) → Buf (Elt Ideal) ((c.tc : Thread Cert.KernelDIdeal.nD Cert.KernelDIdeal.τ).loc Cert.KernelDIdeal.main_v139_3)) (v4 : (c : Dev Cert.KernelDIdeal.nD) → Buf (Elt Ideal) ((c.tc : Thread Cert.KernelDIdeal.nD Cert.KernelDIdeal.τ).loc Cert.KernelDIdeal.main_v139_4)) (v5 : (c : Dev Cert.KernelDIdeal.nD) → Buf (Elt Ideal) ((c.tc : Thread Cert.KernelDIdeal.nD Cert.KernelDIdeal.τ).loc Cert.KernelDIdeal.main_v139_5)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v139_0) = v0 c
          ∧ r.2.mem ((c.tc : Thread Cert.KernelDIdeal.nD Cert.KernelDIdeal.τ).loc Cert.KernelDIdeal.main_v139_1) = v1 c
          ∧ r.2.mem ((c.tc : Thread Cert.KernelDIdeal.nD Cert.KernelDIdeal.τ).loc Cert.KernelDIdeal.main_v139_2) = v2 c
          ∧ r.2.mem ((c.tc : Thread Cert.KernelDIdeal.nD Cert.KernelDIdeal.τ).loc Cert.KernelDIdeal.main_v139_3) = v3 c
          ∧ r.2.mem ((c.tc : Thread Cert.KernelDIdeal.nD Cert.KernelDIdeal.τ).loc Cert.KernelDIdeal.main_v139_4) = v4 c
          ∧ r.2.mem ((c.tc : Thread Cert.KernelDIdeal.nD Cert.KernelDIdeal.τ).loc Cert.KernelDIdeal.main_v139_5) = v5 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
          ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
          ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v233) = v0 c
          ∧ r.2.mem ((c.tc : Thread Cert.ReferenceDIdeal.nD Cert.ReferenceDIdeal.τ).loc Cert.ReferenceDIdeal.main_v235) = v1 c
          ∧ r.2.mem ((c.tc : Thread Cert.ReferenceDIdeal.nD Cert.ReferenceDIdeal.τ).loc Cert.ReferenceDIdeal.main_v237) = v2 c
          ∧ r.2.mem ((c.tc : Thread Cert.ReferenceDIdeal.nD Cert.ReferenceDIdeal.τ).loc Cert.ReferenceDIdeal.main_v239) = v3 c
          ∧ r.2.mem ((c.tc : Thread Cert.ReferenceDIdeal.nD Cert.ReferenceDIdeal.τ).loc Cert.ReferenceDIdeal.main_v241) = v4 c
          ∧ r.2.mem ((c.tc : Thread Cert.ReferenceDIdeal.nD Cert.ReferenceDIdeal.τ).loc Cert.ReferenceDIdeal.main_v243) = v5 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4)
          ∧ r.2.mem ((c.tc : Thread Cert.ReferenceDIdeal.nD Cert.ReferenceDIdeal.τ).loc Cert.ReferenceDIdeal.main_arg5) = m' ((c.tc : Thread Cert.ReferenceDIdeal.nD Cert.ReferenceDIdeal.τ).loc Cert.ReferenceDIdeal.main_arg5)
          ∧ r.2.mem ((c.tc : Thread Cert.ReferenceDIdeal.nD Cert.ReferenceDIdeal.τ).loc Cert.ReferenceDIdeal.main_arg6) = m' ((c.tc : Thread Cert.ReferenceDIdeal.nD Cert.ReferenceDIdeal.τ).loc Cert.ReferenceDIdeal.main_arg6))

def Claim : Prop :=
  ∃ (hKernelB : Cert.KernelB.Facts) (hKernelBIdeal : Cert.KernelBIdeal.Facts) (hReferenceBIdeal : Cert.ReferenceBIdeal.Facts) (hKernelA : Cert.KernelA.Facts) (hKernelAIdeal : Cert.KernelAIdeal.Facts) (hReferenceAIdeal : Cert.ReferenceAIdeal.Facts) (hKernelC : Cert.KernelC.Facts) (hKernelCIdeal : Cert.KernelCIdeal.Facts) (hReferenceCIdeal : Cert.ReferenceCIdeal.Facts) (hKernelD : Cert.KernelD.Facts) (hKernelDIdeal : Cert.KernelDIdeal.Facts) (hReferenceDIdeal : Cert.ReferenceDIdeal.Facts) (hPre_finite_b : Cert.Pre_finite_b.Facts) (hPre_laid_out_a : Cert.Pre_laid_out_a.Facts),
    quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelA (hKernelA := hKernelA)
    ∧ quiescent_KernelAIdeal (hKernelAIdeal := hKernelAIdeal)
    ∧ quiescent_KernelAIdeal_pre_laid_out_a (hKernelAIdeal := hKernelAIdeal) (hPre_laid_out_a := hPre_laid_out_a)
    ∧ quiescent_ReferenceAIdeal (hReferenceAIdeal := hReferenceAIdeal)
    ∧ quiescent_ReferenceAIdeal_pre_laid_out_a (hReferenceAIdeal := hReferenceAIdeal) (hPre_laid_out_a := hPre_laid_out_a)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelD (hKernelD := hKernelD)
    ∧ quiescent_KernelDIdeal (hKernelDIdeal := hKernelDIdeal)
    ∧ quiescent_ReferenceDIdeal (hReferenceDIdeal := hReferenceDIdeal)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelA_KernelAIdeal
    ∧ algebraic_KernelAIdeal_ReferenceAIdeal_pre_laid_out_a (hKernelAIdeal := hKernelAIdeal) (hReferenceAIdeal := hReferenceAIdeal) (hPre_laid_out_a := hPre_laid_out_a)
    ∧ preserves_KernelC_KernelCIdeal
    ∧ algebraic_KernelCIdeal_ReferenceCIdeal (hKernelCIdeal := hKernelCIdeal) (hReferenceCIdeal := hReferenceCIdeal)
    ∧ preserves_KernelD_KernelDIdeal
    ∧ algebraic_KernelDIdeal_ReferenceDIdeal (hKernelDIdeal := hKernelDIdeal) (hReferenceDIdeal := hReferenceDIdeal)
-- ==== Pre_finite_b.lean ====
abbrev S8x4096x512 : Shape := ⟨3, ![8, 4096, 512]⟩
abbrev S16x512 : Shape := ⟨2, ![16, 512]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S1x64 .f32) (main_v4 : IVec S_ 1) (main_v9 : IVec S_ 1) (main_v14 : IVec S_ 1) (main_v19 : IVec S_ 1) (main_v24 : IVec S_ 1) (main_v28 : IVec S_ 1) (main_v32 : IVec S_ 1) (main_v33 : FVec F S1x64 .f32) : IVec S_ 1 :=
  let main_cst_12 : FVec F S_ .f32 := constant S_ .f32 0x7F800000#32
  let main_v34 : FVec F S1x64 .f32 := broadcastInDim S1x64 ![] bcast_S_S1x64 main_cst_12
  let main_v35 : IVec S1x64 1 := cmpf .olt main_v33 main_v34
  let main_c_13 : IVec S_ 1 := constantI S_ 1 1#1
  let main_v36 : IVec S_ 1 := (fun x v => Host.reduce IntOp.andi x v reducesTo_S1x64_S_d0_1 h_S_) main_v35 main_c_13
  let main_v37 : FVec F S1x64 .f32 := Host.absf main_arg8
  let main_cst_14 : FVec F S_ .f32 := constant S_ .f32 0x7F800000#32
  let main_v38 : FVec F S1x64 .f32 := broadcastInDim S1x64 ![] bcast_S_S1x64 main_cst_14
  let main_v39 : IVec S1x64 1 := cmpf .olt main_v37 main_v38
  let main_c_15 : IVec S_ 1 := constantI S_ 1 1#1
  let main_v40 : IVec S_ 1 := (fun x v => Host.reduce IntOp.andi x v reducesTo_S1x64_S_d0_1 h_S_) main_v39 main_c_15
  let main_v41 : IVec S_ 1 := andi main_v4 main_v9
  let main_v42 : IVec S_ 1 := andi main_v41 main_v14
  let main_v43 : IVec S_ 1 := andi main_v42 main_v19
  let main_v44 : IVec S_ 1 := andi main_v43 main_v24
  let main_v45 : IVec S_ 1 := andi main_v44 main_v28
  let main_v46 : IVec S_ 1 := andi main_v45 main_v32
  let main_v47 : IVec S_ 1 := andi main_v46 main_v36
  let main_v48 : IVec S_ 1 := andi main_v47 main_v40
  main_v48

def fn_part1 {F : FTy → Type} [FloatOps F] (main_arg4 : FVec F S16x512 .bf16) (main_arg5 : FVec F S1x64 .f32) (main_arg6 : FVec F S1x64 .f32) (main_arg7 : FVec F S1x64 .f32) (main_arg8 : FVec F S1x64 .f32) (main_v4 : IVec S_ 1) (main_v9 : IVec S_ 1) (main_v14 : IVec S_ 1) (main_v16 : FVec F S16x512 .f32) (main_cst_4 : FVec F S_ .f32) : IVec S_ 1 :=
  let main_v17 : FVec F S16x512 .f32 := broadcastInDim S16x512 ![] bcast_S_S16x512 main_cst_4
  let main_v18 : IVec S16x512 1 := cmpf .olt main_v16 main_v17
  let main_c_5 : IVec S_ 1 := constantI S_ 1 1#1
  let main_v19 : IVec S_ 1 := (fun x v => Host.reduce IntOp.andi x v reducesTo_S16x512_S_d0_1 h_S_) main_v18 main_c_5
  let main_v20 : FVec F S16x512 .f32 := (extf .f32 · bitsLt_bf16_f32) main_arg4
  let main_v21 : FVec F S16x512 .f32 := Host.absf main_v20
  let main_cst_6 : FVec F S_ .f32 := constant S_ .f32 0x7F800000#32
  let main_v22 : FVec F S16x512 .f32 := broadcastInDim S16x512 ![] bcast_S_S16x512 main_cst_6
  let main_v23 : IVec S16x512 1 := cmpf .olt main_v21 main_v22
  let main_c_7 : IVec S_ 1 := constantI S_ 1 1#1
  let main_v24 : IVec S_ 1 := (fun x v => Host.reduce IntOp.andi x v reducesTo_S16x512_S_d0_1 h_S_) main_v23 main_c_7
  let main_v25 : FVec F S1x64 .f32 := Host.absf main_arg5
  let main_cst_8 : FVec F S_ .f32 := constant S_ .f32 0x7F800000#32
  let main_v26 : FVec F S1x64 .f32 := broadcastInDim S1x64 ![] bcast_S_S1x64 main_cst_8
  let main_v27 : IVec S1x64 1 := cmpf .olt main_v25 main_v26
  let main_c_9 : IVec S_ 1 := constantI S_ 1 1#1
  let main_v28 : IVec S_ 1 := (fun x v => Host.reduce IntOp.andi x v reducesTo_S1x64_S_d0_1 h_S_) main_v27 main_c_9
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : FVec F S1x64 .f32 := Host.absf main_arg7
  fn_part2 (F := F) main_arg8 main_v4 main_v9 main_v14 main_v19 main_v24 main_v28 main_v32 main_v33

def fn {F : FTy → Type} [FloatOps F] (main_arg0 : FVec F S8x4096x512 .bf16) (main_arg1 : FVec F S8x4096x512 .bf16) (main_arg2 : FVec F S8x4096x512 .bf16) (main_arg3 : FVec F S16x512 .bf16) (main_arg4 : FVec F S16x512 .bf16) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : FVec F S8x4096x512 .f32 := (extf .f32 · bitsLt_bf16_f32) main_arg2
  let main_v11 : FVec F S8x4096x512 .f32 := Host.absf main_v10
  let main_cst_2 : FVec F S_ .f32 := constant S_ .f32 0x7F800000#32
  let main_v12 : FVec F S8x4096x512 .f32 := broadcastInDim S8x4096x512 ![] bcast_S_S8x4096x512 main_cst_2
  let main_v13 : IVec S8x4096x512 1 := cmpf .olt main_v11 main_v12
  let main_c_3 : IVec S_ 1 := constantI S_ 1 1#1
  let main_v14 : IVec S_ 1 := (fun x v => Host.reduce IntOp.andi x v reducesTo_S8x4096x512_S_d0_1_2 h_S_) main_v13 main_c_3
  let main_v15 : FVec F S16x512 .f32 := (extf .f32 · bitsLt_bf16_f32) main_arg3
  let main_v16 : FVec F S16x512 .f32 := Host.absf main_v15
  let main_cst_4 : FVec F S_ .f32 := constant S_ .f32 0x7F800000#32
  fn_part1 (F := F) main_arg4 main_arg5 main_arg6 main_arg7 main_arg8 main_v4 main_v9 main_v14 main_v16 main_cst_4
-- ==== Pre_laid_out_a.lean ====
abbrev S8x4096x1024 : Shape := ⟨3, ![8, 4096, 1024]⟩
abbrev S8x4096x128 : Shape := ⟨3, ![8, 4096, 128]⟩
abbrev S16x128 : Shape := ⟨2, ![16, 128]⟩
abbrev S8x4096x2x4x2x64 : Shape := ⟨6, ![8, 4096, 2, 4, 2, 64]⟩
abbrev S_ : Shape := ⟨0, ![]⟩
abbrev S8x4096x1x4x1x64 : Shape := ⟨6, ![8, 4096, 1, 4, 1, 64]⟩
abbrev S8x4096x4x64 : Shape := ⟨4, ![8, 4096, 4, 64]⟩

class Facts : Prop where
  bitsLt_bf16_f32 : FTy.bits .bf16 < FTy.bits .f32
  shapeCasts_S8x4096x1024_S8x4096x2x4x2x64 : S8x4096x1024.ShapeCasts S8x4096x2x4x2x64
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_
  bcast_S_S16x128 : S_.BroadcastsInDim S16x128 (![] : Fin 0 → Fin S16x128.rank)
  reducesTo_S16x128_S_d0_1 : S16x128.ReducesTo [0, 1] S_
  slices_S8x4096x2x4x2x64_S8x4096x1x4x1x64_0_0_0_0_1_0 : S8x4096x2x4x2x64.Slices ![0, 0, 0, 0, 1, 0] S8x4096x1x4x1x64
  shapeCasts_S8x4096x1x4x1x64_S8x4096x4x64 : S8x4096x1x4x1x64.ShapeCasts S8x4096x4x64
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  slices_S8x4096x2x4x2x64_S8x4096x1x4x1x64_0_0_1_0_0_0 : S8x4096x2x4x2x64.Slices ![0, 0, 1, 0, 0, 0] S8x4096x1x4x1x64

variable [Facts]

def fn_part1 {F : FTy → Type} [FloatOps F] (main_v1 : FVec F S8x4096x2x4x2x64 .f32) (main_v16 : IVec S_ 1) (main_v17 : IVec S_ 1) : IVec S_ 1 :=
  let main_v18 : IVec S_ 1 := andi main_v17 main_v16
  let main_v19 : FVec F S8x4096x1x4x1x64 .f32 := (extractStridedSlice S8x4096x1x4x1x64 ![0, 0, 0, 0, 1, 0] · slices_S8x4096x2x4x2x64_S8x4096x1x4x1x64_0_0_0_0_1_0) main_v1
  let main_v20 : FVec F S8x4096x4x64 .f32 := shapeCast S8x4096x4x64 main_v19 shapeCasts_S8x4096x1x4x1x64_S8x4096x4x64
  let main_cst_4 : FVec F S_ .f32 := constant S_ .f32 0x00000000#32
  let main_v21 : FVec F S8x4096x4x64 .f32 := broadcastInDim S8x4096x4x64 ![] bcast_S_S8x4096x4x64 main_cst_4
  let main_v22 : IVec S8x4096x4x64 1 := cmpf .oeq main_v20 main_v21
  let main_c_5 : IVec S_ 1 := constantI S_ 1 1#1
  let main_v23 : IVec S_ 1 := (fun x v => Host.reduce IntOp.andi x v reducesTo_S8x4096x4x64_S_d0_1_2_3 h_S_) main_v22 main_c_5
  let main_v24 : IVec S_ 1 := andi main_v18 main_v23
  let main_v25 : FVec F S8x4096x1x4x1x64 .f32 := (extractStridedSlice S8x4096x1x4x1x64 ![0, 0, 1, 0, 0, 0] · slices_S8x4096x2x4x2x64_S8x4096x1x4x1x64_0_0_1_0_0_0) main_v1
  let main_v26 : FVec F S8x4096x4x64 .f32 := shapeCast S8x4096x4x64 main_v25 shapeCasts_S8x4096x1x4x1x64_S8x4096x4x64
  let main_cst_6 : FVec F S_ .f32 := constant S_ .f32 0x00000000#32
  let main_v27 : FVec F S8x4096x4x64 .f32 := broadcastInDim S8x4096x4x64 ![] bcast_S_S8x4096x4x64 main_cst_6
  let main_v28 : IVec S8x4096x4x64 1 := cmpf .oeq main_v26 main_v27
  let main_c_7 : IVec S_ 1 := constantI S_ 1 1#1
  let main_v29 : IVec S_ 1 := (fun x v => Host.reduce IntOp.andi x v reducesTo_S8x4096x4x64_S_d0_1_2_3 h_S_) main_v28 main_c_7
  let main_v30 : IVec S_ 1 := andi main_v24 main_v29
  main_v30

def fn {F : FTy → Type} [FloatOps F] (main_arg0 : FVec F S8x4096x1024 .bf16) (main_arg1 : FVec F S8x4096x128 .bf16) (main_arg2 : FVec F S8x4096x128 .bf16) (main_arg3 : FVec F S16x128 .bf16) (main_arg4 : FVec F S16x128 .bf16) : IVec S_ 1 :=
  let main_v0 : FVec F S8x4096x1024 .f32 := (extf .f32 · bitsLt_bf16_f32) main_arg0
  let main_v1 : FVec F S8x4096x2x4x2x64 .f32 := shapeCast S8x4096x2x4x2x64 main_v0 shapeCasts_S8x4096x1024_S8x4096x2x4x2x64
  let main_v2 : FVec F S8x4096x1024 .f32 := (extf .f32 · bitsLt_bf16_f32) main_arg0
  let main_v3 : FVec F S8x4096x1024 .f32 := Host.absf main_v2
  let main_cst : FVec F S_ .f32 := constant S_ .f32 0x7F800000#32
  let main_v4 : FVec F S8x4096x1024 .f32 := broadcastInDim S8x4096x1024 ![] bcast_S_S8x4096x1024 main_cst
  let main_v5 : IVec S8x4096x1024 1 := cmpf .olt main_v3 main_v4
  let main_c : IVec S_ 1 := constantI S_ 1 1#1
  let main_v6 : IVec S_ 1 := (fun x v => Host.reduce IntOp.andi x v reducesTo_S8x4096x1024_S_d0_1_2 h_S_) main_v5 main_c
  let main_v7 : FVec F S8x4096x128 .f32 := (extf .f32 · bitsLt_bf16_f32) main_arg1
  let main_v8 : FVec F S8x4096x128 .f32 := Host.absf main_v7
  let main_cst_0 : FVec F S_ .f32 := constant S_ .f32 0x7F800000#32
  let main_v9 : FVec F S8x4096x128 .f32 := broadcastInDim S8x4096x128 ![] bcast_S_S8x4096x128 main_cst_0
  let main_v10 : IVec S8x4096x128 1 := cmpf .olt main_v8 main_v9
  let main_c_1 : IVec S_ 1 := constantI S_ 1 1#1
  let main_v11 : IVec S_ 1 := (fun x v => Host.reduce IntOp.andi x v reducesTo_S8x4096x128_S_d0_1_2 h_S_) main_v10 main_c_1
  let main_v12 : FVec F S16x128 .f32 := (extf .f32 · bitsLt_bf16_f32) main_arg3
  let main_v13 : FVec F S16x128 .f32 := Host.absf main_v12
  let main_cst_2 : FVec F S_ .f32 := constant S_ .f32 0x7F800000#32
  let main_v14 : FVec F S16x128 .f32 := broadcastInDim S16x128 ![] bcast_S_S16x128 main_cst_2
  let main_v15 : IVec S16x128 1 := cmpf .olt main_v13 main_v14
  let main_c_3 : IVec S_ 1 := constantI S_ 1 1#1
  let main_v16 : IVec S_ 1 := (fun x v => Host.reduce IntOp.andi x v reducesTo_S16x128_S_d0_1 h_S_) main_v15 main_c_3
  let main_v17 : IVec S_ 1 := andi main_v6 main_v11
  fn_part1 (F := F) main_v1 main_v16 main_v17
-- ==== KernelB.lean ====
abbrev S8x4096x512 : Shape := ⟨3, ![8, 4096, 512]⟩
abbrev S16x512 : Shape := ⟨2, ![16, 512]⟩
abbrev S1x64 : Shape := ⟨2, ![1, 64]⟩
abbrev S1x128 : Shape := ⟨2, ![1, 128]⟩
abbrev S_ : Shape := ⟨0, ![]⟩
abbrev S128x512 : Shape := ⟨2, ![128, 512]⟩
abbrev S128 : Shape := ⟨1, ![128]⟩
abbrev S64 : Shape := ⟨1, ![64]⟩
abbrev S4x128 : Shape := ⟨2, ![4, 128]⟩
abbrev S1x256x128 : Shape := ⟨3, ![1, 256, 128]⟩
abbrev S1x4096x128 : Shape := ⟨3, ![1, 4096, 128]⟩
abbrev S128x128 : Shape := ⟨2, ![128, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 51
  | .vmem => 15
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S16x512, .bf16⟩
  | .hbm, ⟨4, _⟩ => ⟨S16x512, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S_, .i32⟩
  | .hbm, ⟨11, _⟩ => ⟨S_, .bf16⟩
  | .hbm, ⟨12, _⟩ => ⟨S128x512, .bf16⟩
  | .hbm, ⟨13, _⟩ => ⟨S_, .i32⟩
  | .hbm, ⟨14, _⟩ => ⟨S_, .bf16⟩
  | .hbm, ⟨15, _⟩ => ⟨S128x512, .bf16⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S64, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S64, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S64, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S4x128, .f32⟩
  | .hbm, ⟨48, _⟩ => ⟨S128, .f32⟩
  | .hbm, ⟨49, _⟩ => ⟨S1x128, .f32⟩
  | .hbm, ⟨50, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S4x128, .f32⟩
  | .local _ .vmem, ⟨12, _⟩ => ⟨S1x128, .f32⟩
  | .local _ .vmem, ⟨13, _⟩ => ⟨S1x256x128, .bf16⟩
  | .local _ .vmem, ⟨14, _⟩ => ⟨S1x256x128, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_cst_2 : Ref sig .tc := ⟨.hbm, 21, rfl⟩
abbrev main_call2_v0 : Ref sig .tc := ⟨.hbm, 22, rfl⟩
abbrev main_call2_v1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_3 : Ref sig .tc := ⟨.hbm, 28, rfl⟩
abbrev main_call3_v0 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_call4_v0 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_call5_v0 : Ref sig .tc := ⟨.hbm, 37, rfl⟩
abbrev main_v13 : Ref sig .tc := ⟨.hbm, 38, rfl⟩
abbrev main_v14 : Ref sig .tc := ⟨.hbm, 39, rfl⟩
abbrev main_c_6 : Ref sig .tc := ⟨.hbm, 40, rfl⟩
abbrev main_call6_v0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v78 : BitVec 32 := Scalar.muli arg12 c512_i32
  v78
def k0_off1 (k0_t1 : Fin k0_t1_loop.trips) : Fin 3 → Nat :=
  let c0_30 : Index := 0#32
  let c0_i32 : BitVec 32 := 0#32
  let c1_i32 : BitVec 32 := 1#32
  let arg12 : BitVec 32 := Scf.iv c0_i32 c1_i32 k0_t1
  let c512_i32 : BitVec 32 := 512#32
  let v78 : BitVec 32 := Scalar.muli arg12 c512_i32
  let v79 : BitVec 32 := v78
  let v80 : Index := Scalar.indexCast v79
  let c0_31 : Index := 0#32
  ![0, v80.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelBIdeal.lean ====
variable {F : FTy → Type} [FloatOps F] [Named F]
def κ : String → Option EReal := fun
  | "mask" => some ⊥
  | _ => none
-- ==== ReferenceBIdeal.lean ====
abbrev S8x4096x512 : Shape := ⟨3, ![8, 4096, 512]⟩
abbrev S16x512 : Shape := ⟨2, ![16, 512]⟩
abbrev S1x64 : Shape := ⟨2, ![1, 64]⟩
abbrev S1x128 : Shape := ⟨2, ![1, 128]⟩
abbrev S1x16x512 : Shape := ⟨3, ![1, 16, 512]⟩
abbrev S8x16x512 : Shape := ⟨3, ![8, 16, 512]⟩
abbrev S8x4112x512 : Shape := ⟨3, ![8, 4112, 512]⟩
abbrev S8x4096x4x2x64 : Shape := ⟨5, ![8, 4096, 4, 2, 64]⟩
abbrev S8x4112x4x2x64 : Shape := ⟨5, ![8, 4112, 4, 2, 64]⟩
abbrev S8x4112x4x128 : Shape := ⟨4, ![8, 4112, 4, 128]⟩
abbrev S64 : Shape := ⟨1, ![64]⟩
abbrev S_ : Shape := ⟨0, ![]⟩
abbrev S8x4x2x4096x4112 : Shape := ⟨5, ![8, 4, 2, 4096, 4112]⟩
abbrev S8x4x2x4096 : Shape := ⟨4, ![8, 4, 2, 4096]⟩
abbrev S8x4x2x4096x1 : Shape := ⟨5, ![8, 4, 2, 4096, 1]⟩
abbrev S8x4x1x4096x4112 : Shape := ⟨5, ![8, 4, 1, 4096, 4112]⟩
abbrev S8x4x4096x4112 : Shape := ⟨4, ![8, 4, 4096, 4112]⟩
abbrev S8x4x128x4096 : Shape := ⟨4, ![8, 4, 128, 4096]⟩
abbrev S8x4096x4x128 : Shape := ⟨4, ![8, 4096, 4, 128]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S16x512, .bf16⟩
  | .hbm, ⟨4, _⟩ => ⟨S16x512, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S8x4096x512, .f32⟩
  | .hbm, ⟨11, _⟩ => ⟨S8x4096x512, .f32⟩
  | .hbm, ⟨12, _⟩ => ⟨S8x4096x512, .f32⟩
  | .hbm, ⟨13, _⟩ => ⟨S16x512, .f32⟩
  | .hbm, ⟨14, _⟩ => ⟨S16x512, .f32⟩
  | .hbm, ⟨15, _⟩ => ⟨S1x16x512, .f32⟩
  | .hbm, ⟨16, _⟩ => ⟨S8x16x512, .f32⟩
  | .hbm, ⟨17, _⟩ => ⟨S8x4112x512, .f32⟩
  | .hbm, ⟨18, _⟩ => ⟨S1x16x512, .f32⟩
  | .hbm, ⟨19, _⟩ => ⟨S8x16x512, .f32⟩
  | .hbm, ⟨20, _⟩ => ⟨S8x4112x512, .f32⟩
  | .hbm, ⟨21, _⟩ => ⟨S8x4096x4x2x64, .f32⟩
  | .hbm, ⟨22, _⟩ => ⟨S8x4112x4x2x64, .f32⟩
  | .hbm, ⟨23, _⟩ => ⟨S8x4112x4x128, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x4x2x4096x4112, .f32⟩
  | .hbm, ⟨40, _⟩ => ⟨S_, .f32⟩
  | .hbm, ⟨41, _⟩ => ⟨S_, .f32⟩
  | .hbm, ⟨42, _⟩ => ⟨S8x4x2x4096x4112, .f32⟩
  | .hbm, ⟨43, _⟩ => ⟨S8x4x2x4096x4112, .f32⟩
  | .hbm, ⟨44, _⟩ => ⟨S_, .f32⟩
  | .hbm, ⟨45, _⟩ => ⟨S8x4x2x4096, .f32⟩
  | .hbm, ⟨46, _⟩ => ⟨S_, .f32⟩
  | .hbm, ⟨47, _⟩ => ⟨S8x4x2x4096, .f32⟩
  | .hbm, ⟨48, _⟩ => ⟨S8x4x2x4096, .f32⟩
  | .hbm, ⟨49, _⟩ => ⟨S8x4x2x4096x1, .f32⟩
  | .hbm, ⟨50, _⟩ => ⟨S8x4x2x4096x4112, .f32⟩
  | .hbm, ⟨51, _⟩ => ⟨S8x4x2x4096x4112, .f32⟩
  | .hbm, ⟨52, _⟩ => ⟨S8x4x2x4096x4112, .f32⟩
  | .hbm, ⟨53, _⟩ => ⟨S_, .f32⟩
  | .hbm, ⟨54, _⟩ => ⟨S8x4x2x4096, .f32⟩
  | .hbm, ⟨55, _⟩ => ⟨S8x4x2x4096x1, .f32⟩
  | .hbm, ⟨56, _⟩ => ⟨S8x4x2x4096x4112, .f32⟩
  | .hbm, ⟨57, _⟩ => ⟨S8x4x2x4096x4112, .f32⟩
  | .hbm, ⟨58, _⟩ => ⟨S8x4x1x4096x4112, .f32⟩
  | .hbm, ⟨59, _⟩ => ⟨S8x4x4096x4112, .f32⟩
  | .hbm, ⟨60, _⟩ => ⟨S8x4x1x4096x4112, .f32⟩
  | .hbm, ⟨61, _⟩ => ⟨S8x4x4096x4112, .f32⟩
  | .hbm, ⟨62, _⟩ => ⟨S8x4x4096x4112, .f32⟩
  | .hbm, ⟨63, _⟩ => ⟨S8x4x4096x4112, .f32⟩
  | .hbm, ⟨64, _⟩ => ⟨S8x4x4096x4112, .f32⟩
  | .hbm, ⟨65, _⟩ => ⟨S8x4x128x4096, .f32⟩
  | .hbm, ⟨66, _⟩ => ⟨S8x4096x4x128, .f32⟩
  | .hbm, ⟨67, _⟩ => ⟨S128, .f32⟩
  | .hbm, ⟨68, _⟩ => ⟨S8x4096x4x128, .f32⟩
  | .hbm, ⟨69, _⟩ => ⟨S_, .f32⟩
  | .hbm, ⟨70, _⟩ => ⟨S8x4096x4, .f32⟩
  | .hbm, ⟨71, _⟩ => ⟨S8x4096x4x1, .f32⟩
  | .hbm, ⟨72, _⟩ => ⟨S_, .f32⟩
  | .hbm, ⟨73, _⟩ => ⟨S8x4096x4x1, .f32⟩
  | .hbm, ⟨74, _⟩ => ⟨S8x4096x4x1, .f32⟩
  | .hbm, ⟨75, _⟩ => ⟨S_, .f32⟩
  | .hbm, ⟨76, _⟩ => ⟨S8x4096x4x1, .f32⟩
  | .hbm, ⟨77, _⟩ => ⟨S8x4096x4x1, .f32⟩
  | .hbm, ⟨78, _⟩ => ⟨S8x4096x4x1, .f32⟩
  | .hbm, ⟨79, _⟩ => ⟨S8x4096x4x128, .f32⟩
  | .hbm, ⟨80, _⟩ => ⟨S8x4096x4x128, .f32⟩
  | .hbm, ⟨81, _⟩ => ⟨S1x1x1x128, .f32⟩
  | .hbm, ⟨82, _⟩ => ⟨S8x4096x4x128, .f32⟩
  | .hbm, ⟨83, _⟩ => ⟨S8x4096x4x128, .f32⟩
  | .hbm, ⟨84, _⟩ => ⟨S_, .f32⟩
  | .hbm, ⟨85, _⟩ => ⟨S8x4096x4x128, .f32⟩
  | .hbm, ⟨86, _⟩ => ⟨S8x4096x4x128, .f32⟩
  | .hbm, ⟨87, _⟩ => ⟨S8x4096x512, .f32⟩
  | .hbm, ⟨88, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== KernelA.lean ====
abbrev S8x4096x1024 : Shape := ⟨3, ![8, 4096, 1024]⟩
abbrev S8x4096x128 : Shape := ⟨3, ![8, 4096, 128]⟩
abbrev S16x128 : Shape := ⟨2, ![16, 128]⟩
abbrev S_ : Shape := ⟨0, ![]⟩
abbrev S128x128 : Shape := ⟨2, ![128, 128]⟩
abbrev S128 : Shape := ⟨1, ![128]⟩
abbrev S1x128 : Shape := ⟨2, ![1, 128]⟩
abbrev S8x4096x512 : Shape := ⟨3, ![8, 4096, 512]⟩
abbrev S1x128x1024 : Shape := ⟨3, ![1, 128, 1024]⟩
abbrev S1x4096x128 : Shape := ⟨3, ![1, 4096, 128]⟩
abbrev S1x128x512 : Shape := ⟨3, ![1, 128, 512]⟩
abbrev S1x128x128 : Shape := ⟨3, ![1, 128, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S512x64 : Shape := ⟨2, ![512, 64]⟩
abbrev S128x64 : Shape := ⟨2, ![128, 64]⟩
abbrev S128x512 : Shape := ⟨2, ![128, 512]⟩

abbrev nBuf : Space → Nat
  | .hbm => 23
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x128, .bf16⟩
  | .hbm, ⟨2, _⟩ => ⟨S8x4096x128, .bf16⟩
  | .hbm, ⟨3, _⟩ => ⟨S16x128, .bf16⟩
  | .hbm, ⟨4, _⟩ => ⟨S16x128, .bf16⟩
  | .hbm, ⟨5, _⟩ => ⟨S_, .i32⟩
  | .hbm, ⟨6, _⟩ => ⟨S_, .bf16⟩
  | .hbm, ⟨7, _⟩ => ⟨S128x128, .bf16⟩
  | .hbm, ⟨8, _⟩ => ⟨S_, .i32⟩
  | .hbm, ⟨9, _⟩ => ⟨S_, .bf16⟩
  | .hbm, ⟨10, _⟩ => ⟨S128x128, .bf16⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S8x4096x512, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128x512, .bf16⟩
  | .local _ .vmem, ⟨10, _⟩ => ⟨S1x128x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_2 : Ref sig .tc := ⟨.hbm, 16, rfl⟩
abbrev main_call2_v0 : Ref sig .tc := ⟨.hbm, 17, rfl⟩
abbrev main_call2_v1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32 : BitVec 32 := 0#32
  let c8_i32 : BitVec 32 := 8#32
  let v53 : BitVec 32 := Scalar.addi c0_i32 c8_i32
  let c1_i32 : BitVec 32 := 1#32
  ⟨c0_i32, v53, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v74 : BitVec 32 := Scalar.muli arg9 c512_i32
  v74
def k0_off1 (k0_t1 : Fin k0_t1_loop.trips) : Fin 3 → Nat :=
  let c0_36 : Index := 0#32
  let c0_i32 : BitVec 32 := 0#32
  let c1_i32 : BitVec 32 := 1#32
  let arg9 : BitVec 32 := Scf.iv c0_i32 c1_i32 k0_t1
  let c512_i32 : BitVec 32 := 512#32
  let v74 : BitVec 32 := Scalar.muli arg9 c512_i32
  let v75 : BitVec 32 := v74
  let v76 : Index := Scalar.indexCast v75
  let c0_37 : Index := 0#32
  ![0, v76.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAIdeal.lean ====
variable {F : FTy → Type} [FloatOps F] [Named F]
def κ : String → Option EReal := fun
  | "mask" => some ⊥
  | _ => none
-- ==== ReferenceAIdeal.lean ====
abbrev S8x4096x1024 : Shape := ⟨3, ![8, 4096, 1024]⟩
abbrev S8x4096x128 : Shape := ⟨3, ![8, 4096, 128]⟩
abbrev S16x128 : Shape := ⟨2, ![16, 128]⟩
abbrev S1x16x128 : Shape := ⟨3, ![1, 16, 128]⟩
abbrev S8x16x128 : Shape := ⟨3, ![8, 16, 128]⟩
abbrev S8x4112x128 : Shape := ⟨3, ![8, 4112, 128]⟩
abbrev S8x4096x2x4x2x64 : Shape := ⟨6, ![8, 4096, 2, 4, 2, 64]⟩
abbrev S8x4096x1x4x1x64 : Shape := ⟨6, ![8, 4096, 1, 4, 1, 64]⟩
abbrev S8x4096x4x64 : Shape := ⟨4, ![8, 4096, 4, 64]⟩
abbrev S8x4096x1x4x64 : Shape := ⟨5, ![8, 4096, 1, 4, 64]⟩
abbrev S8x4096x2x4x64 : Shape := ⟨5, ![8, 4096, 2, 4, 64]⟩
abbrev S8x4112x2x64 : Shape := ⟨4, ![8, 4112, 2, 64]⟩
abbrev S8x2x4112x4096x4 : Shape := ⟨5, ![8, 2, 4112, 4096, 4]⟩
abbrev S8x2x4x4096x4112 : Shape := ⟨5, ![8, 2, 4, 4096, 4112]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x128, .bf16⟩
  | .hbm, ⟨2, _⟩ => ⟨S8x4096x128, .bf16⟩
  | .hbm, ⟨3, _⟩ => ⟨S16x128, .bf16⟩
  | .hbm, ⟨4, _⟩ => ⟨S16x128, .bf16⟩
  | .hbm, ⟨5, _⟩ => ⟨S8x4096x1024, .f32⟩
  | .hbm, ⟨6, _⟩ => ⟨S8x4096x128, .f32⟩
  | .hbm, ⟨7, _⟩ => ⟨S8x4096x128, .f32⟩
  | .hbm, ⟨8, _⟩ => ⟨S16x128, .f32⟩
  | .hbm, ⟨9, _⟩ => ⟨S16x128, .f32⟩
  | .hbm, ⟨10, _⟩ => ⟨S1x16x128, .f32⟩
  | .hbm, ⟨11, _⟩ => ⟨S8x16x128, .f32⟩
  | .hbm, ⟨12, _⟩ => ⟨S8x4112x128, .f32⟩
  | .hbm, ⟨13, _⟩ => ⟨S1x16x128, .f32⟩
  | .hbm, ⟨14, _⟩ => ⟨S8x16x128, .f32⟩
  | .hbm, ⟨15, _⟩ => ⟨S8x4112x128, .f32⟩
  | .hbm, ⟨16, _⟩ => ⟨S8x4096x2x4x2x64, .f32⟩
  | .hbm, ⟨17, _⟩ => ⟨S8x4096x1x4x1x64, .f32⟩
  | .hbm, ⟨18, _⟩ => ⟨S8x4096x4x64, .f32⟩
  | .hbm, ⟨19, _⟩ => ⟨S8x4096x1x4x1x64, .f32⟩
  | .hbm, ⟨20, _⟩ => ⟨S8x4096x4x64, .f32⟩
  | .hbm, ⟨21, _⟩ => ⟨S8x4096x1x4x64, .f32⟩
  | .hbm, ⟨22, _⟩ => ⟨S8x4096x1x4x64, .f32⟩
  | .hbm, ⟨23, _⟩ => ⟨S8x4096x2x4x64, .f32⟩
  | .hbm, ⟨24, _⟩ => ⟨S8x4112x2x64, .f32⟩
  | .hbm, ⟨25, _⟩ => ⟨S8x4112x2x64, .f32⟩
  | .hbm, ⟨26, _⟩ => ⟨S8x2x4112x4096x4, .f32⟩
  | .hbm, ⟨27, _⟩ => ⟨S8x2x4x4096x4112, .f32⟩
  | .hbm, ⟨28, _⟩ => ⟨S_, .f32⟩
  | .hbm, ⟨29, _⟩ => ⟨S_, .f32⟩
  | .hbm, ⟨30, _⟩ => ⟨S8x2x4x4096x4112, .f32⟩
  | .hbm, ⟨31, _⟩ => ⟨S8x2x4x4096x4112, .f32⟩
  | .hbm, ⟨32, _⟩ => ⟨S_, .f32⟩
  | .hbm, ⟨33, _⟩ => ⟨S8x2x4x4096, .f32⟩
  | .hbm, ⟨34, _⟩ => ⟨S_, .f32⟩
  | .hbm, ⟨35, _⟩ => ⟨S8x2x4x4096, .f32⟩
  | .hbm, ⟨36, _⟩ => ⟨S8x2x4x4096, .f32⟩
  | .hbm, ⟨37, _⟩ => ⟨S8x2x4x4096x1, .f32⟩
  | .hbm, ⟨38, _⟩ => ⟨S8x2x4x4096x4112, .f32⟩
  | .hbm, ⟨39, _⟩ => ⟨S8x2x4x4096x4112, .f32⟩
  | .hbm, ⟨40, _⟩ => ⟨S8x2x4x4096x4112, .f32⟩
  | .hbm, ⟨41, _⟩ => ⟨S_, .f32⟩
  | .hbm, ⟨42, _⟩ => ⟨S8x2x4x4096, .f32⟩
  | .hbm, ⟨43, _⟩ => ⟨S8x2x4x4096x1, .f32⟩
  | .hbm, ⟨44, _⟩ => ⟨S8x2x4x4096x4112, .f32⟩
  | .hbm, ⟨45, _⟩ => ⟨S8x2x4x4096x4112, .f32⟩
  | .hbm, ⟨46, _⟩ => ⟨S8x2x64x4x4096, .f32⟩
  | .hbm, ⟨47, _⟩ => ⟨S8x4096x2x4x64, .f32⟩
  | .hbm, ⟨48, _⟩ => ⟨S8x4096x512, .f32⟩
  | .hbm, ⟨49, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== KernelC.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S32768x1024 : Shape := ⟨2, ![32768, 1024]⟩
abbrev S32768x512 : Shape := ⟨2, ![32768, 512]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 24
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S512x1024, .bf16⟩
  | .hbm, ⟨14, _⟩ => ⟨S512x1024, .bf16⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceCIdeal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S8x4096x512, .f32⟩
  | .hbm, ⟨9, _⟩ => ⟨S8x4096x512, .f32⟩
  | .hbm, ⟨10, _⟩ => ⟨S8x4096x1024, .f32⟩
  | .hbm, ⟨11, _⟩ => ⟨S1024x1024, .f32⟩
  | .hbm, ⟨12, _⟩ => ⟨S8x4096x1024, .f32⟩
  | .hbm, ⟨13, _⟩ => ⟨S8x4096x1024, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1024x2816, .f32⟩
  | .hbm, ⟨32, _⟩ => ⟨S8x4096x2816, .f32⟩
  | .hbm, ⟨33, _⟩ => ⟨S1024x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S_, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S2816x1024, .f32⟩
  | .hbm, ⟨46, _⟩ => ⟨S8x4096x1024, .f32⟩
  | .hbm, ⟨47, _⟩ => ⟨S8x4096x1024, .f32⟩
  | .hbm, ⟨48, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== KernelD.lean ====
abbrev S8x4096x1024 : Shape := ⟨3, ![8, 4096, 1024]⟩
abbrev S1x1024 : Shape := ⟨2, ![1, 1024]⟩
abbrev S1x1024x2304 : Shape := ⟨3, ![1, 1024, 2304]⟩
abbrev S1x64 : Shape := ⟨2, ![1, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S32 : Shape := ⟨1, ![32]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4096x32x2 : Shape := ⟨3, ![4096, 32, 2]⟩
abbrev S4096x64 : Shape := ⟨2, ![4096, 64]⟩
abbrev S4096x32x1 : Shape := ⟨3, ![4096, 32, 1]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16x32 : Shape := ⟨2, ![16, 32]⟩
abbrev S16x32x2 : Shape := ⟨3, ![16, 32, 2]⟩
abbrev S16x64 : Shape := ⟨2, ![16, 64]⟩
abbrev S16x32x1 : Shape := ⟨3, ![16, 32, 1]⟩
abbrev S1x16x1x64 : Shape := ⟨4, ![1, 16, 1, 64]⟩
abbrev S1x16x2x64 : Shape := ⟨4, ![1, 16, 2, 64]⟩
abbrev S16x128 : Shape := ⟨2, ![16, 128]⟩
abbrev S64 : Shape := ⟨1, ![64]⟩
abbrev S2x64 : Shape := ⟨2, ![2, 64]⟩
abbrev S128 : Shape := ⟨1, ![128]⟩
abbrev S1x128 : Shape := ⟨2, ![1, 128]⟩
abbrev S4x128 : Shape := ⟨2, ![4, 128]⟩
abbrev S128x1 : Shape := ⟨2, ![128, 1]⟩
abbrev S128x128 : Shape := ⟨2, ![128, 128]⟩
abbrev S1024x2304 : Shape := ⟨2, ![1024, 2304]⟩
abbrev S1024 : Shape := ⟨1, ![1024]⟩
abbrev S32768x1024 : Shape := ⟨2, ![32768, 1024]⟩
abbrev S32768x128 : Shape := ⟨2, ![32768, 128]⟩
abbrev S32768x512 : Shape := ⟨2, ![32768, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x2304 : Shape := ⟨2, ![512, 2304]⟩

abbrev nBuf : Space → Nat
  | .hbm => 216
  | .vmem => 26
  | .smem => 0
  | _ => 0

abbrev hbmTy0_0 (i : Nat) : BufTy := match i % 128 with
  | 0 => ⟨S8x4096x1024, .f32⟩
  | 1 => ⟨S1x1024, .f32⟩
  | 2 => ⟨S1x1024x2304, .f32⟩
  | 3 => ⟨S1x64, .f32⟩
  | 4 => ⟨S1x64, .f32⟩
  | 5 => ⟨S1x64, .f32⟩
  | 6 => ⟨S1x64, .f32⟩
  | 7 => ⟨S4096, .i32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .i32⟩
  | 23 => ⟨S_, .i32⟩
  | 24 => ⟨S4096, .i32⟩
  | 25 => ⟨S4096, .i32⟩
  | 26 => ⟨S4096, .i32⟩
  | 27 => ⟨S_, .i32⟩
  | 28 => ⟨S4096, .i32⟩
  | 29 => ⟨S4096, .i1⟩
  | 30 => ⟨S4096, .i32⟩
  | 31 => ⟨S4096, .i32⟩
  | 32 => ⟨S_, .i32⟩
  | 33 => ⟨S4096, .i32⟩
  | 34 => ⟨S4096, .i1⟩
  | 35 => ⟨S4096, .i1⟩
  | 36 => ⟨S_, .i32⟩
  | 37 => ⟨S4096, .i32⟩
  | 38 => ⟨S4096, .i32⟩
  | 39 => ⟨S4096, .i32⟩
  | 40 => ⟨S4096, .f32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i1⟩
  | 52 => ⟨S_, .i32⟩
  | 53 => ⟨S4096, .i32⟩
  | 54 => ⟨S4096, .i1⟩
  | 55 => ⟨S_, .i32⟩
  | 56 => ⟨S_, .i1⟩
  | 57 => ⟨S4096, .i1⟩
  | 58 => ⟨S4096, .i1⟩
  | 59 => ⟨S4096, .i1⟩
  | 60 => ⟨S4096, .i32⟩
  | 61 => ⟨S4096, .i32⟩
  | 62 => ⟨S4096, .i32⟩
  | 63 => ⟨S4096, .f32⟩
  | 64 => ⟨S4096x1, .f32⟩
  | 65 => ⟨S1x16, .f32⟩
  | 66 => ⟨S4096x16, .f32⟩
  | 67 => ⟨S4096x16, .f32⟩
  | 68 => ⟨S4096x16, .f32⟩
  | 69 => ⟨S4096x1, .f32⟩
  | 70 => ⟨S1x16, .f32⟩
  | 71 => ⟨S4096x16, .f32⟩
  | 72 => ⟨S4096x16, .f32⟩
  | 73 => ⟨S4096x16, .f32⟩
  | 74 => ⟨S4096x32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S4112, .f32⟩
  | 90 => ⟨S4112x1, .f32⟩
  | 91 => ⟨S1x32, .f32⟩
  | 92 => ⟨S4112x32, .f32⟩
  | 93 => ⟨S4112x32, .f32⟩
  | 94 => ⟨S4112x32, .f32⟩
  | 95 => ⟨S4096x32, .f32⟩
  | 96 => ⟨S4096x32, .f32⟩
  | 97 => ⟨S4096x32x2, .f32⟩
  | 98 => ⟨S4096x64, .f32⟩
  | 99 => ⟨S4096x32, .f32⟩
  | 100 => ⟨S4096x32x1, .f32⟩
  | 101 => ⟨S4096x32x1, .f32⟩
  | 102 => ⟨S4096x32x2, .f32⟩
  | 103 => ⟨S4096x64, .f32⟩
  | 104 => ⟨S1x4096x1x64, .f32⟩
  | 105 => ⟨S1x4096x2x64, .f32⟩
  | 106 => ⟨S4096x128, .f32⟩
  | 107 => ⟨S1x4096x1x64, .f32⟩
  | 108 => ⟨S1x4096x2x64, .f32⟩
  | 109 => ⟨S4096x128, .f32⟩
  | 110 => ⟨S4096x32, .f32⟩
  | 111 => ⟨S4096x32, .f32⟩
  | 112 => ⟨S4096x32, .f32⟩
  | 113 => ⟨S4096x32x2, .f32⟩
  | 114 => ⟨S4096x64, .f32⟩
  | 115 => ⟨S4096x32, .f32⟩
  | 116 => ⟨S4096x32x1, .f32⟩
  | 117 => ⟨S4096x32x1, .f32⟩
  | 118 => ⟨S4096x32x2, .f32⟩
  | 119 => ⟨S4096x64, .f32⟩
  | 120 => ⟨S1x4096x1x64, .f32⟩
  | 121 => ⟨S1x4096x2x64, .f32⟩
  | 122 => ⟨S4096x128, .f32⟩
  | 123 => ⟨S1x4096x1x64, .f32⟩
  | 124 => ⟨S1x4096x2x64, .f32⟩
  | 125 => ⟨S4096x128, .f32⟩
  | 126 => ⟨S_, .f32⟩
  | 127 => ⟨S16x32, .f32⟩
  | _ => ⟨S8x4096x1024, .f32⟩

abbrev hbmTy0_1 (i : Nat) : BufTy := match i % 128 with
  | 0 => ⟨S16x32, .f32⟩
  | 1 => ⟨S16x32, .f32⟩
  | 2 => ⟨S16x32x2, .f32⟩
  | 3 => ⟨S16x64, .f32⟩
  | 4 => ⟨S16x32, .f32⟩
  | 5 => ⟨S16x32x1, .f32⟩
  | 6 => ⟨S16x32x1, .f32⟩
  | 7 => ⟨S16x32x2, .f32⟩
  | 8 => ⟨S16x64, .f32⟩
  | 9 => ⟨S1x16x1x64, .f32⟩
  | 10 => ⟨S1x16x2x64, .f32⟩
  | 11 => ⟨S16x128, .f32⟩
  | 12 => ⟨S1x16x1x64, .f32⟩
  | 13 => ⟨S1x16x2x64, .f32⟩
  | 14 => ⟨S16x128, .f32⟩
  | 15 => ⟨S16x32, .f32⟩
  | 16 => ⟨S16x32, .f32⟩
  | 17 => ⟨S16x32, .f32⟩
  | 18 => ⟨S16x32x2, .f32⟩
  | 19 => ⟨S16x64, .f32⟩
  | 20 => ⟨S16x32, .f32⟩
  | 21 => ⟨S16x32x1, .f32⟩
  | 22 => ⟨S16x32x1, .f32⟩
  | 23 => ⟨S16x32x2, .f32⟩
  | 24 => ⟨S16x64, .f32⟩
  | 25 => ⟨S1x16x1x64, .f32⟩
  | 26 => ⟨S1x16x2x64, .f32⟩
  | 27 => ⟨S16x128, .f32⟩
  | 28 => ⟨S1x16x1x64, .f32⟩
  | 29 => ⟨S1x16x2x64, .f32⟩
  | 30 => ⟨S16x128, .f32⟩
  | 31 => ⟨S64, .f32⟩
  | 32 => ⟨S1x64, .f32⟩
  | 33 => ⟨S2x64, .f32⟩
  | 34 => ⟨S128, .f32⟩
  | 35 => ⟨S64, .f32⟩
  | 36 => ⟨S1x64, .f32⟩
  | 37 => ⟨S2x64, .f32⟩
  | 38 => ⟨S128, .f32⟩
  | 39 => ⟨S64, .f32⟩
  | 40 => ⟨S1x64, .f32⟩
  | 41 => ⟨S2x64, .f32⟩
  | 42 => ⟨S128, .f32⟩
  | 43 => ⟨S64, .f32⟩
  | 44 => ⟨S1x64, .f32⟩
  | 45 => ⟨S2x64, .f32⟩
  | 46 => ⟨S128, .f32⟩
  | 47 => ⟨S1x128, .f32⟩
  | 48 => ⟨S1x128, .f32⟩
  | 49 => ⟨S1x128, .f32⟩
  | 50 => ⟨S1x128, .f32⟩
  | 51 => ⟨S4x128, .f32⟩
  | 52 => ⟨S128, .i32⟩
  | 53 => ⟨S_, .i32⟩
  | 54 => ⟨S_, .i32⟩
  | 55 => ⟨S128, .i32⟩
  | 56 => ⟨S128, .i32⟩
  | 57 => ⟨S128, .i32⟩
  | 58 => ⟨S_, .i32⟩
  | 59 => ⟨S128, .i32⟩
  | 60 => ⟨S128, .i1⟩
  | 61 => ⟨S128, .i32⟩
  | 62 => ⟨S128, .i32⟩
  | 63 => ⟨S_, .i32⟩
  | 64 => ⟨S128, .i32⟩
  | 65 => ⟨S128, .i1⟩
  | 66 => ⟨S128, .i1⟩
  | 67 => ⟨S_, .i32⟩
  | 68 => ⟨S128, .i32⟩
  | 69 => ⟨S128, .i32⟩
  | 70 => ⟨S128, .i32⟩
  | 71 => ⟨S128x1, .i32⟩
  | 72 => ⟨S1x128, .i32⟩
  | 73 => ⟨S128x128, .i32⟩
  | 74 => ⟨S128x128, .i32⟩
  | 75 => ⟨S128x128, .i1⟩
  | 76 => ⟨S128x128, .bf16⟩
  | 77 => ⟨S1024x2304, .f32⟩
  | 78 => ⟨S1024x2304, .bf16⟩
  | 79 => ⟨S1024, .f32⟩
  | 80 => ⟨S1x1024, .f32⟩
  | 81 => ⟨S32768x1024, .f32⟩
  | 82 => ⟨S32768x1024, .bf16⟩
  | 83 => ⟨S32768x128, .bf16⟩
  | 84 => ⟨S32768x128, .bf16⟩
  | 85 => ⟨S32768x512, .bf16⟩
  | 86 => ⟨S32768x512, .bf16⟩
  | 87 => ⟨S32768x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x128, .f32⟩
  | .local _ .vmem, ⟨13, _⟩ => ⟨S128x128, .bf16⟩
  | .local _ .vmem, ⟨14, _⟩ => ⟨S512x1024, .bf16⟩
  | .local _ .vmem, ⟨15, _⟩ => ⟨S512x1024, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_cst_5 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_v32 : Ref sig .tc := ⟨.hbm, 84, rfl⟩
abbrev main_v33 : Ref sig .tc := ⟨.hbm, 85, rfl⟩
abbrev main_cst_7 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_8 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_c_9 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_v7 : Ref sig .tc := ⟨.hbm, 189, rfl⟩
abbrev main_call2_v8 : Ref sig .tc := ⟨.hbm, 190, rfl⟩
abbrev main_call2_c : Ref sig .tc := ⟨.hbm, 191, rfl⟩
abbrev main_call2_v9 : Ref sig .tc := ⟨.hbm, 192, rfl⟩
abbrev main_call2_v10 : Ref sig .tc := ⟨.hbm, 193, rfl⟩
abbrev main_call2_v11 : Ref sig .tc := ⟨.hbm, 194, rfl⟩
abbrev main_call2_c_0 : Ref sig .tc := ⟨.hbm, 195, rfl⟩
abbrev main_call2_v12 : Ref sig .tc := ⟨.hbm, 196, rfl⟩
abbrev main_call2_v13 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139_0 : Ref sig .tc := ⟨.hbm, 210, rfl⟩
abbrev main_v139_1 : Ref sig .tc := ⟨.hbm, 211, rfl⟩
abbrev main_v139_2 : Ref sig .tc := ⟨.hbm, 212, rfl⟩
abbrev main_v139_3 : Ref sig .tc := ⟨.hbm, 213, rfl⟩
abbrev main_v139_4 : Ref sig .tc := ⟨.hbm, 214, rfl⟩
abbrev main_v139_5 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceDIdeal.lean ====
abbrev S8x4096x1024 : Shape := ⟨3, ![8, 4096, 1024]⟩
abbrev S1x1024 : Shape := ⟨2, ![1, 1024]⟩
abbrev S1x1024x2304 : Shape := ⟨3, ![1, 1024, 2304]⟩
abbrev S1x64 : Shape := ⟨2, ![1, 64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4112 : Shape := ⟨1, ![4112]⟩
abbrev S32 : Shape := ⟨1, ![32]⟩
abbrev S4112x1 : Shape := ⟨2, ![4112, 1]⟩
abbrev S1x32 : Shape := ⟨2, ![1, 32]⟩
abbrev S4112x32 : Shape := ⟨2, ![4112, 32]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2304 : Shape := ⟨2, ![1024, 2304]⟩
abbrev S8x4096x2304 : Shape := ⟨3, ![8, 4096, 2304]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x4096x1x32 : Shape := ⟨4, ![1, 4096, 1, 32]⟩
abbrev S8x4096x8x32x2 : Shape := ⟨5, ![8, 4096, 8, 32, 2]⟩
abbrev S8x4096x8x32x1 : Shape := ⟨5, ![8, 4096, 8, 32, 1]⟩
abbrev S8x4096x8x32 : Shape := ⟨4, ![8, 4096, 8, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32x2 : Shape := ⟨5, ![8, 4096, 2, 32, 2]⟩
abbrev S8x4096x2x32x1 : Shape := ⟨5, ![8, 4096, 2, 32, 1]⟩
abbrev S8x4096x2x32 : Shape := ⟨4, ![8, 4096, 2, 32]⟩
abbrev S8x4096x2x4x64 : Shape := ⟨5, ![8, 4096, 2, 4, 64]⟩
abbrev S8x4096x4x64 : Shape := ⟨4, ![8, 4096, 4, 64]⟩
abbrev S8x4096x1x4x64 : Shape := ⟨5, ![8, 4096, 1, 4, 64]⟩
abbrev S8x4096x4x128 : Shape := ⟨4, ![8, 4096, 4, 128]⟩
abbrev S8x4096x1x4x128 : Shape := ⟨5, ![8, 4096, 1, 4, 128]⟩
abbrev S8x4096x2x4x128 : Shape := ⟨5, ![8, 4096, 2, 4, 128]⟩
abbrev S32768x1024 : Shape := ⟨2, ![32768, 1024]⟩
abbrev S32768x128 : Shape := ⟨2, ![32768, 128]⟩
abbrev S32768x512 : Shape := ⟨2, ![32768, 512]⟩

abbrev nBuf : Space → Nat
  | .hbm => 315
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x2304, .f32⟩
  | 3 => ⟨S1x64, .f32⟩
  | 4 => ⟨S1x64, .f32⟩
  | 5 => ⟨S1x64, .f32⟩
  | 6 => ⟨S1x64, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i1⟩
  | 41 => ⟨S_, .i32⟩
  | 42 => ⟨S_, .i1⟩
  | 43 => ⟨S4096, .i1⟩
  | 44 => ⟨S4096, .i1⟩
  | 45 => ⟨S4096, .i1⟩
  | 46 => ⟨S4096, .i32⟩
  | 47 => ⟨S4096, .i32⟩
  | 48 => ⟨S4096, .i32⟩
  | 49 => ⟨S4096, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S4096x1, .f32⟩
  | 65 => ⟨S1x16, .f32⟩
  | 66 => ⟨S4096x16, .f32⟩
  | 67 => ⟨S4096x16, .f32⟩
  | 68 => ⟨S4096x16, .f32⟩
  | 69 => ⟨S4096x1, .f32⟩
  | 70 => ⟨S1x16, .f32⟩
  | 71 => ⟨S4096x16, .f32⟩
  | 72 => ⟨S4096x16, .f32⟩
  | 73 => ⟨S4096x16, .f32⟩
  | 74 => ⟨S4096x32, .f32⟩
  | 75 => ⟨S4112, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S4112x1, .f32⟩
  | 91 => ⟨S1x32, .f32⟩
  | 92 => ⟨S4112x32, .f32⟩
  | 93 => ⟨S4112x32, .f32⟩
  | 94 => ⟨S4112x32, .f32⟩
  | 95 => ⟨S4096x32, .f32⟩
  | 96 => ⟨S1024, .f32⟩
  | 97 => ⟨S8x4096x1024, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S_, .f32⟩
  | 105 => ⟨S8x4096x1, .f32⟩
  | 106 => ⟨S8x4096x1, .f32⟩
  | 107 => ⟨S8x4096x1, .f32⟩
  | 108 => ⟨S8x4096x1024, .f32⟩
  | 109 => ⟨S8x4096x1024, .f32⟩
  | 110 => ⟨S1x1x1024, .f32⟩
  | 111 => ⟨S8x4096x1024, .f32⟩
  | 112 => ⟨S8x4096x1024, .f32⟩
  | 113 => ⟨S1024x2304, .f32⟩
  | 114 => ⟨S8x4096x2304, .f32⟩
  | 115 => ⟨S8x4096x512, .f32⟩
  | 116 => ⟨S8x4096x128, .f32⟩
  | 117 => ⟨S8x4096x128, .f32⟩
  | 118 => ⟨S8x4096x512, .f32⟩
  | 119 => ⟨S8x4096x512, .f32⟩
  | 120 => ⟨S8x4096x512, .f32⟩
  | 121 => ⟨S8x4096x8x64, .f32⟩
  | 122 => ⟨S64, .f32⟩
  | 123 => ⟨S8x4096x8x64, .f32⟩
  | 124 => ⟨S_, .f32⟩
  | 125 => ⟨S8x4096x8, .f32⟩
  | 126 => ⟨S8x4096x8x1, .f32⟩
  | 127 => ⟨S_, .f32⟩
  | _ => ⟨S8x4096x1024, .f32⟩

abbrev hbmTy0_1 (i : Nat) : BufTy := match i % 128 with
  | 0 => ⟨S8x4096x8x1, .f32⟩
  | 1 => ⟨S8x4096x8x1, .f32⟩
  | 2 => ⟨S_, .f32⟩
  | 3 => ⟨S8x4096x8x1, .f32⟩
  | 4 => ⟨S8x4096x8x1, .f32⟩
  | 5 => ⟨S8x4096x8x1, .f32⟩
  | 6 => ⟨S8x4096x8x64, .f32⟩
  | 7 => ⟨S8x4096x8x64, .f32⟩
  | 8 => ⟨S1x1x1x64, .f32⟩
  | 9 => ⟨S8x4096x8x64, .f32⟩
  | 10 => ⟨S8x4096x8x64, .f32⟩
  | 11 => ⟨S4096x32, .f32⟩
  | 12 => ⟨S1x4096x1x32, .f32⟩
  | 13 => ⟨S4096x32, .f32⟩
  | 14 => ⟨S1x4096x1x32, .f32⟩
  | 15 => ⟨S8x4096x8x32x2, .f32⟩
  | 16 => ⟨S8x4096x8x32x1, .f32⟩
  | 17 => ⟨S8x4096x8x32, .f32⟩
  | 18 => ⟨S8x4096x8x32x1, .f32⟩
  | 19 => ⟨S8x4096x8x32, .f32⟩
  | 20 => ⟨S8x4096x8x32, .f32⟩
  | 21 => ⟨S8x4096x8x32, .f32⟩
  | 22 => ⟨S8x4096x8x32, .f32⟩
  | 23 => ⟨S8x4096x8x32, .f32⟩
  | 24 => ⟨S8x4096x8x32, .f32⟩
  | 25 => ⟨S8x4096x8x32, .f32⟩
  | 26 => ⟨S8x4096x8x32, .f32⟩
  | 27 => ⟨S8x4096x8x32, .f32⟩
  | 28 => ⟨S8x4096x8x32, .f32⟩
  | 29 => ⟨S8x4096x8x32, .f32⟩
  | 30 => ⟨S8x4096x8x32x1, .f32⟩
  | 31 => ⟨S8x4096x8x32x1, .f32⟩
  | 32 => ⟨S8x4096x8x32x2, .f32⟩
  | 33 => ⟨S8x4096x8x64, .f32⟩
  | 34 => ⟨S_, .f32⟩
  | 35 => ⟨S8x4096x8x64, .f32⟩
  | 36 => ⟨S8x4096x8x64, .f32⟩
  | 37 => ⟨S8x4096x2x64, .f32⟩
  | 38 => ⟨S64, .f32⟩
  | 39 => ⟨S8x4096x2x64, .f32⟩
  | 40 => ⟨S_, .f32⟩
  | 41 => ⟨S8x4096x2, .f32⟩
  | 42 => ⟨S8x4096x2x1, .f32⟩
  | 43 => ⟨S_, .f32⟩
  | 44 => ⟨S8x4096x2x1, .f32⟩
  | 45 => ⟨S8x4096x2x1, .f32⟩
  | 46 => ⟨S_, .f32⟩
  | 47 => ⟨S8x4096x2x1, .f32⟩
  | 48 => ⟨S8x4096x2x1, .f32⟩
  | 49 => ⟨S8x4096x2x1, .f32⟩
  | 50 => ⟨S8x4096x2x64, .f32⟩
  | 51 => ⟨S8x4096x2x64, .f32⟩
  | 52 => ⟨S1x1x1x64, .f32⟩
  | 53 => ⟨S8x4096x2x64, .f32⟩
  | 54 => ⟨S8x4096x2x64, .f32⟩
  | 55 => ⟨S4096x32, .f32⟩
  | 56 => ⟨S1x4096x1x32, .f32⟩
  | 57 => ⟨S4096x32, .f32⟩
  | 58 => ⟨S1x4096x1x32, .f32⟩
  | 59 => ⟨S8x4096x2x32x2, .f32⟩
  | 60 => ⟨S8x4096x2x32x1, .f32⟩
  | 61 => ⟨S8x4096x2x32, .f32⟩
  | 62 => ⟨S8x4096x2x32x1, .f32⟩
  | 63 => ⟨S8x4096x2x32, .f32⟩
  | 64 => ⟨S8x4096x2x32, .f32⟩
  | 65 => ⟨S8x4096x2x32, .f32⟩
  | 66 => ⟨S8x4096x2x32, .f32⟩
  | 67 => ⟨S8x4096x2x32, .f32⟩
  | 68 => ⟨S8x4096x2x32, .f32⟩
  | 69 => ⟨S8x4096x2x32, .f32⟩
  | 70 => ⟨S8x4096x2x32, .f32⟩
  | 71 => ⟨S8x4096x2x32, .f32⟩
  | 72 => ⟨S8x4096x2x32, .f32⟩
  | 73 => ⟨S8x4096x2x32, .f32⟩
  | 74 => ⟨S8x4096x2x32x1, .f32⟩
  | 75 => ⟨S8x4096x2x32x1, .f32⟩
  | 76 => ⟨S8x4096x2x32x2, .f32⟩
  | 77 => ⟨S8x4096x2x64, .f32⟩
  | 78 => ⟨S8x4096x8x64, .f32⟩
  | 79 => ⟨S64, .f32⟩
  | 80 => ⟨S8x4096x8x64, .f32⟩
  | 81 => ⟨S_, .f32⟩
  | 82 => ⟨S8x4096x8, .f32⟩
  | 83 => ⟨S8x4096x8x1, .f32⟩
  | 84 => ⟨S_, .f32⟩
  | 85 => ⟨S8x4096x8x1, .f32⟩
  | 86 => ⟨S8x4096x8x1, .f32⟩
  | 87 => ⟨S_, .f32⟩
  | 88 => ⟨S8x4096x8x1, .f32⟩
  | 89 => ⟨S8x4096x8x1, .f32⟩
  | 90 => ⟨S8x4096x8x1, .f32⟩
  | 91 => ⟨S8x4096x8x64, .f32⟩
  | 92 => ⟨S8x4096x8x64, .f32⟩
  | 93 => ⟨S1x1x1x64, .f32⟩
  | 94 => ⟨S8x4096x8x64, .f32⟩
  | 95 => ⟨S8x4096x8x64, .f32⟩
  | 96 => ⟨S4096x32, .f32⟩
  | 97 => ⟨S1x4096x1x32, .f32⟩
  | 98 => ⟨S4096x32, .f32⟩
  | 99 => ⟨S1x4096x1x32, .f32⟩
  | 100 => ⟨S8x4096x8x32x2, .f32⟩
  | 101 => ⟨S8x4096x8x32x1, .f32⟩
  | 102 => ⟨S8x4096x8x32, .f32⟩
  | 103 => ⟨S8x4096x8x32x1, .f32⟩
  | 104 => ⟨S8x4096x8x32, .f32⟩
  | 105 => ⟨S8x4096x8x32, .f32⟩
  | 106 => ⟨S8x4096x8x32, .f32⟩
  | 107 => ⟨S8x4096x8x32, .f32⟩
  | 108 => ⟨S8x4096x8x32, .f32⟩
  | 109 => ⟨S8x4096x8x32, .f32⟩
  | 110 => ⟨S8x4096x8x32, .f32⟩
  | 111 => ⟨S8x4096x8x32, .f32⟩
  | 112 => ⟨S8x4096x8x32, .f32⟩
  | 113 => ⟨S8x4096x8x32, .f32⟩
  | 114 => ⟨S8x4096x8x32, .f32⟩
  | 115 => ⟨S8x4096x8x32x1, .f32⟩
  | 116 => ⟨S8x4096x8x32x1, .f32⟩
  | 117 => ⟨S8x4096x8x32x2, .f32⟩
  | 118 => ⟨S8x4096x8x64, .f32⟩
  | 119 => ⟨S_, .f32⟩
  | 120 => ⟨S8x4096x8x64, .f32⟩
  | 121 => ⟨S8x4096x8x64, .f32⟩
  | 122 => ⟨S8x4096x8x64, .f32⟩
  | 123 => ⟨S64, .f32⟩
  | 124 => ⟨S8x4096x8x64, .f32⟩
  | 125 => ⟨S_, .f32⟩
  | 126 => ⟨S8x4096x8, .f32⟩
  | 127 => ⟨S8x4096x8x1, .f32⟩
  | _ => ⟨S8x4096x1024, .f32⟩

abbrev hbmTy0_2 (i : Nat) : BufTy := match i % 128 with
  | 0 => ⟨S_, .f32⟩
  | 1 => ⟨S8x4096x8x1, .f32⟩
  | 2 => ⟨S8x4096x8x1, .f32⟩
  | 3 => ⟨S_, .f32⟩
  | 4 => ⟨S8x4096x8x1, .f32⟩
  | 5 => ⟨S8x4096x8x1, .f32⟩
  | 6 => ⟨S8x4096x8x1, .f32⟩
  | 7 => ⟨S8x4096x8x64, .f32⟩
  | 8 => ⟨S8x4096x8x64, .f32⟩
  | 9 => ⟨S1x1x1x64, .f32⟩
  | 10 => ⟨S8x4096x8x64, .f32⟩
  | 11 => ⟨S8x4096x8x64, .f32⟩
  | 12 => ⟨S4096x32, .f32⟩
  | 13 => ⟨S1x4096x1x32, .f32⟩
  | 14 => ⟨S4096x32, .f32⟩
  | 15 => ⟨S1x4096x1x32, .f32⟩
  | 16 => ⟨S8x4096x8x32x2, .f32⟩
  | 17 => ⟨S8x4096x8x32x1, .f32⟩
  | 18 => ⟨S8x4096x8x32, .f32⟩
  | 19 => ⟨S8x4096x8x32x1, .f32⟩
  | 20 => ⟨S8x4096x8x32, .f32⟩
  | 21 => ⟨S8x4096x8x32, .f32⟩
  | 22 => ⟨S8x4096x8x32, .f32⟩
  | 23 => ⟨S8x4096x8x32, .f32⟩
  | 24 => ⟨S8x4096x8x32, .f32⟩
  | 25 => ⟨S8x4096x8x32, .f32⟩
  | 26 => ⟨S8x4096x8x32, .f32⟩
  | 27 => ⟨S8x4096x8x32, .f32⟩
  | 28 => ⟨S8x4096x8x32, .f32⟩
  | 29 => ⟨S8x4096x8x32, .f32⟩
  | 30 => ⟨S8x4096x8x32, .f32⟩
  | 31 => ⟨S8x4096x8x32x1, .f32⟩
  | 32 => ⟨S8x4096x8x32x1, .f32⟩
  | 33 => ⟨S8x4096x8x32x2, .f32⟩
  | 34 => ⟨S8x4096x8x64, .f32⟩
  | 35 => ⟨S8x4096x2x4x64, .f32⟩
  | 36 => ⟨S_, .f32⟩
  | 37 => ⟨S8x4096x4x64, .f32⟩
  | 38 => ⟨S8x4096x1x4x64, .f32⟩
  | 39 => ⟨S8x4096x4x64, .f32⟩
  | 40 => ⟨S8x4096x4x128, .f32⟩
  | 41 => ⟨S8x4096x1x4x64, .f32⟩
  | 42 => ⟨S8x4096x4x64, .f32⟩
  | 43 => ⟨S8x4096x4x128, .f32⟩
  | 44 => ⟨S8x4096x1x4x128, .f32⟩
  | 45 => ⟨S8x4096x1x4x128, .f32⟩
  | 46 => ⟨S8x4096x2x4x128, .f32⟩
  | 47 => ⟨S32768x1024, .f32⟩
  | 48 => ⟨S32768x1024, .bf16⟩
  | 49 => ⟨S32768x128, .f32⟩
  | 50 => ⟨S32768x128, .bf16⟩
  | 51 => ⟨S32768x128, .f32⟩
  | 52 => ⟨S32768x128, .bf16⟩
  | 53 => ⟨S32768x512, .f32⟩
  | 54 => ⟨S32768x512, .bf16⟩
  | 55 => ⟨S32768x512, .f32⟩
  | 56 => ⟨S32768x512, .bf16⟩
  | 57 => ⟨S32768x512, .f32⟩
  | 58 => ⟨S32768x512, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_cst : Ref sig .tc := ⟨.hbm, 51, rfl⟩
abbrev main_v6 : Ref sig .tc := ⟨.hbm, 52, rfl⟩
abbrev main_v7 : Ref sig .tc := ⟨.hbm, 53, rfl⟩
abbrev main_cst_1 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_2 : Ref sig .tc := ⟨.hbm, 58, rfl⟩
abbrev main_v11 : Ref sig .tc := ⟨.hbm, 59, rfl⟩
abbrev main_v12 : Ref sig .tc := ⟨.hbm, 60, rfl⟩
abbrev main_cst_3 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_4 : Ref sig .tc := ⟨.hbm, 77, rfl⟩
abbrev main_v28 : Ref sig .tc := ⟨.hbm, 78, rfl⟩
abbrev main_v29 : Ref sig .tc := ⟨.hbm, 79, rfl⟩
abbrev main_cst_5 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_6 : Ref sig .tc := ⟨.hbm, 84, rfl⟩
abbrev main_v33 : Ref sig .tc := ⟨.hbm, 85, rfl⟩
abbrev main_v34 : Ref sig .tc := ⟨.hbm, 86, rfl⟩
abbrev main_cst_7 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_8 : Ref sig .tc := ⟨.hbm, 98, rfl⟩
abbrev main_v45 : Ref sig .tc := ⟨.hbm, 99, rfl⟩
abbrev main_v46 : Ref sig .tc := ⟨.hbm, 100, rfl⟩
abbrev main_cst_9 : Ref sig .tc := ⟨.hbm, 101, rfl⟩
abbrev main_v47 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_11 : Ref sig .tc := ⟨.hbm, 124, rfl⟩
abbrev main_v68 : Ref sig .tc := ⟨.hbm, 125, rfl⟩
abbrev main_v69 : Ref sig .tc := ⟨.hbm, 126, rfl⟩
abbrev main_cst_12 : Ref sig .tc := ⟨.hbm, 127, rfl⟩
abbrev main_v70 : Ref sig .tc := ⟨.hbm, 128, rfl⟩
abbrev main_v71 : Ref sig .tc := ⟨.hbm, 129, rfl⟩
abbrev main_cst_13 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_14 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_15 : Ref sig .tc := ⟨.hbm, 168, rfl⟩
abbrev main_v108 : Ref sig .tc := ⟨.hbm, 169, rfl⟩
abbrev main_v109 : Ref sig .tc := ⟨.hbm, 170, rfl⟩
abbrev main_cst_16 : Ref sig .tc := ⟨.hbm, 171, rfl⟩
abbrev main_v110 : Ref sig .tc := ⟨.hbm, 172, rfl⟩
abbrev main_v111 : Ref sig .tc := ⟨.hbm, 173, rfl⟩
abbrev main_cst_17 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_18 : Ref sig .tc := ⟨.hbm, 209, rfl⟩
abbrev main_v146 : Ref sig .tc := ⟨.hbm, 210, rfl⟩
abbrev main_v147 : Ref sig .tc := ⟨.hbm, 211, rfl⟩
abbrev main_cst_19 : Ref sig .tc := ⟨.hbm, 212, rfl⟩
abbrev main_v148 : Ref sig .tc := ⟨.hbm, 213, rfl⟩
abbrev main_v149 : Ref sig .tc := ⟨.hbm, 214, rfl⟩
abbrev main_cst_20 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_21 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_22 : Ref sig .tc := ⟨.hbm, 253, rfl⟩
abbrev main_v186 : Ref sig .tc := ⟨.hbm, 254, rfl⟩
abbrev main_v187 : Ref sig .tc := ⟨.hbm, 255, rfl⟩
abbrev main_cst_23 : Ref sig .tc := ⟨.hbm, 256, rfl⟩
abbrev main_v188 : Ref sig .tc := ⟨.hbm, 257, rfl⟩
abbrev main_v189 : Ref sig .tc := ⟨.hbm, 258, rfl⟩
abbrev main_cst_24 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_cst_25 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩

abbrev nD : Nat := 1
abbrev τ : Topo := Topo.v7x

variable {F : FTy → Type} [FloatOps F]
-- ==== Proof.OnlineSoftmax.lean ====
/- The online softmax in base two over the extended reals: a running maximum, a running sum of weights and a running
   weighted sum, rescaled at every block of keys, end at the softmax of all the keys; the maximum only has to be a real
   number for that. -/
module

public import Idealize.ShloMosaic.PureOps.Ideal
public import Idealize.ShloMosaic.Lib.Pointwise

@[expose] public section

noncomputable section

namespace Cert.Online

open Idealize.ShloMosaic

/-- A constant that is neither negative nor infinite goes into a sum. -/
theorem mul_sum_of_nonneg {ι : Type} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-- The sum of real numbers, as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The weight of a score against a real maximum, moved to another one. -/
theorem rescale (σ : EReal) (h : σ ≠ ⊤) (M M' : ℝ) :
    Ideal.exp2 ((M : EReal) - M') * Ideal.exp2 (σ - M) = Ideal.exp2 (σ - M') := by
  induction σ using EReal.rec with
  | bot => simp [EReal.bot_sub]
  | top => exact absurd rfl h
  | coe s =>
    rw [← EReal.coe_sub, ← EReal.coe_sub, ← EReal.coe_sub, Ideal.exp2_coe, Ideal.exp2_coe, Ideal.exp2_coe,
      ← EReal.coe_mul]
    refine congrArg _ ?_
    show (2 : ℝ) ^ (M - M') * (2 : ℝ) ^ (s - M) = (2 : ℝ) ^ (s - M')
    rw [← Real.rpow_add two_pos]
    congr 1
    ring

/-- A power of two of a real number is not negative, and not infinite. -/
theorem exp2_real (r : ℝ) : 0 ≤ Ideal.exp2 (r : EReal) ∧ Ideal.exp2 (r : EReal) ≠ ⊤ := by
  rw [Ideal.exp2_coe]
  exact ⟨EReal.coe_nonneg.2 (Real.rpow_nonneg two_pos.le r), EReal.coe_ne_top _⟩

/-- The running weighted sum after `n` blocks is the weighted sum over all the scores so far. -/
theorem recur {A B : Type} [Fintype A] [Fintype B] (σ₀ u : A → EReal) (h₀ : ∀ a, σ₀ a ≠ ⊤) (m acc : ℕ → EReal)
    (a0 : acc 0 = ∑ a, Ideal.exp2 (σ₀ a - m 0) * u a) :
    ∀ (n : ℕ) (σ v : Fin n → B → EReal), (∀ c b, σ c b ≠ ⊤) → (∀ c ≤ n, ∃ M : ℝ, m c = M) →
      (∀ c : Fin n, acc (c.val + 1) = Ideal.exp2 (m c.val - m (c.val + 1)) * acc c.val
        + ∑ b, Ideal.exp2 (σ c b - m (c.val + 1)) * v c b) →
      acc n = ∑ a, Ideal.exp2 (σ₀ a - m n) * u a + ∑ c, ∑ b, Ideal.exp2 (σ c b - m n) * v c b
  | 0, σ, v, _, _, _ => by simpa using a0
  | n + 1, σ, v, h, hm, hs => by
    have ih := recur σ₀ u h₀ m acc a0 n (fun c => σ c.castSucc) (fun c => v c.castSucc) (fun c b => h _ b)
      (fun c hc => hm c (by omega)) (fun c => hs c.castSucc)
    have hl := hs (Fin.last n)
    simp only [Fin.val_last] at hl
    obtain ⟨M, hM⟩ := hm n (by omega)
    obtain ⟨M', hM'⟩ := hm (n + 1) le_rfl
    rw [hl, ih, hM, hM']
    have hp := exp2_real (M - M')
    rw [EReal.coe_sub] at hp
    rw [EReal.left_distrib_of_nonneg_of_ne_top hp.1 hp.2, mul_sum_of_nonneg _ hp.1 hp.2, mul_sum_of_nonneg _ hp.1 hp.2,
      Fin.sum_univ_castSucc, ← add_assoc]
    refine congrArg (· + _) (congrArg₂ (· + ·) (Finset.sum_congr rfl fun a _ => ?_) (Finset.sum_congr rfl fun c _ => ?_))
    · rw [← mul_assoc, rescale _ (h₀ a)]
    · rw [mul_sum_of_nonneg _ hp.1 hp.2]
      exact Finset.sum_congr rfl fun b _ => by rw [← mul_assoc, rescale _ (h _ b)]

/-- The softmax weight of key `k` among real scores in base two. -/
def P {K : Type} [Fintype K] (s : K → ℝ) (k : K) : ℝ := (2 : ℝ) ^ s k / ∑ j, (2 : ℝ) ^ s j

/-- The sum of the powers is positive. -/
theorem sum_pos {K : Type} [Fintype K] [Nonempty K] (s : K → ℝ) : 0 < ∑ j, (2 : ℝ) ^ s j :=
  Finset.sum_pos (fun j _ => Real.rpow_pos_of_pos two_pos (s j)) Finset.univ_nonempty

/-- The weighted sum over the sum of the weights, whatever real number the scores are taken against. -/
theorem quotient {K : Type} [Fintype K] [Nonempty K] (s : K → ℝ) (V : K → EReal) (M : ℝ) :
    Ideal.div (∑ k, Ideal.exp2 ((s k : EReal) - M) * V k) (∑ k, Ideal.exp2 ((s k : EReal) - M))
      = ∑ k, (P s k : EReal) * V k := by
  have hw : ∀ k, Ideal.exp2 ((s k : EReal) - M) = (((2 : ℝ) ^ (-M) * (2 : ℝ) ^ s k : ℝ) : EReal) := fun k => by
    rw [← EReal.coe_sub, Ideal.exp2_coe]
    refine congrArg _ ?_
    show (2 : ℝ) ^ (s k - M) = _
    rw [← Real.rpow_add two_pos]
    congr 1
    ring
  have hS := sum_pos s
  have hM := Real.rpow_pos_of_pos two_pos (-M)
  simp only [hw]
  rw [← coe_sum, ← Finset.mul_sum, Ideal.div_coe (mul_pos hM hS).ne', mul_comm,
    mul_sum_of_nonneg _ (EReal.coe_nonneg.2 (one_div_nonneg.2 (mul_pos hM hS).le)) (EReal.coe_ne_top _)]
  refine Finset.sum_congr rfl fun k _ => ?_
  rw [← mul_assoc, ← EReal.coe_mul]
  refine congrArg (fun r : ℝ => (r : EReal) * V k) ?_
  unfold P
  field_simp

/-- The softmax weight as a reference writes it: natural exponentials of the scores times log 2, against a real number. -/
theorem weight {K : Type} [Fintype K] [Nonempty K] (s : K → ℝ) (N : ℝ) (k : K) :
    Ideal.div (Ideal.exp ((s k : EReal) * (Real.log 2 : ℝ) - N))
      (∑ j, Ideal.exp ((s j : EReal) * (Real.log 2 : ℝ) - N)) = (P s k : EReal) := by
  have hw : ∀ k, Ideal.exp ((s k : EReal) * (Real.log 2 : ℝ) - N)
      = ((Real.exp (-N) * (2 : ℝ) ^ s k : ℝ) : EReal) := fun k => by
    rw [← EReal.coe_mul, ← EReal.coe_sub, Ideal.exp_coe]
    refine congrArg _ ?_
    rw [Real.rpow_def_of_pos two_pos, ← Real.exp_add]
    congr 1
    ring
  have hS := sum_pos s
  have hN := Real.exp_pos (-N)
  simp only [hw]
  rw [← coe_sum, ← Finset.mul_sum, Ideal.div_coe (mul_pos hN hS).ne', ← EReal.coe_mul]
  refine congrArg _ ?_
  unfold P
  field_simp

/-- The maximum of scores none of which is infinite above and one of which is real is a real number. -/
theorem fold_real {K : Type} [Fintype K] (σ : K → EReal) (h : ∀ k, σ k ≠ ⊤) (k₀ : K) (h₀ : σ k₀ ≠ ⊥) :
    ∃ M : ℝ, Finset.univ.fold max ⊥ σ = M := by
  have ht : Finset.univ.fold max ⊥ σ < ⊤ :=
    (Finset.fold_max_lt ⊤).2 ⟨bot_lt_top, fun k _ => lt_top_iff_ne_top.2 (h k)⟩
  have hb : ⊥ < Finset.univ.fold max ⊥ σ :=
    (Finset.lt_fold_max ⊥).2 (.inr ⟨k₀, Finset.mem_univ _, bot_lt_iff_ne_bot.2 h₀⟩)
  exact ⟨_, (EReal.coe_toReal ht.ne hb.ne').symm⟩

/-- The maximum of two real numbers is one. -/
theorem max_real {x y : EReal} (hx : ∃ M : ℝ, x = M) (hy : ∃ M : ℝ, y = M) : ∃ M : ℝ, max x y = M := by
  obtain ⟨a, rfl⟩ := hx
  obtain ⟨b, rfl⟩ := hy
  exact ⟨max a b, (EReal.coe_strictMono.monotone.map_max).symm⟩

/-- A sum over the sixteen leading keys and the eight blocks of 512 keys after them. -/
theorem sum_keys (f : Fin 4112 → EReal) :
    ∑ k, f k = ∑ j : Fin 16, f ⟨j.val, by omega⟩ + ∑ c : Fin 8, ∑ t : Fin 512, f ⟨16 + (c.val * 512 + t.val), by omega⟩ := by
  rw [Fin.sum_univ_two_halves 16 4096 rfl f, Fin.sum_univ_tiles 8 512 rfl]

/-- A sum over 128 lanes whose lanes from sixteen on are zero. -/
theorem sum_lanes (f : Fin 128 → EReal) (h : ∀ j : Fin 128, 16 ≤ j.val → f j = 0) :
    ∑ j, f j = ∑ j : Fin 16, f ⟨j.val, by omega⟩ := by
  rw [Fin.sum_univ_two_halves 16 112 rfl f]
  rw [Finset.sum_eq_zero (s := (Finset.univ : Finset (Fin 112))) fun k _ => h _ (by simp), add_zero]

/-- One row and column of the kernel's loop, over real scores `s` and values `V` of the 4112 keys: 128 lanes of which
    sixteen count, then eight blocks of 512. What it leaves divided by its sum of weights is the softmax's sum. -/
theorem online (s : Fin 4112 → ℝ) (V : Fin 4112 → EReal) (σ₀ u : Fin 128 → EReal) (σ v : Fin 8 → Fin 512 → EReal)
    (hσ₀ : ∀ (j : Fin 128) (h : j.val < 16), σ₀ j = (s ⟨j.val, by omega⟩ : EReal)) (hσ₁ : ∀ j : Fin 128, 16 ≤ j.val → σ₀ j = ⊥)
    (hu : ∀ (j : Fin 128) (h : j.val < 16), u j = V ⟨j.val, by omega⟩)
    (hσ : ∀ c t, σ c t = (s ⟨16 + (c.val * 512 + t.val), by omega⟩ : EReal))
    (hv : ∀ c t, v c t = V ⟨16 + (c.val * 512 + t.val), by omega⟩)
    (m l acc : ℕ → EReal) (m0 : m 0 = Finset.univ.fold max ⊥ σ₀)
    (ms : ∀ c : Fin 8, m (c.val + 1) = max (m c.val) (Finset.univ.fold max ⊥ (σ c)))
    (l0 : l 0 = ∑ j, Ideal.exp2 (σ₀ j - m 0))
    (ls : ∀ c : Fin 8, l (c.val + 1) = Ideal.exp2 (m c.val - m (c.val + 1)) * l c.val
      + ∑ t, Ideal.exp2 (σ c t - m (c.val + 1)))
    (a0 : acc 0 = ∑ j, Ideal.exp2 (σ₀ j - m 0) * u j)
    (ac : ∀ c : Fin 8, acc (c.val + 1) = Ideal.exp2 (m c.val - m (c.val + 1)) * acc c.val
      + ∑ t, Ideal.exp2 (σ c t - m (c.val + 1)) * v c t) :
    Ideal.div (acc 8) (l 8) = ∑ k, (P s k : EReal) * V k := by
  have ht₀ : ∀ j, σ₀ j ≠ ⊤ := fun j => by
    by_cases h : j.val < 16
    · rw [hσ₀ j h]; exact EReal.coe_ne_top _
    · rw [hσ₁ j (by omega)]; exact bot_ne_top
  have ht : ∀ c t, σ c t ≠ ⊤ := fun c t => by rw [hσ]; exact EReal.coe_ne_top _
  have hm : ∀ c ≤ 8, ∃ M : ℝ, m c = M := fun c => by
    induction c with
    | zero => exact fun _ => m0 ▸ fold_real σ₀ ht₀ ⟨0, by omega⟩ (by rw [hσ₀ _ (by simp)]; exact EReal.coe_ne_bot _)
    | succ c ih =>
      intro h
      rw [ms ⟨c, by omega⟩]
      exact max_real (ih (by omega)) (fold_real _ (ht _) 0 (by rw [hσ]; exact EReal.coe_ne_bot _))
  have hacc := recur σ₀ u ht₀ m acc a0 8 σ v ht hm ac
  have hl := recur σ₀ (fun _ => 1) ht₀ m l (by simpa using l0) 8 σ (fun _ _ => 1) ht hm (by simpa using ls)
  simp only [mul_one] at hl
  obtain ⟨M, hM⟩ := hm 8 le_rfl
  rw [hM] at hacc hl
  have z : ∀ j : Fin 128, 16 ≤ j.val → Ideal.exp2 (σ₀ j - (M : EReal)) = 0 := fun j h => by
    rw [hσ₁ j h, EReal.bot_sub, Ideal.exp2_bot]
  rw [sum_lanes _ fun j h => by rw [z j h, zero_mul]] at hacc
  rw [sum_lanes _ z] at hl
  rw [hacc, hl, ← quotient s V M, sum_keys, sum_keys (fun k => Ideal.exp2 ((s k : EReal) - M))]
  have e₀ : ∀ j : Fin 16, σ₀ ⟨j.val, by omega⟩ = (s ⟨j.val, by omega⟩ : EReal) := fun j => hσ₀ _ j.isLt
  have e₁ : ∀ j : Fin 16, u ⟨j.val, by omega⟩ = V ⟨j.val, by omega⟩ := fun j => hu _ j.isLt
  simp only [hσ, hv, e₀, e₁]

end Cert.Online

end
-- ==== Proof.AttnPure.lean ====
/- Softmax attention over sixteen leading keys and 4096 keys after them, on plain functions. -/
module

public import proofs.«01_k».proof.Proof.OnlineSoftmax
public import Idealize.ShloMosaic.Lib.ReduceAll
public import Idealize.ShloMosaic.Lib.Pipeline.ValueKit

@[expose] public section

set_option maxRecDepth 16384

noncomputable section

namespace Cert.Attn

open Idealize.ShloMosaic Cert.Online

/-- A real number, among the extended ones. -/
def IsR (x : EReal) : Prop := ∃ r : ℝ, x = r

/-- A real number is that of its real part. -/
theorem IsR.coe {x : EReal} (h : IsR x) : ((x.toReal : ℝ) : EReal) = x := by
  obtain ⟨r, rfl⟩ := h
  rfl

/-- Zero is real. -/
theorem IsR.zero : IsR 0 := ⟨0, rfl⟩

/-- Products are real. -/
theorem IsR.mul {x y : EReal} (hx : IsR x) (hy : IsR y) : IsR (x * y) := by
  obtain ⟨a, rfl⟩ := hx
  obtain ⟨b, rfl⟩ := hy
  exact ⟨a * b, (EReal.coe_mul a b).symm⟩

/-- Sums are real. -/
theorem IsR.add {x y : EReal} (hx : IsR x) (hy : IsR y) : IsR (x + y) := by
  obtain ⟨a, rfl⟩ := hx
  obtain ⟨b, rfl⟩ := hy
  exact ⟨a + b, (EReal.coe_add a b).symm⟩

/-- Differences are real. -/
theorem IsR.sub {x y : EReal} (hx : IsR x) (hy : IsR y) : IsR (x - y) := by
  obtain ⟨a, rfl⟩ := hx
  obtain ⟨b, rfl⟩ := hy
  exact ⟨a - b, (EReal.coe_sub a b).symm⟩

/-- Sums over an index are real. -/
theorem IsR.sum {ι : Type} [Fintype ι] {f : ι → EReal} (h : ∀ i, IsR (f i)) : IsR (∑ i, f i) := by
  choose g hg using h
  refine ⟨∑ i, g i, ?_⟩
  rw [coe_sum]
  exact Finset.sum_congr rfl fun i _ => hg i

/-- The exponential of a real number is real. -/
theorem IsR.exp {x : EReal} (hx : IsR x) : IsR (Ideal.exp x) := by
  obtain ⟨a, rfl⟩ := hx
  exact ⟨_, Ideal.exp_coe a⟩

/-- A number whose absolute value is below infinity is real. -/
theorem IsR.of_abs {x : EReal} (h : max x (-x) < ⊤) : IsR x := by
  induction x using EReal.rec with
  | bot => simp at h
  | top => simp at h
  | coe r => exact ⟨r, rfl⟩

/-- The word of infinity. -/
theorem infWord : Ideal.ofBits FTy.f32 2139095040#32 = ⊤ := by
  simp [Ideal.ofBits, Ideal.ieee]

/-- The word of minus infinity. -/
theorem negInfWord : Ideal.ofBits FTy.f32 4286578688#32 = ⊥ := by
  simp [Ideal.ofBits, Ideal.ieee]

/-- A host's maximum along the last of five axes, from minus infinity. -/
theorem rowMax {a b c d e : ℕ} (x : FVec Ideal ⟨5, ![a, b, c, d, e]⟩ .f32)
    (h : (⟨5, ![a, b, c, d, e]⟩ : Shape).ReducesTo [4] ⟨4, ![a, b, c, d]⟩) (hu : 0 < (⟨0, ![]⟩ : Shape).numel)
    (i : Fin a) (j : Fin b) (k : Fin c) (l : Fin d) :
    Host.reduce FloatOps.maximumf x (constant (⟨0, ![]⟩ : Shape) .f32 0xFF800000#32) h hu (ix4 i j k l)
      = Finset.univ.fold max ⊥ fun n => x (ix5 i j k l n) := by
  pointwise
  rw [negInfWord]

/-- The logarithm of the word of two. -/
theorem logTwo : Ideal.log (Ideal.ofBits FTy.f32 1073741824#32) = (Real.log 2 : ℝ) := by
  have e : Ideal.ofBits FTy.f32 1073741824#32 = ((2 : ℝ) : EReal) := by
    simp [Ideal.ofBits, Ideal.ieee]
    rw [← EReal.coe_mul]
    norm_num
  rw [e, Ideal.log_coe, if_neg (by norm_num)]

/-- The word of a fifth, up to rounding, is real. -/
theorem fifth : IsR (Ideal.ofBits FTy.f32 1045220557#32) := by
  simp [Ideal.ofBits, Ideal.ieee]
  exact ⟨_, rfl⟩

/-- The sixteen leading rows before the others. -/
def cat (a : Fin 16 → EReal) (b : Fin 4096 → EReal) (l : Fin 4112) : EReal :=
  if h : l.val < 16 then a ⟨l.val, h⟩ else b ⟨l.val - 16, by omega⟩

/-- A leading row. -/
theorem cat_lead (a : Fin 16 → EReal) (b : Fin 4096 → EReal) (l : Fin 4112) (h : l.val < 16) : cat a b l = a ⟨l.val, h⟩ :=
  dif_pos h

/-- One of the others. -/
theorem cat_rest (a : Fin 16 → EReal) (b : Fin 4096 → EReal) (i : Fin 4096) : cat a b ⟨16 + i.val, by omega⟩ = b i := by
  rw [cat, dif_neg (by simp)]
  exact congrArg b (Fin.ext (by simp))

/-- All of them are real if both parts are. -/
theorem IsR.cat {a : Fin 16 → EReal} {b : Fin 4096 → EReal} (ha : ∀ i, IsR (a i)) (hb : ∀ i, IsR (b i)) (l : Fin 4112) :
    IsR (cat a b l) := by
  unfold Attn.cat
  split
  · exact ha _
  · exact hb _

/-- The softmax's weights of the scores, to base two. -/
def wt (σ : Fin 4112 → EReal) (l : Fin 4112) : EReal := (P (fun l => (σ l).toReal) l : ℝ)

/-- The values' sum under those weights. -/
def soft (σ V : Fin 4112 → EReal) : EReal := ∑ l, wt σ l * V l

/-- What a reference's softmax computes of scores given to base two. -/
theorem softmax_eq (σ : Fin 4112 → EReal) (h : ∀ l, IsR (σ l)) (l : Fin 4112) :
    Ideal.div (Ideal.exp (σ l * Ideal.log (Ideal.ofBits FTy.f32 1073741824#32)
        - max ⊥ (Finset.univ.fold max ⊥ fun j => σ j * Ideal.log (Ideal.ofBits FTy.f32 1073741824#32))))
      (∑ k, Ideal.exp (σ k * Ideal.log (Ideal.ofBits FTy.f32 1073741824#32)
        - max ⊥ (Finset.univ.fold max ⊥ fun j => σ j * Ideal.log (Ideal.ofBits FTy.f32 1073741824#32))))
      = wt σ l := by
  rw [logTwo, max_eq_right bot_le]
  have hr : ∀ j, IsR (σ j * (Real.log 2 : ℝ)) := fun j => (h j).mul ⟨_, rfl⟩
  obtain ⟨N, hN⟩ := fold_real (fun j => σ j * (Real.log 2 : ℝ))
    (fun j => by obtain ⟨r, e⟩ := hr j; rw [e]; exact EReal.coe_ne_top r) 0
    (by obtain ⟨r, e⟩ := hr 0; rw [e]; exact EReal.coe_ne_bot r)
  rw [hN, wt, ← weight (fun l => (σ l).toReal) N l]
  simp only [(h _).coe]

/-- The difference of two weighted sums, one of them scaled. -/
theorem soft_sub (σ₀ σ₁ V : Fin 4112 → EReal) (hV : ∀ l, IsR (V l)) (lam : EReal) (hl : IsR lam) :
    ∑ l, V l * (wt σ₀ l - lam * wt σ₁ l) = soft σ₀ V - lam * soft σ₁ V := by
  choose v hv using hV
  obtain ⟨a, rfl⟩ := hl
  simp only [soft, wt, hv, ← EReal.coe_mul, ← EReal.coe_sub, ← coe_sum]
  refine congrArg _ ?_
  rw [Finset.mul_sum, ← Finset.sum_sub_distrib]
  exact Finset.sum_congr rfl fun l _ => by ring

/-- The loop's quotient is the weighted sum: the scores and values of the leading keys stand in 128 lanes of which
    sixteen count, the others in eight blocks. -/
theorem loop (q : Fin 128 → EReal) (km : Fin 16 → Fin 128 → EReal) (k : Fin 4096 → Fin 128 → EReal)
    (vm : Fin 16 → EReal) (v : Fin 4096 → EReal)
    (hq : ∀ d, IsR (q d)) (hkm : ∀ j d, IsR (km j d)) (hk : ∀ j d, IsR (k j d))
    (kp : Fin 128 → Fin 128 → EReal) (vp b : Fin 128 → EReal) (kc : Fin 8 → Fin 512 → Fin 128 → EReal)
    (vc : Fin 8 → Fin 512 → EReal)
    (hkp : ∀ (j : Fin 16) d, kp ⟨j.val, by omega⟩ d = km j d) (hvp : ∀ j : Fin 16, vp ⟨j.val, by omega⟩ = vm j)
    (hb : ∀ j : Fin 128, b j = if j.val < 16 then (0 : EReal) else ⊥)
    (hkc : ∀ c t d, kc c t d = k ⟨c.val * 512 + t.val, by omega⟩ d) (hvc : ∀ c t, vc c t = v ⟨c.val * 512 + t.val, by omega⟩)
    (m l acc : ℕ → EReal) (m0 : m 0 = Finset.univ.fold max ⊥ fun j => ∑ d, q d * kp j d + b j)
    (ms : ∀ c : Fin 8, m (c.val + 1) = max (m c.val) (Finset.univ.fold max ⊥ fun t => ∑ d, q d * kc c t d))
    (l0 : l 0 = ∑ j, Ideal.exp2 (∑ d, q d * kp j d + b j - m 0))
    (ls : ∀ c : Fin 8, l (c.val + 1) = Ideal.exp2 (m c.val - m (c.val + 1)) * l c.val
      + ∑ t, Ideal.exp2 (∑ d, q d * kc c t d - m (c.val + 1)))
    (a0 : acc 0 = ∑ j, Ideal.exp2 (∑ d, q d * kp j d + b j - m 0) * vp j)
    (ac : ∀ c : Fin 8, acc (c.val + 1) = Ideal.exp2 (m c.val - m (c.val + 1)) * acc c.val
      + ∑ t, Ideal.exp2 (∑ d, q d * kc c t d - m (c.val + 1)) * vc c t) :
    Ideal.div (acc 8) (l 8) = soft (fun l => ∑ d, q d * cat (fun j => km j d) (fun j => k j d) l) (cat vm v) := by
  have hs : ∀ l, IsR (∑ d, q d * cat (fun j => km j d) (fun j => k j d) l) := fun l =>
    IsR.sum fun d => (hq d).mul (IsR.cat (fun j => hkm j d) (fun j => hk j d) l)
  refine online (fun l => (∑ d, q d * cat (fun j => km j d) (fun j => k j d) l).toReal) (cat vm v)
    (fun j => ∑ d, q d * kp j d + b j) vp (fun c t => ∑ d, q d * kc c t d) vc ?_ ?_ ?_ ?_ ?_ m l acc m0 ms l0 ls a0 ac
  · intro j h
    rw [(hs _).coe, hb, if_pos h, add_zero]
    refine Finset.sum_congr rfl fun d _ => ?_
    rw [cat_lead _ _ _ h]
    exact congrArg _ (hkp ⟨j.val, h⟩ d)
  · intro j h
    rw [hb, if_neg (by omega), EReal.add_bot]
  · intro j h
    rw [cat_lead _ _ _ h]
    exact hvp ⟨j.val, h⟩
  · intro c t
    rw [(hs _).coe]
    refine Finset.sum_congr rfl fun d _ => ?_
    rw [hkc]
    exact congrArg _ (cat_rest (fun j => km j d) (fun j => k j d) ⟨c.val * 512 + t.val, by omega⟩).symm
  · intro c t
    rw [hvc]
    exact (cat_rest vm v ⟨c.val * 512 + t.val, by omega⟩).symm

end Cert.Attn

end
-- ==== Proof.Finite.lean ====
/- What a precondition's comparison of an array's absolute values with infinity says. -/
module

public import proofs.«01_k».proof.Proof.AttnPure

@[expose] public section

set_option maxRecDepth 16384

noncomputable section

namespace Cert.Attn

open Idealize.ShloMosaic

/-- All absolute values are below infinity: the entries are real. -/
theorem real_of {s : Shape} {axes : List (Fin s.rank)} (x : FVec Ideal s .f32) (b : (⟨0, ![]⟩ : Shape).BroadcastsInDim s ![])
    (r : s.ReducesTo axes ⟨0, ![]⟩) (u : 0 < (⟨0, ![]⟩ : Shape).numel) (j : (⟨0, ![]⟩ : Shape).Idx)
    (e : Host.reduce IntOp.andi
      (cmpf .olt (Host.absf x) (broadcastInDim s ![] b (constant (⟨0, ![]⟩ : Shape) .f32 0x7F800000#32)))
      (constantI (⟨0, ![]⟩ : Shape) 1 1#1) r u j = 1#1) (i : s.Idx) : IsR (x i) := by
  haveI : Subsingleton (⟨0, ![]⟩ : Shape).Idx := ⟨fun a b => funext fun i => i.elim0⟩
  have h : Ideal.cmp .olt (max (x i : EReal) (-(x i : EReal))) (Ideal.ofBits .f32 0x7F800000#32) = 1#1 :=
    Host.reduce_andi_all _ _ _ _ j e i
  rw [infWord] at h
  refine IsR.of_abs ?_
  by_contra n
  simp [Ideal.cmp, n] at h

/-- All entries equal zero. -/
theorem zero_of {s : Shape} {axes : List (Fin s.rank)} (x : FVec Ideal s .f32) (b : (⟨0, ![]⟩ : Shape).BroadcastsInDim s ![])
    (r : s.ReducesTo axes ⟨0, ![]⟩) (u : 0 < (⟨0, ![]⟩ : Shape).numel) (j : (⟨0, ![]⟩ : Shape).Idx)
    (e : Host.reduce IntOp.andi
      (cmpf .oeq x (broadcastInDim s ![] b (constant (⟨0, ![]⟩ : Shape) .f32 0x00000000#32)))
      (constantI (⟨0, ![]⟩ : Shape) 1 1#1) r u j = 1#1) (i : s.Idx) : (x i : EReal) = 0 := by
  haveI : Subsingleton (⟨0, ![]⟩ : Shape).Idx := ⟨fun a b => funext fun i => i.elim0⟩
  have h : Ideal.cmp .oeq (x i : EReal) (Ideal.ofBits .f32 0x00000000#32) = 1#1 :=
    Host.reduce_andi_all _ _ _ _ j e i
  have z : Ideal.ofBits FTy.f32 0x00000000#32 = 0 := by simp [Ideal.ofBits, Ideal.ieee]
  rw [z] at h
  by_contra n
  simp [Ideal.cmp, n] at h

end Cert.Attn

end
-- ==== Proof.AttnBPure.lean ====
/- Differential attention at a batch entry, a position and a lane, on plain functions. -/
module

public import proofs.«01_k».proof.Proof.AttnPure

@[expose] public section

set_option maxRecDepth 16384

noncomputable section

namespace Cert.AttnB

open Idealize.ShloMosaic Cert.Attn

/-- The factor of the second softmax. -/
def lam (a b c d : Fin 64 → EReal) : EReal :=
  Ideal.exp (∑ j, a j * b j) - Ideal.exp (∑ j, c j * d j) + Ideal.ofBits .f32 0x3E4CCCCD#32

/-- It is real if the vectors are. -/
theorem lam_real {a b c d : Fin 64 → EReal} (ha : ∀ j, IsR (a j)) (hb : ∀ j, IsR (b j)) (hc : ∀ j, IsR (c j))
    (hd : ∀ j, IsR (d j)) : IsR (lam a b c d) :=
  ((IsR.sum fun j => (ha j).mul (hb j)).exp.sub (IsR.sum fun j => (hc j).mul (hd j)).exp).add fifth

/-- A row's difference of the two softmax sums, normalised over the lanes. -/
def out (l : EReal) (o₀ o₁ g : Fin 128 → EReal) (e : Fin 128) : EReal :=
  (o₀ e - l * o₁ e)
    * Ideal.rsqrt (Ideal.div (∑ j, (o₀ j - l * o₁ j) * (o₀ j - l * o₁ j)) (Ideal.ofBits .f32 0x43000000#32)
        + Ideal.ofBits .f32 0x358637BD#32)
    * g e * Ideal.ofBits .f32 0x3F4CCCCD#32

/-- Lane `d` of half `j`. -/
def half (j : Fin 2) (d : Fin 64) : Fin 128 := ⟨j.val * 64 + d.val, by omega⟩

/-- The scores of a query against the keys, over the lanes of one half. -/
def score (q : Fin 128 → EReal) (km : Fin 16 → Fin 128 → EReal) (k : Fin 4096 → Fin 128 → EReal) (j : Fin 2)
    (l : Fin 4112) : EReal :=
  ∑ d : Fin 64, q (half j d) * cat (fun i => km i (half j d)) (fun i => k i (half j d)) l

/-- They are real if the arrays are. -/
theorem score_real {q : Fin 128 → EReal} {km : Fin 16 → Fin 128 → EReal} {k : Fin 4096 → Fin 128 → EReal}
    (hq : ∀ d, IsR (q d)) (hkm : ∀ i d, IsR (km i d)) (hk : ∀ i d, IsR (k i d)) (j : Fin 2) (l : Fin 4112) :
    IsR (score q km k j l) :=
  IsR.sum fun d => (hq _).mul (IsR.cat (fun i => hkm i _) (fun i => hk i _) l)

/-- The scores over the first half, as a sum over all lanes whose second half is zero. -/
theorem score_lo (q : Fin 128 → EReal) (km : Fin 16 → Fin 128 → EReal) (k : Fin 4096 → Fin 128 → EReal) (l : Fin 4112) :
    ∑ d : Fin 128, (if d.val < 64 then q d else 0) * cat (fun i => km i d) (fun i => k i d) l = score q km k 0 l := by
  rw [Fin.sum_univ_two_halves 64 64 rfl]
  have z : ∀ x : EReal, x + 0 = x := add_zero
  refine (congrArg₂ (· + ·) (Finset.sum_congr rfl fun d _ => ?_) (Finset.sum_eq_zero fun d _ => ?_)).trans (z _)
  · rw [if_pos d.isLt]
    have e : (⟨d.val, by omega⟩ : Fin 128) = half 0 d := Fin.ext (by simp [half])
    rw [e]
  · rw [if_neg (by simp), zero_mul]

/-- The scores over the second half. -/
theorem score_hi (q : Fin 128 → EReal) (km : Fin 16 → Fin 128 → EReal) (k : Fin 4096 → Fin 128 → EReal) (l : Fin 4112) :
    ∑ d : Fin 128, (if d.val < 64 then 0 else q d) * cat (fun i => km i d) (fun i => k i d) l = score q km k 1 l := by
  rw [Fin.sum_univ_two_halves 64 64 rfl]
  have z : ∀ x : EReal, 0 + x = x := zero_add
  refine (congrArg₂ (· + ·) (Finset.sum_eq_zero fun d _ => ?_) (Finset.sum_congr rfl fun d _ => ?_)).trans (z _)
  · rw [if_pos d.isLt, zero_mul]
  · rw [if_neg (by simp)]
    have e : (⟨64 + d.val, by omega⟩ : Fin 128) = half 1 d := Fin.ext (by simp [half])
    rw [e]

/-- The result at a lane of a head, from the query's row, the keys and the values of that head. -/
def attn (l : EReal) (q : Fin 128 → EReal) (km : Fin 16 → Fin 128 → EReal) (k : Fin 4096 → Fin 128 → EReal)
    (vm : Fin 16 → Fin 128 → EReal) (v : Fin 4096 → Fin 128 → EReal) (g : Fin 128 → EReal) (e : Fin 128) : EReal :=
  out l (fun e => soft (score q km k 0) (cat (fun i => vm i e) fun i => v i e))
    (fun e => soft (score q km k 1) (cat (fun i => vm i e) fun i => v i e)) g e

/-- Lane `e` of head `h`. -/
def lane (h : Fin 4) (e : Fin 128) : Fin 512 := ⟨h.val * 128 + e.val, by omega⟩
/-- The head of a column. -/
def headOf (n : Fin 512) : Fin 4 := ⟨n.val / 128, by omega⟩
/-- The lane of a column. -/
def laneOf (n : Fin 512) : Fin 128 := ⟨n.val % 128, by omega⟩

/-- The head of a lane of a head. -/
theorem headOf_lane (h : Fin 4) (e : Fin 128) : headOf (lane h e) = h := Fin.ext (by simp only [headOf, lane]; omega)
/-- Its lane. -/
theorem laneOf_lane (h : Fin 4) (e : Fin 128) : laneOf (lane h e) = e := Fin.ext (by simp only [laneOf, lane]; omega)
/-- A column is the lane of its head. -/
theorem lane_of (n : Fin 512) : lane (headOf n) (laneOf n) = n := Fin.ext (by simp only [headOf, lane, laneOf]; omega)

/-- The result at a batch entry, a position and a column, from the arrays. -/
def G (q k v : Fin 8 → Fin 4096 → Fin 512 → EReal) (km vm : Fin 16 → Fin 512 → EReal) (a b c d : Fin 64 → EReal)
    (g : Fin 128 → EReal) (s : Fin 8) (i : Fin 4096) (n : Fin 512) : EReal :=
  attn (lam a b c d) (fun x => q s i (lane (headOf n) x)) (fun r x => km r (lane (headOf n) x))
    (fun r x => k s r (lane (headOf n) x)) (fun r x => vm r (lane (headOf n) x)) (fun r x => v s r (lane (headOf n) x)) g
    (laneOf n)

end Cert.AttnB

end
-- ==== Proof.AttnAPure.lean ====
/- Grouped-query attention at a batch entry, a position and a column, on plain functions. -/
module

public import proofs.«01_k».proof.Proof.AttnBPure

@[expose] public section

set_option maxRecDepth 16384

noncomputable section

namespace Cert.AttnA

open Idealize.ShloMosaic Cert.Attn
open Cert.AttnB (half score score_lo score_hi)

/-- Lane `d` of the queries of head `g` in group `n`. -/
def qcol (n : Fin 2) (g : Fin 4) (d : Fin 128) : Fin 1024 := ⟨(n.val * 4 + g.val) * 128 + d.val, by omega⟩
/-- Entry `e` of that head's result. -/
def ocol (n : Fin 2) (g : Fin 4) (e : Fin 64) : Fin 512 := ⟨(n.val * 4 + g.val) * 64 + e.val, by omega⟩
/-- The group of a column of the result. -/
def grpOf (x : Fin 512) : Fin 2 := ⟨x.val / 256, by omega⟩
/-- Its head in the group. -/
def headOf (x : Fin 512) : Fin 4 := ⟨x.val / 64 % 4, by omega⟩
/-- Its entry. -/
def entOf (x : Fin 512) : Fin 64 := ⟨x.val % 64, by omega⟩

/-- The group of an entry. -/
theorem grpOf_ocol (n : Fin 2) (g : Fin 4) (e : Fin 64) : grpOf (ocol n g e) = n := Fin.ext (by simp only [grpOf, ocol]; omega)
/-- Its head. -/
theorem headOf_ocol (n : Fin 2) (g : Fin 4) (e : Fin 64) : headOf (ocol n g e) = g := Fin.ext (by simp only [headOf, ocol]; omega)
/-- The entry itself. -/
theorem entOf_ocol (n : Fin 2) (g : Fin 4) (e : Fin 64) : entOf (ocol n g e) = e := Fin.ext (by simp only [entOf, ocol]; omega)
/-- A column is an entry of its head. -/
theorem ocol_of (x : Fin 512) : ocol (grpOf x) (headOf x) (entOf x) = x :=
  Fin.ext (by simp only [grpOf, headOf, entOf, ocol]; omega)

/-- The result at a batch entry, a position and a column, from the arrays. -/
def G (q : Fin 8 → Fin 4096 → Fin 1024 → EReal) (k v : Fin 8 → Fin 4096 → Fin 128 → EReal) (km vm : Fin 16 → Fin 128 → EReal)
    (s : Fin 8) (i : Fin 4096) (x : Fin 512) : EReal :=
  soft (score (fun d => q s i (qcol (grpOf x) (headOf x) d)) km (k s) (grpOf x))
    (cat (fun r => vm r (half (grpOf x) (entOf x))) fun r => v s r (half (grpOf x) (entOf x)))

/-- The queries of the first group stand in the first half of the lanes, those of the second in the second. -/
def LaidOut (q : Fin 8 → Fin 4096 → Fin 1024 → EReal) : Prop :=
  ∀ (s : Fin 8) (i : Fin 4096) (g : Fin 4) (d : Fin 64),
    q s i (qcol 0 g (half 1 d)) = 0 ∧ q s i (qcol 1 g (half 0 d)) = 0

/-- Sums over all lanes are then sums over the group's half. -/
theorem score_all (q : Fin 8 → Fin 4096 → Fin 1024 → EReal) (h : LaidOut q) (s : Fin 8) (i : Fin 4096) (n : Fin 2) (g : Fin 4)
    (km : Fin 16 → Fin 128 → EReal) (k : Fin 4096 → Fin 128 → EReal) (l : Fin 4112) :
    ∑ d, q s i (qcol n g d) * cat (fun r => km r d) (fun r => k r d) l = score (fun d => q s i (qcol n g d)) km k n l := by
  have c : n = 0 ∨ n = 1 := by omega
  rcases c with rfl | rfl
  · rw [← score_lo]
    refine Finset.sum_congr rfl fun d _ => congrArg (· * _) ?_
    split
    · rfl
    · have e : d = half 1 ⟨d.val - 64, by omega⟩ := Fin.ext (by simp [half]; omega)
      rw [e]
      exact (h s i g _).1
  · rw [← score_hi]
    refine Finset.sum_congr rfl fun d _ => congrArg (· * _) ?_
    split
    · rename_i hd
      have e : d = half 0 ⟨d.val, hd⟩ := Fin.ext (by simp [half])
      rw [e]
      exact (h s i g _).2
    · rfl

end Cert.AttnA

end
-- ==== Proof.AttnAPay.lean ====
/- The grouped-query attention kernel's operations entry by entry. -/
module

public import proofs.«01_k».proof.Proof.AttnAPure
public import proofs.«01_k».proof.Proof.Gen.KernelAIdeal.Value
public import Idealize.ShloMosaic.Lib.Pipeline.ValueKit

@[expose] public section

set_option maxRecDepth 16384

noncomputable section

namespace Cert.KernelAIdeal.AttnA

open Cert.KernelAIdeal Cert.KernelAIdeal.Gen Idealize.ShloMosaic Idealize.ShloMosaic.TcCoe Idealize.SL.Sem
open Idealize.ShloMosaic.Pipeline (Dat)
open Cert.Attn (negInfWord)
open Cert.AttnA (ocol qcol)

/-- Row `r` of the queries of head `g` in a stack. -/
def srow (g : Fin 4) (r : Fin 128) : Fin 512 := ⟨g.val * 128 + r.val, by omega⟩

/-- A stack of four heads' queries. -/
theorem pay2_at (a b c d : FVec Ideal S1x128x128 .bf16) (g : Fin 4) (r : Fin 128) (x : Fin 128) :
    k0_pay2 (F := Ideal) a b c d (ix2 (srow g r) x) = (![a, b, c, d] g) (ix3 0 r x) := by
  match g with
  | 0 => pointwise [k0_pay2, srow]
  | 1 => pointwise [k0_pay2, srow]
  | 2 =>
    pointwise [k0_pay2, srow]
    repeat rw [dif_neg (by omega)]
    rw [dif_pos (by omega)]
    congr 2
    exact Fin.ext (by simp only []; omega)
  | 3 =>
    pointwise [k0_pay2, srow]
    repeat rw [dif_neg (by omega)]
    congr 2
    exact Fin.ext (by simp only []; omega)

/-- The second group's heads are stacked likewise. -/
theorem pay3_eq (a b c d : Vec Ideal S1x128x128 .bf16) : k0_pay3 (F := Ideal) a b c d = k0_pay2 (F := Ideal) a b c d := rfl

/-- What the kernel adds to a leading key's score, from the mask's entry. -/
theorem pay7_at (b : Vec Ideal S1x128 .f32) (w : EReal) (j : Fin 128) :
    k0_pay7 (F := Ideal) (k0_pay6 b) w (ix2 0 j) = if b (ix2 0 j) < 0 then w else 0 := by
  pointwise [k0_pay7, k0_pay6]

/-- The leading keys as they are read. -/
theorem pay4_at (k : Vec Ideal S128x128 .bf16) (j d : Fin 128) : k0_pay4 (F := Ideal) k (ix2 j d) = k (ix2 j d) := by
  pointwise [k0_pay4]

/-- The leading values as they are read. -/
theorem pay5_at (v : Vec Ideal S128x128 .bf16) (j d : Fin 128) : k0_pay5 (F := Ideal) v (ix2 j d) = v (ix2 j d) := by
  pointwise [k0_pay5]

/-- The scores of the leading keys. -/
theorem pay8_at (q : FVec Ideal S512x128 .bf16) (k : FVec Ideal S128x128 .bf16) (b : IVec S1x128 1) (w : EReal)
    (x : Fin 512) (j : Fin 128) :
    k0_pay8 (F := Ideal) q k b w (ix2 x j) = ∑ d, q (ix2 x d) * k (ix2 j d) + k0_pay7 (F := Ideal) b w (ix2 0 j) := by
  pointwise [k0_pay8]

/-- Their maximum. -/
theorem pay9_at (q : FVec Ideal S512x128 .bf16) (k : FVec Ideal S128x128 .bf16) (b : IVec S1x128 1) (w : EReal) (x : Fin 512) :
    k0_pay9 (F := Ideal) q k b w (ix2 x 0) = Finset.univ.fold max ⊥ fun j => k0_pay8 (F := Ideal) q k b w (ix2 x j) := by
  pointwise [k0_pay9]
  rw [negInfWord]

/-- Their weights. -/
theorem pay10_at (q : FVec Ideal S512x128 .bf16) (k : FVec Ideal S128x128 .bf16) (b : IVec S1x128 1) (w : EReal)
    (x : Fin 512) (j : Fin 128) :
    k0_pay10 (F := Ideal) q k b w (ix2 x j)
      = Ideal.exp2 (k0_pay8 (F := Ideal) q k b w (ix2 x j) - k0_pay9 (F := Ideal) q k b w (ix2 x 0)) := by
  pointwise [k0_pay10]
  rfl

/-- The sum of their weights. -/
theorem pay11_at (q : FVec Ideal S512x128 .bf16) (k : FVec Ideal S128x128 .bf16) (b : IVec S1x128 1) (w : EReal) (x : Fin 512) :
    k0_pay11 (F := Ideal) q k b w (ix2 x 0) = ∑ j, k0_pay10 (F := Ideal) q k b w (ix2 x j) := by
  pointwise [k0_pay11]

/-- The weighted sum of the leading values. -/
theorem pay12_at (q : FVec Ideal S512x128 .bf16) (k v : FVec Ideal S128x128 .bf16) (b : IVec S1x128 1) (w : EReal)
    (x : Fin 512) (e : Fin 128) :
    k0_pay12 (F := Ideal) q k v b w (ix2 x e) = ∑ j, k0_pay10 (F := Ideal) q k b w (ix2 x j) * v (ix2 j e) := by
  pointwise [k0_pay12]

/-- The scores of a block of keys. -/
theorem pay20_at (q : FVec Ideal S512x128 .bf16) (k : FVec Ideal S1x512x128 .bf16) (x t : Fin 512) :
    k0_pay20 (F := Ideal) q k (ix2 x t) = ∑ d, q (ix2 x d) * k (ix3 0 t d) := by
  pointwise [k0_pay20, k0_pay18]

/-- The running maximum after them. -/
theorem pay21_at (q : FVec Ideal S512x128 .bf16) (M : FVec Ideal S512x1 .f32) (k : FVec Ideal S1x512x128 .bf16) (x : Fin 512) :
    k0_pay21 (F := Ideal) q M k (ix2 x 0)
      = max (M (ix2 x 0)) (Finset.univ.fold max ⊥ fun t => k0_pay20 (F := Ideal) q k (ix2 x t)) := by
  pointwise [k0_pay21]
  rw [negInfWord]

/-- The factor between the maxima. -/
theorem pay22_at (q : FVec Ideal S512x128 .bf16) (M : FVec Ideal S512x1 .f32) (k : FVec Ideal S1x512x128 .bf16) (x : Fin 512) :
    k0_pay22 (F := Ideal) q M k (ix2 x 0) = Ideal.exp2 (M (ix2 x 0) - k0_pay21 (F := Ideal) q M k (ix2 x 0)) := by
  pointwise [k0_pay22]
  rfl

/-- The weights of a block of keys. -/
theorem pay23_at (q : FVec Ideal S512x128 .bf16) (M : FVec Ideal S512x1 .f32) (k : FVec Ideal S1x512x128 .bf16) (x t : Fin 512) :
    k0_pay23 (F := Ideal) q M k (ix2 x t)
      = Ideal.exp2 (k0_pay20 (F := Ideal) q k (ix2 x t) - k0_pay21 (F := Ideal) q M k (ix2 x 0)) := by
  pointwise [k0_pay23]
  rfl

/-- The running sum of weights. -/
theorem pay24_at (q : FVec Ideal S512x128 .bf16) (M L : FVec Ideal S512x1 .f32) (k : FVec Ideal S1x512x128 .bf16) (x : Fin 512) :
    k0_pay24 (F := Ideal) q M L k (ix2 x 0)
      = k0_pay22 (F := Ideal) q M k (ix2 x 0) * L (ix2 x 0) + ∑ t, k0_pay23 (F := Ideal) q M k (ix2 x t) := by
  pointwise [k0_pay24]

/-- The running weighted sum of the values. -/
theorem pay25_at (q : FVec Ideal S512x128 .bf16) (M : FVec Ideal S512x1 .f32) (A : FVec Ideal S512x128 .f32)
    (k v : FVec Ideal S1x512x128 .bf16) (x : Fin 512) (e : Fin 128) :
    k0_pay25 (F := Ideal) q M A k v (ix2 x e)
      = k0_pay22 (F := Ideal) q M k (ix2 x 0) * A (ix2 x e)
        + ∑ t, k0_pay23 (F := Ideal) q M k (ix2 x t) * v (ix3 0 t e) := by
  pointwise [k0_pay25, k0_pay19]

/-- What a point stores of the first group. -/
theorem pay1_lo (L : FVec Ideal S512x1 .f32) (A : FVec Ideal S512x128 .f32) (L' : FVec Ideal S512x1 .f32)
    (A' : FVec Ideal S512x128 .f32) (r : Fin 128) (g : Fin 4) (e : Fin 64) :
    k0_pay1 (F := Ideal) (k0_pay32 L A L' A') (ix3 0 r (ocol 0 g e))
      = Ideal.div (A (ix2 (srow g r) ⟨e.val, by omega⟩)) (L (ix2 (srow g r) 0)) := by
  match g with
  | 0 => pointwise [k0_pay1, k0_pay32, ocol, srow]
  | 1 => pointwise [k0_pay1, k0_pay32, ocol, srow]
  | 2 =>
    pointwise [k0_pay1, k0_pay32, ocol, srow]
    repeat rw [dif_neg (by omega)]
    rw [dif_pos (by omega)]
    congr 3
    exact Fin.ext (by simp only []; omega)
  | 3 =>
    pointwise [k0_pay1, k0_pay32, ocol, srow]
    repeat rw [dif_neg (by omega)]
    rw [dif_pos (by omega)]
    congr 3
    exact Fin.ext (by simp only []; omega)

set_option maxHeartbeats 1000000 in
/-- What it stores of the second group. -/
theorem pay1_hi (L : FVec Ideal S512x1 .f32) (A : FVec Ideal S512x128 .f32) (L' : FVec Ideal S512x1 .f32)
    (A' : FVec Ideal S512x128 .f32) (r : Fin 128) (g : Fin 4) (e : Fin 64) :
    k0_pay1 (F := Ideal) (k0_pay32 L A L' A') (ix3 0 r (ocol 1 g e))
      = Ideal.div (A' (ix2 (srow g r) ⟨64 + e.val, by omega⟩)) (L' (ix2 (srow g r) 0)) := by
  match g with
  | 0 =>
    pointwise [k0_pay1, k0_pay32, ocol, srow]
    repeat rw [dif_neg (by omega)]
    rw [dif_pos (by omega)]
    congr 3
    exact Fin.ext (by simp only []; omega)
  | 1 =>
    pointwise [k0_pay1, k0_pay32, ocol, srow]
    repeat rw [dif_neg (by omega)]
    rw [dif_pos (by omega)]
    congr 3
    exact Fin.ext (by simp only []; omega)
  | 2 =>
    pointwise [k0_pay1, k0_pay32, ocol, srow]
    repeat rw [dif_neg (by omega)]
    rw [dif_pos (by omega)]
    congr 3
    exact Fin.ext (by simp only []; omega)
  | 3 =>
    pointwise [k0_pay1, k0_pay32, ocol, srow]
    repeat rw [dif_neg (by omega)]
    congr 3
    exact Fin.ext (by simp only []; omega)

/-- The queries of the first group, stacked. -/
def stack0 (q : FVec Ideal S1x128x1024 .bf16) : FVec Ideal S512x128 .bf16 :=
  k0_pay2 (F := Ideal)
    (View.ld (Val := Elt Ideal) (e' := .bf16) q (Rect.unit (s := S1x128x1024) ![0, 0, 0] ![1, 128, 128] inb_S1x128x1024_S1x128x128_0_0_0))
    (View.ld (Val := Elt Ideal) (e' := .bf16) q (Rect.unit (s := S1x128x1024) ![0, 0, 128] ![1, 128, 128] inb_S1x128x1024_S1x128x128_0_0_128))
    (View.ld (Val := Elt Ideal) (e' := .bf16) q (Rect.unit (s := S1x128x1024) ![0, 0, 256] ![1, 128, 128] inb_S1x128x1024_S1x128x128_0_0_256))
    (View.ld (Val := Elt Ideal) (e' := .bf16) q (Rect.unit (s := S1x128x1024) ![0, 0, 384] ![1, 128, 128] inb_S1x128x1024_S1x128x128_0_0_384))

/-- The queries of the second group, stacked. -/
def stack1 (q : FVec Ideal S1x128x1024 .bf16) : FVec Ideal S512x128 .bf16 :=
  k0_pay3 (F := Ideal)
    (View.ld (Val := Elt Ideal) (e' := .bf16) q (Rect.unit (s := S1x128x1024) ![0, 0, 512] ![1, 128, 128] inb_S1x128x1024_S1x128x128_0_0_512))
    (View.ld (Val := Elt Ideal) (e' := .bf16) q (Rect.unit (s := S1x128x1024) ![0, 0, 640] ![1, 128, 128] inb_S1x128x1024_S1x128x128_0_0_640))
    (View.ld (Val := Elt Ideal) (e' := .bf16) q (Rect.unit (s := S1x128x1024) ![0, 0, 768] ![1, 128, 128] inb_S1x128x1024_S1x128x128_0_0_768))
    (View.ld (Val := Elt Ideal) (e' := .bf16) q (Rect.unit (s := S1x128x1024) ![0, 0, 896] ![1, 128, 128] inb_S1x128x1024_S1x128x128_0_0_896))

/-- The first stack, from its parts. -/
theorem stack0_def (q : FVec Ideal S1x128x1024 .bf16) :
    k0_pay2 (F := Ideal)
    (View.ld (Val := Elt Ideal) (e' := .bf16) q (Rect.unit (s := S1x128x1024) ![0, 0, 0] ![1, 128, 128] inb_S1x128x1024_S1x128x128_0_0_0))
    (View.ld (Val := Elt Ideal) (e' := .bf16) q (Rect.unit (s := S1x128x1024) ![0, 0, 128] ![1, 128, 128] inb_S1x128x1024_S1x128x128_0_0_128))
    (View.ld (Val := Elt Ideal) (e' := .bf16) q (Rect.unit (s := S1x128x1024) ![0, 0, 256] ![1, 128, 128] inb_S1x128x1024_S1x128x128_0_0_256))
    (View.ld (Val := Elt Ideal) (e' := .bf16) q (Rect.unit (s := S1x128x1024) ![0, 0, 384] ![1, 128, 128] inb_S1x128x1024_S1x128x128_0_0_384))
      = stack0 q := rfl

/-- The second stack, from its parts. -/
theorem stack1_def (q : FVec Ideal S1x128x1024 .bf16) :
    k0_pay3 (F := Ideal)
    (View.ld (Val := Elt Ideal) (e' := .bf16) q (Rect.unit (s := S1x128x1024) ![0, 0, 512] ![1, 128, 128] inb_S1x128x1024_S1x128x128_0_0_512))
    (View.ld (Val := Elt Ideal) (e' := .bf16) q (Rect.unit (s := S1x128x1024) ![0, 0, 640] ![1, 128, 128] inb_S1x128x1024_S1x128x128_0_0_640))
    (View.ld (Val := Elt Ideal) (e' := .bf16) q (Rect.unit (s := S1x128x1024) ![0, 0, 768] ![1, 128, 128] inb_S1x128x1024_S1x128x128_0_0_768))
    (View.ld (Val := Elt Ideal) (e' := .bf16) q (Rect.unit (s := S1x128x1024) ![0, 0, 896] ![1, 128, 128] inb_S1x128x1024_S1x128x128_0_0_896))
      = stack1 q := rfl

/-- The constant of the mask. -/
theorem maskConst : (Named.named (F := Ideal) (φ := .f32) κ "mask" 0xF149F2CA#32 : EReal) = ⊥ := rfl

/-- A row of the first group's queries. -/
theorem stack0_at (q : FVec Ideal S1x128x1024 .bf16) (g : Fin 4) (r x : Fin 128) :
    stack0 q (ix2 (srow g r) x) = q (ix3 0 r (qcol 0 g x)) := by
  unfold stack0
  rw [pay2_at]
  match g with
  | 0 => pointwise [qcol]
  | 1 => pointwise [qcol]
  | 2 => pointwise [qcol]
  | 3 => pointwise [qcol]

/-- A row of the second group's queries. -/
theorem stack1_at (q : FVec Ideal S1x128x1024 .bf16) (g : Fin 4) (r x : Fin 128) :
    stack1 q (ix2 (srow g r) x) = q (ix3 0 r (qcol 1 g x)) := by
  unfold stack1
  rw [pay3_eq, pay2_at]
  match g with
  | 0 => pointwise [qcol]
  | 1 => pointwise [qcol]
  | 2 => pointwise [qcol]
  | 3 => pointwise [qcol]

end Cert.KernelAIdeal.AttnA

end
-- ==== Proof.AttnBPay.lean ====
/- The differential attention kernel's operations entry by entry. -/
module

public import proofs.«01_k».proof.Proof.AttnBPure
public import proofs.«01_k».proof.Proof.Gen.KernelBIdeal.Value
public import Idealize.ShloMosaic.Lib.Pipeline.ValueKit

@[expose] public section

set_option maxRecDepth 16384

noncomputable section

namespace Cert.KernelBIdeal.AttnB

open Cert.KernelBIdeal Cert.KernelBIdeal.Gen Idealize.ShloMosaic Idealize.ShloMosaic.TcCoe Idealize.SL.Sem
open Idealize.ShloMosaic.Pipeline (Dat)

/-- The choice by lane that the kernel makes. -/
theorem sel (d : Fin 128) (a b : EReal) :
    Scalar.select (IntOp.cmpi CmpIPredicate.slt (BitVec.ofNat 32 d.val) 64#32) a b = if d.val < 64 then a else b := by
  have e : ∀ d : Fin 128, IntOp.cmpi CmpIPredicate.slt (BitVec.ofNat 32 d.val) 64#32 = if d.val < 64 then 1#1 else 0#1 := by
    decide +kernel
  rw [e d]
  split <;> rfl

/-- The bits the maxima start from. -/
theorem negInf : Ideal.ofBits FTy.f32 4286578688#32 = ⊥ := by
  simp [Ideal.ofBits, Ideal.ieee]

/-- The upper rows of the stacked queries keep the first half of the lanes. -/
theorem pay2_lo (q : FVec Ideal S1x256x128 .bf16) (r : Fin 256) (d : Fin 128) :
    k0_pay2 (F := Ideal) q (ix2 ⟨r.val, by omega⟩ d) = if d.val < 64 then q (ix3 0 r d) else 0 := by
  pointwise [k0_pay2]
  exact sel d _ _

/-- The lower rows keep the second half. -/
theorem pay2_hi (q : FVec Ideal S1x256x128 .bf16) (r : Fin 256) (d : Fin 128) :
    k0_pay2 (F := Ideal) q (ix2 ⟨256 + r.val, by omega⟩ d) = if d.val < 64 then 0 else q (ix3 0 r d) := by
  pointwise [k0_pay2]
  exact sel d _ _

/-- What the kernel adds to a leading key's score, from the mask's entry. -/
def mask (x : EReal) : EReal := if x < 0 then ⊥ else 0

/-- The scores of the leading keys. -/
theorem pay3_at (q : FVec Ideal S1x256x128 .bf16) (k : FVec Ideal S128x128 .bf16) (b : FVec Ideal S1x128 .f32)
    (x : Fin 512) (j : Fin 128) :
    k0_pay3 (F := Ideal) q k b (ix2 x j)
      = ∑ d, k0_pay2 (F := Ideal) q (ix2 x d) * k (ix2 j d) + mask (b (ix2 0 j)) := by
  pointwise [k0_pay3, mask]
  rfl

/-- Their maximum. -/
theorem pay4_at (q : FVec Ideal S1x256x128 .bf16) (k : FVec Ideal S128x128 .bf16) (b : FVec Ideal S1x128 .f32)
    (x : Fin 512) :
    k0_pay4 (F := Ideal) q k b (ix2 x 0) = Finset.univ.fold max ⊥ fun j => k0_pay3 (F := Ideal) q k b (ix2 x j) := by
  pointwise [k0_pay4]
  rw [negInf]

/-- Their weights. -/
theorem pay5_at (q : FVec Ideal S1x256x128 .bf16) (k : FVec Ideal S128x128 .bf16) (b : FVec Ideal S1x128 .f32)
    (x : Fin 512) (j : Fin 128) :
    k0_pay5 (F := Ideal) q k b (ix2 x j)
      = Ideal.exp2 (k0_pay3 (F := Ideal) q k b (ix2 x j) - k0_pay4 (F := Ideal) q k b (ix2 x 0)) := by
  pointwise [k0_pay5]
  rfl

/-- The sum of their weights. -/
theorem pay6_at (q : FVec Ideal S1x256x128 .bf16) (k : FVec Ideal S128x128 .bf16) (b : FVec Ideal S1x128 .f32)
    (x : Fin 512) :
    k0_pay6 (F := Ideal) q k b (ix2 x 0) = ∑ j, k0_pay5 (F := Ideal) q k b (ix2 x j) := by
  pointwise [k0_pay6]

/-- The weighted sum of the leading values. -/
theorem pay7_at (q : FVec Ideal S1x256x128 .bf16) (k v : FVec Ideal S128x128 .bf16) (b : FVec Ideal S1x128 .f32)
    (x : Fin 512) (e : Fin 128) :
    k0_pay7 (F := Ideal) q k v b (ix2 x e) = ∑ j, k0_pay5 (F := Ideal) q k b (ix2 x j) * v (ix2 j e) := by
  pointwise [k0_pay7]

/-- The scores of a block of keys. -/
theorem pay8_at (q : FVec Ideal S1x256x128 .bf16) (k : FVec Ideal S1x512x128 .bf16) (x t : Fin 512) :
    k0_pay8 (F := Ideal) q k (ix2 x t) = ∑ d, k0_pay2 (F := Ideal) q (ix2 x d) * k (ix3 0 t d) := by
  pointwise [k0_pay8]

/-- The running maximum after them. -/
theorem pay9_at (q : FVec Ideal S1x256x128 .bf16) (M : FVec Ideal S512x1 .f32) (k : FVec Ideal S1x512x128 .bf16)
    (x : Fin 512) :
    k0_pay9 (F := Ideal) q M k (ix2 x 0)
      = max (M (ix2 x 0)) (Finset.univ.fold max ⊥ fun t => k0_pay8 (F := Ideal) q k (ix2 x t)) := by
  pointwise [k0_pay9]
  rw [negInf]

/-- The factor between the maxima. -/
theorem pay10_at (q : FVec Ideal S1x256x128 .bf16) (M : FVec Ideal S512x1 .f32) (k : FVec Ideal S1x512x128 .bf16)
    (x : Fin 512) :
    k0_pay10 (F := Ideal) q M k (ix2 x 0) = Ideal.exp2 (M (ix2 x 0) - k0_pay9 (F := Ideal) q M k (ix2 x 0)) := by
  pointwise [k0_pay10]
  rfl

/-- The weights of a block of keys. -/
theorem pay11_at (q : FVec Ideal S1x256x128 .bf16) (M : FVec Ideal S512x1 .f32) (k : FVec Ideal S1x512x128 .bf16)
    (x t : Fin 512) :
    k0_pay11 (F := Ideal) q M k (ix2 x t)
      = Ideal.exp2 (k0_pay8 (F := Ideal) q k (ix2 x t) - k0_pay9 (F := Ideal) q M k (ix2 x 0)) := by
  pointwise [k0_pay11]
  rfl

/-- The running sum of weights. -/
theorem pay12_at (q : FVec Ideal S1x256x128 .bf16) (M L : FVec Ideal S512x1 .f32) (k : FVec Ideal S1x512x128 .bf16)
    (x : Fin 512) :
    k0_pay12 (F := Ideal) q M L k (ix2 x 0)
      = k0_pay10 (F := Ideal) q M k (ix2 x 0) * L (ix2 x 0) + ∑ t, k0_pay11 (F := Ideal) q M k (ix2 x t) := by
  pointwise [k0_pay12]

/-- The running weighted sum of the values. -/
theorem pay13_at (q : FVec Ideal S1x256x128 .bf16) (M : FVec Ideal S512x1 .f32) (A : FVec Ideal S512x128 .f32)
    (k v : FVec Ideal S1x512x128 .bf16) (x : Fin 512) (e : Fin 128) :
    k0_pay13 (F := Ideal) q M A k v (ix2 x e)
      = k0_pay10 (F := Ideal) q M k (ix2 x 0) * A (ix2 x e)
        + ∑ t, k0_pay11 (F := Ideal) q M k (ix2 x t) * v (ix3 0 t e) := by
  pointwise [k0_pay13]

/-- The factor of the second softmax, from rows of 128 lanes. -/
def lam (a b c d : Fin 128 → EReal) : EReal :=
  Ideal.exp (∑ j, a j * b j) - Ideal.exp (∑ j, c j * d j) + Ideal.ofBits .f32 0x3E4CCCCD#32

/-- A row of 64 entries, filled up with zeros. -/
def fill (a : Fin 64 → EReal) (j : Fin 128) : EReal := if h : j.val < 64 then a ⟨j.val, h⟩ else 0

/-- The product of two such rows. -/
theorem fill_sum (a b : Fin 64 → EReal) : ∑ j, fill a j * fill b j = ∑ j, a j * b j := by
  rw [Fin.sum_univ_two_halves 64 64 rfl]
  have z : ∀ x : EReal, x + 0 = x := add_zero
  refine (congrArg₂ (· + ·) (Finset.sum_congr rfl fun d _ => ?_) (Finset.sum_eq_zero fun d _ => ?_)).trans (z _)
  · rw [fill, fill, dif_pos d.isLt, dif_pos d.isLt]
  · rw [fill, dif_neg (by simp), zero_mul]

/-- The factor, from rows filled up. -/
theorem lam_fill (a b c d : Fin 64 → EReal) : lam (fill a) (fill b) (fill c) (fill d) = Cert.AttnB.lam a b c d := by
  rw [lam, fill_sum, fill_sum, Cert.AttnB.lam]

/-- The factor, of rows that agree. -/
theorem lam_congr {a b c d a' b' c' d' : Fin 128 → EReal} (ha : ∀ j, a j = a' j) (hb : ∀ j, b j = b' j)
    (hc : ∀ j, c j = c' j) (hd : ∀ j, d j = d' j) : lam a b c d = lam a' b' c' d' := by
  rw [funext ha, funext hb, funext hc, funext hd]

/-- What a point stores, at a row and a column of its block. -/
theorem pay1_at (A : FVec Ideal S512x128 .f32) (L : FVec Ideal S512x1 .f32) (p : FVec Ideal S4x128 .f32)
    (g : FVec Ideal S1x128 .f32) (r : Fin 256) (e : Fin 128) :
    k0_pay1 (F := Ideal) A (k0_pay14 L) p g (ix3 0 r e)
      = Cert.AttnB.out (lam (fun j => p (ix2 0 j)) (fun j => p (ix2 1 j)) (fun j => p (ix2 2 j)) (fun j => p (ix2 3 j)))
          (fun e => Ideal.div (A (ix2 ⟨r.val, by omega⟩ e)) (L (ix2 ⟨r.val, by omega⟩ 0)))
          (fun e => Ideal.div (A (ix2 ⟨256 + r.val, by omega⟩ e)) (L (ix2 ⟨256 + r.val, by omega⟩ 0)))
          (fun e => g (ix2 0 e)) e := by
  pointwise [k0_pay1, k0_pay14, Cert.AttnB.out, lam]

end Cert.KernelBIdeal.AttnB

end
-- ==== Proof.AttnBHost.lean ====
/- What the host's operations hand the differential attention kernel. -/
module

public import proofs.«01_k».proof.Proof.AttnBPay
public import proofs.«01_k».proof.Proof.Gen.KernelBIdeal.Value
public import Idealize.ShloMosaic.Lib.Pipeline.ValueKit
public import Idealize.ShloMosaic.Lib.StableHlo.ReadAt

@[expose] public section

set_option maxRecDepth 16384

noncomputable section

namespace Cert.KernelBIdeal.AttnB

open Cert.KernelBIdeal Cert.KernelBIdeal.Gen Idealize.ShloMosaic Idealize.ShloMosaic.TcCoe Idealize.SL.Sem
open Idealize.ShloMosaic.Pipeline (Dat)

variable (m : (ℓ : Loc nD τ sig) → Buf (Elt Ideal) ℓ)

/-- The leading keys, in the rows that count. -/
theorem keys_at (c : Dev nD) (j : Fin 16) (n : Fin 512) :
    (V m c main_v0 : FVec Ideal S128x512 .bf16) (ix2 ⟨j.val, by omega⟩ n)
      = (m ((c : Thread nD τ).loc main_arg3) : FVec Ideal S16x512 .bf16) (ix2 j n) := by
  unfold V
  simp only [List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise

/-- The leading values, in the rows that count. -/
theorem values_at (c : Dev nD) (j : Fin 16) (n : Fin 512) :
    (V m c main_v1 : FVec Ideal S128x512 .bf16) (ix2 ⟨j.val, by omega⟩ n)
      = (m ((c : Thread nD τ).loc main_arg4) : FVec Ideal S16x512 .bf16) (ix2 j n) := by
  unfold V
  simp only [List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise

/-- The word of the mask is below zero. -/
theorem maskWord : Ideal.ofBits FTy.f32 4048155338#32 < 0 := by
  simp [Ideal.ofBits, Ideal.ieee]
  norm_cast

/-- The integer zero, as a number. -/
theorem zeroWord : (FloatOps.sitofp (F := Ideal) FTy.f32 (0#32) : EReal) = 0 := by
  show ((((0#32 : BitVec 32).toInt : ℤ) : ℝ) : EReal) = 0
  simp

/-- The choice by lane that the mask makes. -/
theorem selLead (d : Fin 128) (a b : EReal) :
    Scalar.select (IntOp.cmpi CmpIPredicate.slt (BitVec.ofNat 32 d.val) 16#32) a b = if d.val < 16 then a else b := by
  have e : ∀ d : Fin 128, IntOp.cmpi CmpIPredicate.slt (BitVec.ofNat 32 d.val) 16#32 = if d.val < 16 then 1#1 else 0#1 := by
    decide +kernel
  rw [e d]
  split <;> rfl

/-- The mask. -/
theorem mask_at (c : Dev nD) (j : Fin 128) :
    mask ((V m c main_v7 : FVec Ideal S1x128 .f32) (ix2 0 j)) = if j.val < 16 then (0 : EReal) else ⊥ := by
  unfold V
  simp only [List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise
  rw [selLead]
  split
  · rw [mask, if_neg (lt_irrefl _)]
  · rw [mask, if_pos maskWord]

/-- Row 0 of four. -/
theorem four_0 (a b c d : FVec Ideal S1x128 .f32) (j : Fin 128) (h) :
    concatenate S4x128 0 [⟨S1x128, a⟩, ⟨S1x128, b⟩, ⟨S1x128, c⟩, ⟨S1x128, d⟩] h (ix2 0 j) = a (ix2 0 j) := by
  pointwise

/-- Row 0 of the vectors. -/
theorem vec_0 (c : Dev nD) (j : Fin 128) :
    (V m c main_v20 : FVec Ideal S4x128 .f32) (ix2 0 j)
      = fill (fun j => (m ((c : Thread nD τ).loc main_arg5) : FVec Ideal S1x64 .f32) (ix2 0 j)) j := by
  unfold V
  simp only [List.flatten_cons, List.flatten_nil, List.append_nil, List.cons_append, List.nil_append]
  after_reads_simp
  refine (four_0 _ _ _ _ _ _).trans ?_
  refine (congrFun (StableHlo.unary_result (x := main_v9) (y := main_v16) _ _ _ _) _).trans ?_
  after_reads_simp
  simp only [StableHlo.TRef.ofBuf_toBuf]
  simp -implicitDefEqProofs only [StableHlo.TRef.toBuf, StableHlo.TRef.ofBuf, cast_cast, cast_eq]
  clean_types
  pointwise
  rw [fill]
  split
  · rfl
  · exact zeroWord

/-- Row 1 of four. -/
theorem four_1 (a b c d : FVec Ideal S1x128 .f32) (j : Fin 128) (h) :
    concatenate S4x128 0 [⟨S1x128, a⟩, ⟨S1x128, b⟩, ⟨S1x128, c⟩, ⟨S1x128, d⟩] h (ix2 1 j) = b (ix2 0 j) := by
  pointwise

/-- Row 1 of the vectors. -/
theorem vec_1 (c : Dev nD) (j : Fin 128) :
    (V m c main_v20 : FVec Ideal S4x128 .f32) (ix2 1 j)
      = fill (fun j => (m ((c : Thread nD τ).loc main_arg6) : FVec Ideal S1x64 .f32) (ix2 0 j)) j := by
  unfold V
  simp only [List.flatten_cons, List.flatten_nil, List.append_nil, List.cons_append, List.nil_append]
  after_reads_simp
  refine (four_1 _ _ _ _ _ _).trans ?_
  refine (congrFun (StableHlo.unary_result (x := main_v11) (y := main_v17) _ _ _ _) _).trans ?_
  after_reads_simp
  simp only [StableHlo.TRef.ofBuf_toBuf]
  simp -implicitDefEqProofs only [StableHlo.TRef.toBuf, StableHlo.TRef.ofBuf, cast_cast, cast_eq]
  clean_types
  pointwise
  rw [fill]
  split
  · rfl
  · exact zeroWord

/-- Row 2 of four. -/
theorem four_2 (a b c d : FVec Ideal S1x128 .f32) (j : Fin 128) (h) :
    concatenate S4x128 0 [⟨S1x128, a⟩, ⟨S1x128, b⟩, ⟨S1x128, c⟩, ⟨S1x128, d⟩] h (ix2 2 j) = c (ix2 0 j) := by
  pointwise

/-- Row 2 of the vectors. -/
theorem vec_2 (c : Dev nD) (j : Fin 128) :
    (V m c main_v20 : FVec Ideal S4x128 .f32) (ix2 2 j)
      = fill (fun j => (m ((c : Thread nD τ).loc main_arg7) : FVec Ideal S1x64 .f32) (ix2 0 j)) j := by
  unfold V
  simp only [List.flatten_cons, List.flatten_nil, List.append_nil, List.cons_append, List.nil_append]
  after_reads_simp
  refine (four_2 _ _ _ _ _ _).trans ?_
  refine (congrFun (StableHlo.unary_result (x := main_v13) (y := main_v18) _ _ _ _) _).trans ?_
  after_reads_simp
  simp only [StableHlo.TRef.ofBuf_toBuf]
  simp -implicitDefEqProofs only [StableHlo.TRef.toBuf, StableHlo.TRef.ofBuf, cast_cast, cast_eq]
  clean_types
  pointwise
  rw [fill]
  split
  · rfl
  · exact zeroWord

/-- Row 3 of four. -/
theorem four_3 (a b c d : FVec Ideal S1x128 .f32) (j : Fin 128) (h) :
    concatenate S4x128 0 [⟨S1x128, a⟩, ⟨S1x128, b⟩, ⟨S1x128, c⟩, ⟨S1x128, d⟩] h (ix2 3 j) = d (ix2 0 j) := by
  pointwise

/-- Row 3 of the vectors. -/
theorem vec_3 (c : Dev nD) (j : Fin 128) :
    (V m c main_v20 : FVec Ideal S4x128 .f32) (ix2 3 j)
      = fill (fun j => (m ((c : Thread nD τ).loc main_arg8) : FVec Ideal S1x64 .f32) (ix2 0 j)) j := by
  unfold V
  simp only [List.flatten_cons, List.flatten_nil, List.append_nil, List.cons_append, List.nil_append]
  after_reads_simp
  refine (four_3 _ _ _ _ _ _).trans ?_
  refine (congrFun (StableHlo.unary_result (x := main_v15) (y := main_v19) _ _ _ _) _).trans ?_
  after_reads_simp
  simp only [StableHlo.TRef.ofBuf_toBuf]
  simp -implicitDefEqProofs only [StableHlo.TRef.toBuf, StableHlo.TRef.ofBuf, cast_cast, cast_eq]
  clean_types
  pointwise
  rw [fill]
  split
  · rfl
  · exact zeroWord

/-- The gain. -/
theorem gain_at (c : Dev nD) (j : Fin 128) :
    (V m c main_v22 : FVec Ideal S1x128 .f32) (ix2 0 j)
      = (m ((c : Thread nD τ).loc main_arg9) : FVec Ideal S1x128 .f32) (ix2 0 j) := by
  unfold V
  simp only [List.flatten_cons, List.flatten_nil, List.append_nil, List.cons_append, List.nil_append]
  entry_read
  clean_types
  pointwise

end Cert.KernelBIdeal.AttnB

end
-- ==== Proof.AttnAHost.lean ====
/- What the host's operations hand the grouped-query attention kernel. -/
module

public import proofs.«01_k».proof.Proof.AttnAPay
public import proofs.«01_k».proof.Proof.AttnBHost
public import proofs.«01_k».proof.Proof.Gen.KernelAIdeal.Value
public import Idealize.ShloMosaic.Lib.Pipeline.ValueKit
public import Idealize.ShloMosaic.Lib.StableHlo.ReadAt

@[expose] public section

set_option maxRecDepth 16384

noncomputable section

namespace Cert.KernelAIdeal.AttnA

open Cert.KernelAIdeal Cert.KernelAIdeal.Gen Idealize.ShloMosaic Idealize.ShloMosaic.TcCoe Idealize.SL.Sem
open Idealize.ShloMosaic.Pipeline (Dat)
open Cert.KernelBIdeal.AttnB (mask maskWord selLead)

variable (m : (ℓ : Loc nD τ sig) → Buf (Elt Ideal) ℓ)

/-- The leading keys, in the rows that count. -/
theorem keys_at (c : Dev nD) (j : Fin 16) (n : Fin 128) :
    (V m c main_v0 : FVec Ideal S128x128 .bf16) (ix2 ⟨j.val, by omega⟩ n)
      = (m ((c : Thread nD τ).loc main_arg3) : FVec Ideal S16x128 .bf16) (ix2 j n) := by
  unfold V
  simp only [List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise

/-- The leading values, in the rows that count. -/
theorem values_at (c : Dev nD) (j : Fin 16) (n : Fin 128) :
    (V m c main_v1 : FVec Ideal S128x128 .bf16) (ix2 ⟨j.val, by omega⟩ n)
      = (m ((c : Thread nD τ).loc main_arg4) : FVec Ideal S16x128 .bf16) (ix2 j n) := by
  unfold V
  simp only [List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise

/-- The mask. -/
theorem mask_at (c : Dev nD) (j : Fin 128) :
    mask ((V m c main_v7 : FVec Ideal S1x128 .f32) (ix2 0 j)) = if j.val < 16 then (0 : EReal) else ⊥ := by
  unfold V
  simp only [List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  clean_types
  pointwise
  rw [selLead]
  split
  · rw [mask, if_neg (lt_irrefl _)]
  · rw [mask, if_pos maskWord]

end Cert.KernelAIdeal.AttnA

end
-- ==== Proof.AttnAKernel.lean ====
/- The grouped-query attention kernel's stored block, and from it its result array. -/
module

public import proofs.«01_k».proof.Proof.AttnAHost
public import proofs.«01_k».proof.Proof.Gen.KernelAIdeal.Value
public import Idealize.ShloMosaic.Lib.Pipeline.ValueKit

@[expose] public section

set_option maxRecDepth 16384

noncomputable section

namespace Cert.KernelAIdeal.AttnA

open Cert.KernelAIdeal Cert.KernelAIdeal.Gen Idealize.ShloMosaic Idealize.ShloMosaic.TcCoe Idealize.SL.Sem
open Idealize.ShloMosaic.Pipeline (Dat)
open Cert.Attn (IsR cat soft)
open Cert.AttnA (G LaidOut qcol ocol grpOf headOf entOf ocol_of)
open Cert.AttnB (half)
open Cert.KernelBIdeal.AttnB (mask)

variable (m : (ℓ : Loc nD τ sig) → Buf (Elt Ideal) ℓ)

/-- The rows of the keys or the values that trip `k` reads. -/
def chunk (X : FVec Ideal S1x4096x128 .bf16) (k : Fin k0_t1_loop.trips) : FVec Ideal S1x512x128 .bf16 :=
  View.ld (Val := Elt Ideal) (e' := .bf16) X (Rect.unit (s := S1x4096x128) (k0_off1 k) S1x512x128.size (k0_off1_inb k))

/-- The number of trips. -/
theorem trips_eq : k0_t1_loop.trips = 8 := by decide +kernel

/-- Where trip `k` reads. -/
theorem off_eq : ∀ k : Fin k0_t1_loop.trips, k0_off1 k = ![0, k.val * 512, 0] := by decide +kernel

/-- Row `t` of them. -/
theorem chunk_at (X : FVec Ideal S1x4096x128 .bf16) (k : Fin k0_t1_loop.trips) (t : Fin 512) (d : Fin 128) :
    chunk X k (ix3 0 t d) = X (ix3 0 ⟨k.val * 512 + t.val, by have := k.isLt; have := trips_eq; omega⟩ d) := by
  pointwise [chunk]
  refine congrArg X ?_
  have e := off_eq k
  have e0 : k0_off1 k 0 = 0 := by rw [e]; rfl
  have e1 : k0_off1 k 1 = k.val * 512 := by rw [e]; rfl
  have e2 : k0_off1 k 2 = 0 := by rw [e]; rfl
  congr 1 <;> exact Fin.ext (by simp only [e0, e1, e2]; try omega)

/-- What a stack's part of the loop carries: the maxima, the sums of weights, the weighted sums. -/
abbrev St : Type := FVec Ideal S512x1 .f32 × FVec Ideal S512x1 .f32 × FVec Ideal S512x128 .f32

/-- A stack's part of a trip. -/
def next (q : FVec Ideal S512x128 .bf16) (k v : FVec Ideal S1x512x128 .bf16) (s : St) : St :=
  (k0_pay21 q s.1 k, k0_pay24 q s.1 s.2.1 k, k0_pay25 q s.1 s.2.2 k v)

/-- A stack's part before the first trip. -/
def first (q : FVec Ideal S512x128 .bf16) (k v : FVec Ideal S128x128 .bf16) (b : IVec S1x128 1) (w : EReal) : St :=
  (k0_pay9 (F := Ideal) q k b w, k0_pay11 (F := Ideal) q k b w, k0_pay12 (F := Ideal) q k v b w)

/-- The two stacks' parts beside each other. -/
def both (a b : St) : FVec Ideal S512x1 .f32 × FVec Ideal S512x1 .f32 × FVec Ideal S512x128 .f32 × FVec Ideal S512x1 .f32 × FVec Ideal S512x1 .f32 × FVec Ideal S512x128 .f32 :=
  (a.1, a.2.1, a.2.2, b.1, b.2.1, b.2.2)

/-- The first stack's part. -/
def fst (s : FVec Ideal S512x1 .f32 × FVec Ideal S512x1 .f32 × FVec Ideal S512x128 .f32 × FVec Ideal S512x1 .f32 × FVec Ideal S512x1 .f32 × FVec Ideal S512x128 .f32) : St :=
  (s.1, s.2.1, s.2.2.1)

/-- The second stack's part. -/
def snd (s : FVec Ideal S512x1 .f32 × FVec Ideal S512x1 .f32 × FVec Ideal S512x128 .f32 × FVec Ideal S512x1 .f32 × FVec Ideal S512x1 .f32 × FVec Ideal S512x128 .f32) : St :=
  s.2.2.2

/-- The first of two parts. -/
theorem fst_both (a b : St) : fst (both a b) = a := rfl
/-- The second of two parts. -/
theorem snd_both (a b : St) : snd (both a b) = b := rfl

/-- The two parts before the first trip. -/
theorem start (q q' : FVec Ideal S512x128 .bf16) (k v : FVec Ideal S128x128 .bf16) (b : IVec S1x128 1) (w : EReal) :
    fst (k0_pay9 (F := Ideal) q k b w, k0_pay11 (F := Ideal) q k b w, k0_pay12 (F := Ideal) q k v b w,
        k0_pay14 (F := Ideal) q' k b w, k0_pay16 (F := Ideal) q' k b w, k0_pay17 (F := Ideal) q' k v b w) = first q k v b w
    ∧ snd (k0_pay9 (F := Ideal) q k b w, k0_pay11 (F := Ideal) q k b w, k0_pay12 (F := Ideal) q k v b w,
        k0_pay14 (F := Ideal) q' k b w, k0_pay16 (F := Ideal) q' k b w, k0_pay17 (F := Ideal) q' k v b w) = first q' k v b w :=
  by
  have e8 : k0_pay13 (F := Ideal) q' k b w = k0_pay8 (F := Ideal) q' k b w := by unfold k0_pay13 k0_pay8; rfl
  have e9 : k0_pay14 (F := Ideal) q' k b w = k0_pay9 (F := Ideal) q' k b w := by unfold k0_pay14 k0_pay9; rw [e8]
  have e10 : k0_pay15 (F := Ideal) q' k b w = k0_pay10 (F := Ideal) q' k b w := by unfold k0_pay15 k0_pay10; rw [e8, e9]
  have e11 : k0_pay16 (F := Ideal) q' k b w = k0_pay11 (F := Ideal) q' k b w := by unfold k0_pay16 k0_pay11; rw [e10]
  have e12 : k0_pay17 (F := Ideal) q' k v b w = k0_pay12 (F := Ideal) q' k v b w := by unfold k0_pay17 k0_pay12; rw [e10]
  rw [e9, e11, e12]
  constructor
  · simp only [fst, first]
  · simp only [snd, first]

/-- One trip's result. -/
theorem trip (c : Dev nD) (i : grid0.Coords) (arg2 : Memref sig .tc .vmem S1x128x1024 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128x512 .bf16) (harg8 : arg8.IsWhole)
    (q q' : FVec Ideal S512x128 .bf16) (km vm : FVec Ideal S128x128 .bf16) (b : IVec S1x128 1) (w : EReal)
    (X Y : FVec Ideal S1x4096x128 .bf16) (k : Fin k0_t1_loop.trips)
    (s : FVec Ideal S512x1 .f32 × FVec Ideal S512x1 .f32 × FVec Ideal S512x128 .f32 × FVec Ideal S512x1 .f32 × FVec Ideal S512x1 .f32 × FVec Ideal S512x128 .f32) :
    tripR_k0_t1 (F := Ideal) Variants.none c none i arg2 harg2 arg3 harg3 arg4 harg4 arg5 harg5 arg6 harg6 arg7 harg7 arg8 harg8 q q' km vm b w (harg3.unread X) (harg4.unread Y) k s
      = both (next q (chunk X k) (chunk Y k) (fst s)) (next q' (chunk X k) (chunk Y k) (snd s)) := by
  unfold tripR_k0_t1 trip_k0_t1
  frame_out
  rfl

/-- The index maps of the windows. -/
theorem idx : ∀ t : Fin cfg0.N, win0_0.index t = ![t.val / 32, t.val % 32, 0]
    ∧ win0_1.index t = ![t.val / 32, 0, 0] ∧ win0_2.index t = ![t.val / 32, 0, 0]
    ∧ win0_3.index t = ![0, 0] ∧ win0_4.index t = ![0, 0] ∧ win0_5.index t = ![0, 0]
    ∧ win0_6.index t = ![t.val / 32, t.val % 32, 0] ∧ t.val < 256 :=
  (by decide +kernel : ∀ t : Fin grid0.N, _)

/-- The bound on the points. -/
theorem lt (t : Fin cfg0.N) : t.val < 256 := (idx t).2.2.2.2.2.2.2
/-- The batch entry of a point. -/
def bat (t : Fin cfg0.N) : Fin 8 := ⟨t.val / 32, by have := lt t; omega⟩
/-- The position of row `r` of its queries. -/
def row (t : Fin cfg0.N) (r : Fin 128) : Fin 4096 := ⟨t.val % 32 * 128 + r.val, by omega⟩

/-- What window 0 reads. -/
theorem blk0 (c : Dev nD) (t : Fin cfg0.N) (r : Fin 128) (d : Fin 1024) :
    (iblk m c 0 t : FVec Ideal S1x128x1024 .bf16) (ix3 0 r d)
      = (m ((c : Thread nD τ).loc main_arg0)) (ix3 (bat t) (row t r) d) := by
  blk_simp [iblk]
  entry_read
  pointwise [bat, row]
  blk_ext [idx t]

/-- What window 1 reads. -/
theorem blk1 (c : Dev nD) (t : Fin cfg0.N) (r : Fin 4096) (d : Fin 128) :
    (iblk m c 1 t : FVec Ideal S1x4096x128 .bf16) (ix3 0 r d)
      = (m ((c : Thread nD τ).loc main_arg1)) (ix3 (bat t) r d) := by
  blk_simp [iblk]
  entry_read
  pointwise [bat]
  blk_ext [idx t]

/-- What window 2 reads. -/
theorem blk2 (c : Dev nD) (t : Fin cfg0.N) (r : Fin 4096) (d : Fin 128) :
    (iblk m c 2 t : FVec Ideal S1x4096x128 .bf16) (ix3 0 r d)
      = (m ((c : Thread nD τ).loc main_arg2)) (ix3 (bat t) r d) := by
  blk_simp [iblk]
  entry_read
  pointwise [bat]
  blk_ext [idx t]

/-- What window 3 reads, in the rows that count. -/
theorem blk3 (c : Dev nD) (t : Fin cfg0.N) (j : Fin 16) (d : Fin 128) :
    (iblk m c 3 t : FVec Ideal S128x128 .bf16) (ix2 ⟨j.val, by omega⟩ d)
      = (m ((c : Thread nD τ).loc main_arg3)) (ix2 j d) := by
  refine Eq.trans ?_ (keys_at m c j d)
  blk_simp [iblk]
  refine congrArg (V m c main_v0) ?_
  blk_ext [idx t]

/-- What window 4 reads, in the rows that count. -/
theorem blk4 (c : Dev nD) (t : Fin cfg0.N) (j : Fin 16) (d : Fin 128) :
    (iblk m c 4 t : FVec Ideal S128x128 .bf16) (ix2 ⟨j.val, by omega⟩ d)
      = (m ((c : Thread nD τ).loc main_arg4)) (ix2 j d) := by
  refine Eq.trans ?_ (values_at m c j d)
  blk_simp [iblk]
  refine congrArg (V m c main_v1) ?_
  blk_ext [idx t]

/-- What window 5 reads, as the kernel uses it. -/
theorem blk5 (c : Dev nD) (t : Fin cfg0.N) (j : Fin 128) :
    mask ((iblk m c 5 t : FVec Ideal S1x128 .f32) (ix2 0 j)) = if j.val < 16 then (0 : EReal) else ⊥ := by
  refine Eq.trans (congrArg mask ?_) (mask_at m c j)
  blk_simp [iblk]
  refine congrArg (V m c main_v7) ?_
  blk_ext [idx t]

/-- What the loop leaves in row `x` of a stack, divided: the attention of that row's query. -/
theorem rowLoop (S : ℕ → St) (q : FVec Ideal S512x128 .bf16) (X Y : FVec Ideal S1x4096x128 .bf16)
    (km vm : FVec Ideal S128x128 .bf16) (b : IVec S1x128 1) (w : EReal) (x : Fin 512) (e : Fin 128)
    (z : S 0 = first q km vm b w)
    (s : ∀ k : Fin k0_t1_loop.trips, S (k.val + 1) = next q (chunk X k) (chunk Y k) (S k.val))
    (kmr : Fin 16 → Fin 128 → EReal) (kr : Fin 4096 → Fin 128 → EReal) (vmr : Fin 16 → EReal) (vr : Fin 4096 → EReal)
    (hq : ∀ d, IsR (q (ix2 x d))) (hkm : ∀ j d, IsR (kmr j d)) (hk : ∀ r d, IsR (kr r d))
    (ekm : ∀ (j : Fin 16) d, km (ix2 ⟨j.val, by omega⟩ d) = kmr j d) (evm : ∀ j : Fin 16, vm (ix2 ⟨j.val, by omega⟩ e) = vmr j)
    (eb : ∀ j : Fin 128, k0_pay7 (F := Ideal) b w (ix2 0 j) = if j.val < 16 then (0 : EReal) else ⊥)
    (ek : ∀ r d, X (ix3 0 r d) = kr r d) (ev : ∀ r, Y (ix3 0 r e) = vr r) :
    Ideal.div ((S 8).2.2 (ix2 x e)) ((S 8).2.1 (ix2 x 0))
      = soft (fun l => ∑ d, q (ix2 x d) * cat (fun j => kmr j d) (fun j => kr j d) l) (cat vmr vr) := by
  have s' : ∀ c : Fin 8, S (c.val + 1) = _ := fun c => s (Fin.cast trips_eq.symm c)
  refine Cert.Attn.loop (fun d => q (ix2 x d)) kmr kr vmr vr hq hkm hk (fun j d => km (ix2 j d))
    (fun j => vm (ix2 j e)) (fun j => k0_pay7 (F := Ideal) b w (ix2 0 j)) (fun c t d => chunk X (Fin.cast trips_eq.symm c) (ix3 0 t d))
    (fun c t => chunk Y (Fin.cast trips_eq.symm c) (ix3 0 t e)) ekm evm eb
    (fun c t d => (chunk_at _ _ _ _).trans (ek _ d)) (fun c t => (chunk_at _ _ _ _).trans (ev _))
    (fun n => (S n).1 (ix2 x 0)) (fun n => (S n).2.1 (ix2 x 0)) (fun n => (S n).2.2 (ix2 x e)) ?_ ?_ ?_ ?_ ?_ ?_
  · simp only [z, first, pay9_at, pay8_at]
  · intro c
    simp only [s' c, next, pay21_at, pay20_at, Fin.val_cast]
  · simp only [z, first, pay11_at, pay10_at, pay8_at]
  · intro c
    simp only [s' c, next, pay24_at, pay22_at, pay23_at, pay20_at, Fin.val_cast]
  · simp only [z, first, pay12_at, pay10_at, pay8_at]
  · intro c
    simp only [s' c, next, pay25_at, pay22_at, pay23_at, pay20_at, Fin.val_cast]

/-- The number of trips, as the loop counts them. -/
theorem count : Scf.trips 0#32 (Scalar.addi 0#32 8#32) 1#32 = 8 := by decide +kernel

/-- What the kernel adds to the leading keys' scores. -/
theorem bias (c : Dev nD) (t : Fin cfg0.N) (j : Fin 128) :
    k0_pay7 (F := Ideal) (k0_pay6 (iblk m c 5 t)) ⊥ (ix2 0 j) = if j.val < 16 then (0 : EReal) else ⊥ :=
  (pay7_at _ _ j).trans (blk5 m c t j)

/-- What the body stores, from what its loop leaves. -/
theorem ofState (c : Dev nD) (t : Fin cfg0.N) (r : Fin 128) (x : Fin 512)
    (h0 : ∀ i, IsR ((m ((c : Thread nD τ).loc main_arg0) : FVec Ideal S8x4096x1024 .bf16) i))
    (h1 : ∀ i, IsR ((m ((c : Thread nD τ).loc main_arg1) : FVec Ideal S8x4096x128 .bf16) i))
    (h3 : ∀ i, IsR ((m ((c : Thread nD τ).loc main_arg3) : FVec Ideal S16x128 .bf16) i))
    (hl : LaidOut fun s i n => (m ((c : Thread nD τ).loc main_arg0) : FVec Ideal S8x4096x1024 .bf16) (ix3 s i n))
    (S : ℕ → FVec Ideal S512x1 .f32 × FVec Ideal S512x1 .f32 × FVec Ideal S512x128 .f32 × FVec Ideal S512x1 .f32 × FVec Ideal S512x1 .f32 × FVec Ideal S512x128 .f32)
    (z : S 0 = (k0_pay9 (F := Ideal) (stack0 (iblk m c 0 t)) (k0_pay4 (iblk m c 3 t)) (k0_pay6 (iblk m c 5 t)) ⊥,
      k0_pay11 (F := Ideal) (stack0 (iblk m c 0 t)) (k0_pay4 (iblk m c 3 t)) (k0_pay6 (iblk m c 5 t)) ⊥,
      k0_pay12 (F := Ideal) (stack0 (iblk m c 0 t)) (k0_pay4 (iblk m c 3 t)) (k0_pay5 (iblk m c 4 t)) (k0_pay6 (iblk m c 5 t)) ⊥,
      k0_pay14 (F := Ideal) (stack1 (iblk m c 0 t)) (k0_pay4 (iblk m c 3 t)) (k0_pay6 (iblk m c 5 t)) ⊥,
      k0_pay16 (F := Ideal) (stack1 (iblk m c 0 t)) (k0_pay4 (iblk m c 3 t)) (k0_pay6 (iblk m c 5 t)) ⊥,
      k0_pay17 (F := Ideal) (stack1 (iblk m c 0 t)) (k0_pay4 (iblk m c 3 t)) (k0_pay5 (iblk m c 4 t)) (k0_pay6 (iblk m c 5 t)) ⊥))
    (s : ∀ k : Fin k0_t1_loop.trips, S (k.val + 1)
      = both (next (stack0 (iblk m c 0 t)) (chunk (iblk m c 1 t) k) (chunk (iblk m c 2 t) k) (fst (S k.val)))
          (next (stack1 (iblk m c 0 t)) (chunk (iblk m c 1 t) k) (chunk (iblk m c 2 t) k) (snd (S k.val)))) :
    k0_pay1 (F := Ideal) (k0_pay32 (S 8).2.1 (S 8).2.2.1 (S 8).2.2.2.2.1 (S 8).2.2.2.2.2) (ix3 0 r x)
      = G (fun s i n => (m ((c : Thread nD τ).loc main_arg0) : FVec Ideal S8x4096x1024 .bf16) (ix3 s i n))
          (fun s i n => (m ((c : Thread nD τ).loc main_arg1) : FVec Ideal S8x4096x128 .bf16) (ix3 s i n))
          (fun s i n => (m ((c : Thread nD τ).loc main_arg2) : FVec Ideal S8x4096x128 .bf16) (ix3 s i n))
          (fun i n => (m ((c : Thread nD τ).loc main_arg3) : FVec Ideal S16x128 .bf16) (ix2 i n))
          (fun i n => (m ((c : Thread nD τ).loc main_arg4) : FVec Ideal S16x128 .bf16) (ix2 i n)) (bat t) (row t r) x := by
  obtain ⟨n, g, e, rfl⟩ : ∃ n g e, x = ocol n g e := ⟨grpOf x, headOf x, entOf x, (ocol_of x).symm⟩
  have z0 := (congrArg fst z).trans (start _ _ _ _ _ _).1
  have z1 := (congrArg snd z).trans (start _ _ _ _ _ _).2
  have s0 := fun k => (congrArg fst (s k)).trans (fst_both _ _)
  have s1 := fun k => (congrArg snd (s k)).trans (snd_both _ _)
  have lo := fun (e : Fin 128) hq => rowLoop (fun n => fst (S n)) (stack0 (iblk m c 0 t)) (iblk m c 1 t) (iblk m c 2 t)
      (k0_pay4 (iblk m c 3 t)) (k0_pay5 (iblk m c 4 t)) (k0_pay6 (iblk m c 5 t)) ⊥ (srow g r) e z0
      s0 _ _ _ _ hq
      (fun j d => h3 (ix2 j d)) (fun r d => h1 (ix3 (bat t) r d)) (fun j d => (pay4_at _ _ _).trans (blk3 m c t j d))
      (fun j => (pay5_at _ _ _).trans (blk4 m c t j e)) (bias m c t) (fun r d => blk1 m c t r d) (fun r => blk2 m c t r e)
  have hi := fun (e : Fin 128) hq => rowLoop (fun n => snd (S n)) (stack1 (iblk m c 0 t)) (iblk m c 1 t) (iblk m c 2 t)
      (k0_pay4 (iblk m c 3 t)) (k0_pay5 (iblk m c 4 t)) (k0_pay6 (iblk m c 5 t)) ⊥ (srow g r) e z1
      s1 _ _ _ _ hq
      (fun j d => h3 (ix2 j d)) (fun r d => h1 (ix3 (bat t) r d)) (fun j d => (pay4_at _ _ _).trans (blk3 m c t j d))
      (fun j => (pay5_at _ _ _).trans (blk4 m c t j e)) (bias m c t) (fun r d => blk1 m c t r d) (fun r => blk2 m c t r e)
  simp only [stack0_at, stack1_at, blk0] at lo hi
  have hs := fun n => Cert.AttnA.score_all _ hl (bat t) (row t r) n g
  have b : n = 0 ∨ n = 1 := by omega
  rcases b with rfl | rfl
  · refine (pay1_lo _ _ _ _ r g e).trans ((lo ⟨e.val, by omega⟩ fun d => h0 _).trans ?_)
    have k : (⟨e.val, by omega⟩ : Fin 128) = half 0 e := Fin.ext (by simp [half])
    rw [k]
    simp only [G, Cert.AttnA.grpOf_ocol, Cert.AttnA.headOf_ocol, Cert.AttnA.entOf_ocol]
    exact congrArg (fun σ => soft σ _) (funext fun l => hs 0 _ _ l)
  · refine (pay1_hi _ _ _ _ r g e).trans ((hi ⟨64 + e.val, by omega⟩ fun d => h0 _).trans ?_)
    have k : (⟨64 + e.val, by omega⟩ : Fin 128) = half 1 e := Fin.ext (by simp [half])
    rw [k]
    simp only [G, Cert.AttnA.grpOf_ocol, Cert.AttnA.headOf_ocol, Cert.AttnA.entOf_ocol]
    exact congrArg (fun σ => soft σ _) (funext fun l => hs 1 _ _ l)

/-- What the body stores at a point, at an index of its block, is `G` where that index sits in the array. -/
theorem point (c : Dev nD) (t : Fin cfg0.N) (r : Fin 128) (x : Fin 512)
    (h0 : ∀ i, IsR ((m ((c : Thread nD τ).loc main_arg0) : FVec Ideal S8x4096x1024 .bf16) i))
    (h1 : ∀ i, IsR ((m ((c : Thread nD τ).loc main_arg1) : FVec Ideal S8x4096x128 .bf16) i))
    (h3 : ∀ i, IsR ((m ((c : Thread nD τ).loc main_arg3) : FVec Ideal S16x128 .bf16) i))
    (hl : LaidOut fun s i n => (m ((c : Thread nD τ).loc main_arg0) : FVec Ideal S8x4096x1024 .bf16) (ix3 s i n)) :
    (outsAt0 m c t : FVec Ideal S1x128x512 .bf16) (ix3 0 r x)
      = G (fun s i n => (m ((c : Thread nD τ).loc main_arg0) : FVec Ideal S8x4096x1024 .bf16) (ix3 s i n))
          (fun s i n => (m ((c : Thread nD τ).loc main_arg1) : FVec Ideal S8x4096x128 .bf16) (ix3 s i n))
          (fun s i n => (m ((c : Thread nD τ).loc main_arg2) : FVec Ideal S8x4096x128 .bf16) (ix3 s i n))
          (fun i n => (m ((c : Thread nD τ).loc main_arg3) : FVec Ideal S16x128 .bf16) (ix2 i n))
          (fun i n => (m ((c : Thread nD τ).loc main_arg4) : FVec Ideal S16x128 .bf16) (ix2 i n)) (bat t) (row t r) x := by
  unfold outsAt0
  frame_out
  rw [count, stack0_def, stack1_def, maskConst]
  exact ofState m c t r x h0 h1 h3 hl
    (fun n => st_k0_t1 (F := Ideal) _ _ _ _ _ _ _ _ _ _ _ _ _ _ _ _ _ _ _ _ _ _ _ _ _ _ _ n)
    (st_k0_t1_zero ..) (fun k => (st_k0_t1_succ ..).trans (trip ..))

/-- The result's array. -/
def res (c : Dev nD) : FVec Ideal S8x4096x512 .bf16 := fun y : S8x4096x512.Idx =>
        G (fun s i n => (m ((c : Thread nD τ).loc main_arg0) : FVec Ideal S8x4096x1024 .bf16) (ix3 s i n))
          (fun s i n => (m ((c : Thread nD τ).loc main_arg1) : FVec Ideal S8x4096x128 .bf16) (ix3 s i n))
          (fun s i n => (m ((c : Thread nD τ).loc main_arg2) : FVec Ideal S8x4096x128 .bf16) (ix3 s i n))
          (fun i n => (m ((c : Thread nD τ).loc main_arg3) : FVec Ideal S16x128 .bf16) (ix2 i n))
          (fun i n => (m ((c : Thread nD τ).loc main_arg4) : FVec Ideal S16x128 .bf16) (ix2 i n)) (y 0) (y 1) (y 2)

/-- What the body stores at a point is the result's array there. -/
theorem stored (c : Dev nD) (t : Fin cfg0.N) (y : S1x128x512.Idx)
    (h0 : ∀ i, IsR ((m ((c : Thread nD τ).loc main_arg0) : FVec Ideal S8x4096x1024 .bf16) i))
    (h1 : ∀ i, IsR ((m ((c : Thread nD τ).loc main_arg1) : FVec Ideal S8x4096x128 .bf16) i))
    (h3 : ∀ i, IsR ((m ((c : Thread nD τ).loc main_arg3) : FVec Ideal S16x128 .bf16) i))
    (hl : LaidOut fun s i n => (m ((c : Thread nD τ).loc main_arg0) : FVec Ideal S8x4096x1024 .bf16) (ix3 s i n)) :
    (outsAt0 m c t : FVec Ideal S1x128x512 .bf16) y = res m c (((cfg0.win 6).blk t).view.emb y) := by
  obtain ⟨z, r, x, rfl⟩ : ∃ (z : Fin 1) (r : Fin 128) (x : Fin 512), y = ix3 z r x := ⟨y 0, y 1, y 2, eq_ix3 y⟩
  obtain rfl : z = 0 := Subsingleton.elim _ _
  have w : ((cfg0.win 6).blk t).view.emb (ix3 0 r x) = (ix3 (bat t) (row t r) x : S8x4096x512.Idx) := by
    unfold bat row
    blk_ext [idx t]
  rw [w]
  exact point m c t r x h0 h1 h3 hl

/-- The result array after the run. -/
theorem final (c : Dev nD)
    (h0 : ∀ i, IsR ((m ((c : Thread nD τ).loc main_arg0) : FVec Ideal S8x4096x1024 .bf16) i))
    (h1 : ∀ i, IsR ((m ((c : Thread nD τ).loc main_arg1) : FVec Ideal S8x4096x128 .bf16) i))
    (h3 : ∀ i, IsR ((m ((c : Thread nD τ).loc main_arg3) : FVec Ideal S16x128 .bf16) i))
    (hl : LaidOut fun s i n => (m ((c : Thread nD τ).loc main_arg0) : FVec Ideal S8x4096x1024 .bf16) (ix3 s i n)) :
    (dats m 0 c).arrAt 6 cfg0.N = res m c := by
  refine (dats m 0 c).arrAt_eq_of_covers 6 _ (by decide +kernel) fun t _ y => ?_
  blk_simp
  rw [after0_6]
  exact stored m c t y h0 h1 h3 hl

end Cert.KernelAIdeal.AttnA

end
-- ==== Proof.AttnARef.lean ====
/- The grouped-query attention reference's result, read at an index. -/
module

public import proofs.«01_k».proof.Proof.AttnAPure
public import proofs.«01_k».proof.Proof.Gen.ReferenceAIdeal.Run

@[expose] public section

set_option maxRecDepth 16384

noncomputable section

namespace Cert.ReferenceAIdeal.AttnA

open Cert.ReferenceAIdeal Cert.ReferenceAIdeal.Gen Idealize.ShloMosaic Idealize.ShloMosaic.TcCoe Idealize.SL.Sem
open Cert.Attn Cert.AttnA
open Cert.AttnB (half score score_real)

/-- The queries of the two groups, each on its own lanes. -/
def rq (q : FVec Ideal S8x4096x1024 .bf16) : FVec Ideal S8x4096x2x4x64 .f32 :=
  concatenate S8x4096x2x4x64 2
    [⟨S8x4096x1x4x64, broadcastInDim S8x4096x1x4x64 ![0, 1, 3, 4] bcast_S8x4096x4x64_S8x4096x1x4x64_0_1_3_4
        (shapeCast S8x4096x4x64 (extractStridedSlice S8x4096x1x4x1x64 ![0, 0, 0, 0, 0, 0]
          (shapeCast S8x4096x2x4x2x64 (extf .f32 q bitsLt_bf16_f32) shapeCasts_S8x4096x1024_S8x4096x2x4x2x64)
          slices_S8x4096x2x4x2x64_S8x4096x1x4x1x64_0_0_0_0_0_0) shapeCasts_S8x4096x1x4x1x64_S8x4096x4x64)⟩,
      ⟨S8x4096x1x4x64, broadcastInDim S8x4096x1x4x64 ![0, 1, 3, 4] bcast_S8x4096x4x64_S8x4096x1x4x64_0_1_3_4
        (shapeCast S8x4096x4x64 (extractStridedSlice S8x4096x1x4x1x64 ![0, 0, 1, 0, 1, 0]
          (shapeCast S8x4096x2x4x2x64 (extf .f32 q bitsLt_bf16_f32) shapeCasts_S8x4096x1024_S8x4096x2x4x2x64)
          slices_S8x4096x2x4x2x64_S8x4096x1x4x1x64_0_0_1_0_1_0) shapeCasts_S8x4096x1x4x1x64_S8x4096x4x64)⟩]
    concatenates_S8x4096x1x4x64_S8x4096x1x4x64_S8x4096x2x4x64_d2

/-- The leading rows in front of every batch entry's rows. -/
def rcat (a : FVec Ideal S16x128 .bf16) (b : FVec Ideal S8x4096x128 .bf16) : FVec Ideal S8x4112x128 .f32 :=
  concatenate S8x4112x128 1 [⟨S8x16x128, (broadcastInDim S8x16x128 ![0, 1, 2] bcast_S1x16x128_S8x16x128_0_1_2
      (broadcastInDim S1x16x128 ![1, 2] bcast_S16x128_S1x16x128_1_2 (extf .f32 a bitsLt_bf16_f32)))⟩,
    ⟨S8x4096x128, (extf .f32 b bitsLt_bf16_f32)⟩] concatenates_S8x16x128_S8x4096x128_S8x4112x128_d1

/-- The scores, of the exponential function. -/
def rsc (q : FVec Ideal S8x4096x2x4x64 .f32) (k : FVec Ideal S8x4112x128 .f32) : FVec Ideal S8x2x4x4096x4112 .f32 :=
  mulf (transpose S8x2x4x4096x4112 [0, 1, 4, 3, 2]
      (Host.dotGeneral (φ₁ := .f32) (φ₂ := .f32) dot_S8x4112x2x64_S8x4096x2x4x64_S8x2x4112x4096x4_3_4_1_13_02_02 none
        (shapeCast S8x4112x2x64 k shapeCasts_S8x4112x128_S8x4112x2x64) q)
      transposes_S8x2x4112x4096x4_S8x2x4x4096x4112_0_1_4_3_2)
    (broadcastInDim S8x2x4x4096x4112 ![] bcast_S_S8x2x4x4096x4112 (Host.log (constant S_ .f32 0x40000000#32)))

/-- The maximum of the scores. -/
def rmax (s : FVec Ideal S8x2x4x4096x4112 .f32) : FVec Ideal S8x2x4x4096 .f32 :=
  Host.reduce FloatOps.maximumf s (constant S_ .f32 0xFF800000#32) reducesTo_S8x2x4x4096x4112_S8x2x4x4096_d4 h_S_

/-- The exponentials of the scores less a maximum. -/
def rexp (s : FVec Ideal S8x2x4x4096x4112 .f32) (M : FVec Ideal S8x2x4x4096 .f32) : FVec Ideal S8x2x4x4096x4112 .f32 :=
  Host.exp (subf s (broadcastInDim S8x2x4x4096x4112 ![0, 1, 2, 3, 4] bcast_S8x2x4x4096x1_S8x2x4x4096x4112_0_1_2_3_4
    (broadcastInDim S8x2x4x4096x1 ![0, 1, 2, 3] bcast_S8x2x4x4096_S8x2x4x4096x1_0_1_2_3
      (maximumf (broadcastInDim S8x2x4x4096 ![] bcast_S_S8x2x4x4096 (constant S_ .f32 0xFF800000#32))
        M))))

/-- The softmax's weights, of the exponentials. -/
def rsoft (s : FVec Ideal S8x2x4x4096x4112 .f32) : FVec Ideal S8x2x4x4096x4112 .f32 :=
  Host.divf s (broadcastInDim S8x2x4x4096x4112 ![0, 1, 2, 3, 4] bcast_S8x2x4x4096x1_S8x2x4x4096x4112_0_1_2_3_4
    (broadcastInDim S8x2x4x4096x1 ![0, 1, 2, 3] bcast_S8x2x4x4096_S8x2x4x4096x1_0_1_2_3
      (Host.reduceAdd s (constant S_ .f32 0x00000000#32) reducesTo_S8x2x4x4096x4112_S8x2x4x4096_d4 h_S_)))

/-- The weights of the queries' scores. -/
def rweights (q : FVec Ideal S8x4096x1024 .bf16) (k : FVec Ideal S8x4096x128 .bf16) (km : FVec Ideal S16x128 .bf16) :
    FVec Ideal S8x2x4x4096x4112 .f32 :=
  rsoft (rexp (rsc (rq q) (rcat km k)) (rmax (rsc (rq q) (rcat km k))))

/-- The values' sums under the weights. -/
def rsum (w : FVec Ideal S8x2x4x4096x4112 .f32) (v : FVec Ideal S8x4112x128 .f32) : FVec Ideal S8x4096x512 .bf16 :=
  truncf .bf16 (shapeCast S8x4096x512 (transpose S8x4096x2x4x64 [0, 4, 1, 3, 2]
    (Host.dotGeneral (φ₁ := .f32) (φ₂ := .f32) dot_S8x4112x2x64_S8x2x4x4096x4112_S8x2x64x4x4096_1_4_3_23_02_01 none
      (shapeCast S8x4112x2x64 v shapeCasts_S8x4112x128_S8x4112x2x64) w)
    transposes_S8x2x64x4x4096_S8x4096x2x4x64_0_4_1_3_2) shapeCasts_S8x4096x2x4x64_S8x4096x512) bitsLt_bf16_f32

/-- The reference's result, from these steps. -/
theorem res_eq (m : (ℓ : Loc nD τ sig) → Buf (Elt Ideal) ℓ) (c : Dev nD) :
    Value.res_out0 (F := Ideal) m c
      = rsum (rweights (m ((c.tc : Thread nD τ).loc main_arg0)) (m ((c.tc : Thread nD τ).loc main_arg1))
            (m ((c.tc : Thread nD τ).loc main_arg3)))
          (rcat (m ((c.tc : Thread nD τ).loc main_arg4)) (m ((c.tc : Thread nD τ).loc main_arg2))) := rfl

/-- The queries of the first group. -/
theorem rq_0 (q : FVec Ideal S8x4096x1024 .bf16) (s : Fin 8) (i : Fin 4096) (g : Fin 4) (d : Fin 64) :
    rq q (ix5 s i 0 g d) = q (ix3 s i (qcol 0 g (half 0 d))) := by
  pointwise [rq, qcol, half]

/-- The queries of the second group. -/
theorem rq_1 (q : FVec Ideal S8x4096x1024 .bf16) (s : Fin 8) (i : Fin 4096) (g : Fin 4) (d : Fin 64) :
    rq q (ix5 s i 1 g d) = q (ix3 s i (qcol 1 g (half 1 d))) := by
  pointwise [rq, qcol, half]
  exact congrArg (fun x => q (ix3 s i x)) (Fin.ext (by simp only []; omega))

/-- The queries of a group. -/
theorem rq_at (q : FVec Ideal S8x4096x1024 .bf16) (s : Fin 8) (i : Fin 4096) (n : Fin 2) (g : Fin 4) (d : Fin 64) :
    rq q (ix5 s i n g d) = q (ix3 s i (qcol n g (half n d))) := by
  have c : n = 0 ∨ n = 1 := by omega
  rcases c with rfl | rfl
  · exact rq_0 q s i g d
  · exact rq_1 q s i g d

/-- A row of the leading rows and those after them. -/
theorem rcat_at (a : FVec Ideal S16x128 .bf16) (b : FVec Ideal S8x4096x128 .bf16) (s : Fin 8) (l : Fin 4112) (n : Fin 128) :
    rcat a b (ix3 s l n) = cat (fun i => a (ix2 i n)) (fun i => b (ix3 s i n)) l := by
  pointwise [rcat, cat]

/-- A score. -/
theorem rsc_at (q : FVec Ideal S8x4096x2x4x64 .f32) (k : FVec Ideal S8x4112x128 .f32) (s : Fin 8) (n : Fin 2) (g : Fin 4)
    (i : Fin 4096) (l : Fin 4112) :
    rsc q k (ix5 s n g i l)
      = (∑ d : Fin 64, k (ix3 s l (half n d)) * q (ix5 s i n g d)) * Ideal.log (Ideal.ofBits .f32 0x40000000#32) := by
  pointwise [rsc, half]

/-- The maximum. -/
theorem rmax_at (x : FVec Ideal S8x2x4x4096x4112 .f32) (s : Fin 8) (n : Fin 2) (g : Fin 4) (i : Fin 4096) :
    rmax x (ix4 s n g i) = Finset.univ.fold max ⊥ fun l => x (ix5 s n g i l) :=
  rowMax x reducesTo_S8x2x4x4096x4112_S8x2x4x4096_d4 h_S_ s n g i

/-- An exponential. -/
theorem rexp_at (x : FVec Ideal S8x2x4x4096x4112 .f32) (M : FVec Ideal S8x2x4x4096 .f32) (s : Fin 8) (n : Fin 2) (g : Fin 4)
    (i : Fin 4096) (l : Fin 4112) :
    rexp x M (ix5 s n g i l) = Ideal.exp (x (ix5 s n g i l) - max ⊥ (M (ix4 s n g i))) := by
  pointwise [rexp]
  rw [negInfWord]

/-- A weight, from the exponentials. -/
theorem rsoft_at (x : FVec Ideal S8x2x4x4096x4112 .f32) (s : Fin 8) (n : Fin 2) (g : Fin 4) (i : Fin 4096) (l : Fin 4112) :
    rsoft x (ix5 s n g i l) = Ideal.div (x (ix5 s n g i l)) (∑ l, x (ix5 s n g i l)) := by
  pointwise [rsoft]

/-- A sum of the values. -/
theorem rsum_at (w : FVec Ideal S8x2x4x4096x4112 .f32) (v : FVec Ideal S8x4112x128 .f32) (s : Fin 8) (n : Fin 2) (g : Fin 4)
    (i : Fin 4096) (e : Fin 64) :
    rsum w v (ix3 s i (ocol n g e)) = ∑ l, v (ix3 s l (half n e)) * w (ix5 s n g i l) := by
  pointwise [rsum, ocol, half]

/-- The reference's result, at an index. -/
theorem res_at (m : (ℓ : Loc nD τ sig) → Buf (Elt Ideal) ℓ) (c : Dev nD)
    (q : Fin 8 → Fin 4096 → Fin 1024 → EReal) (k v : Fin 8 → Fin 4096 → Fin 128 → EReal) (km vm : Fin 16 → Fin 128 → EReal)
    (e0 : ∀ s i n, (m ((c.tc : Thread nD τ).loc main_arg0) : FVec Ideal S8x4096x1024 .bf16) (ix3 s i n) = q s i n)
    (e1 : ∀ s i n, (m ((c.tc : Thread nD τ).loc main_arg1) : FVec Ideal S8x4096x128 .bf16) (ix3 s i n) = k s i n)
    (e2 : ∀ s i n, (m ((c.tc : Thread nD τ).loc main_arg2) : FVec Ideal S8x4096x128 .bf16) (ix3 s i n) = v s i n)
    (e3 : ∀ i n, (m ((c.tc : Thread nD τ).loc main_arg3) : FVec Ideal S16x128 .bf16) (ix2 i n) = km i n)
    (e4 : ∀ i n, (m ((c.tc : Thread nD τ).loc main_arg4) : FVec Ideal S16x128 .bf16) (ix2 i n) = vm i n)
    (h0 : ∀ s i n, IsR (q s i n)) (h1 : ∀ s i n, IsR (k s i n)) (h3 : ∀ i n, IsR (km i n))
    (s : Fin 8) (i : Fin 4096) (x : Fin 512) :
    (Value.res_out0 (F := Ideal) m c : FVec Ideal S8x4096x512 .bf16) (ix3 s i x) = G q k v km vm s i x := by
  rw [res_eq]
  obtain ⟨n, g, e, rfl⟩ : ∃ n g e, x = ocol n g e := ⟨grpOf x, headOf x, entOf x, (ocol_of x).symm⟩
  have hs : ∀ l, IsR (score (fun d => q s i (qcol n g d)) km (k s) n l) :=
    fun l => score_real (fun _ => h0 _ _ _) (fun _ _ => h3 _ _) (fun _ _ => h1 _ _ _) n l
  have hc : ∀ l, (∑ d : Fin 64, cat (fun r => km r (half n d)) (fun r => k s r (half n d)) l * q s i (qcol n g (half n d)))
      = score (fun d => q s i (qcol n g d)) km (k s) n l := fun l => Finset.sum_congr rfl fun d _ => mul_comm _ _
  have hp : ∀ l, rweights (m ((c.tc : Thread nD τ).loc main_arg0)) (m ((c.tc : Thread nD τ).loc main_arg1))
      (m ((c.tc : Thread nD τ).loc main_arg3)) (ix5 s n g i l)
      = wt (score (fun d => q s i (qcol n g d)) km (k s) n) l := fun l => by
    rw [rweights, rsoft_at]
    simp only [rexp_at, rmax_at, rsc_at, rq_at, rcat_at, e0, e1, e3, hc]
    exact softmax_eq _ hs l
  have t : ∀ (w : FVec Ideal S8x2x4x4096x4112 .f32) (x : FVec Ideal S8x4112x128 .f32),
      (∀ l, w (ix5 s n g i l) = wt (score (fun d => q s i (qcol n g d)) km (k s) n) l) →
      (∀ l, x (ix3 s l (half n e)) = cat (fun r => vm r (half n e)) (fun r => v s r (half n e)) l) →
      rsum w x (ix3 s i (ocol n g e)) = G q k v km vm s i (ocol n g e) := fun w x hw hx => by
    rw [rsum_at]
    simp only [G, grpOf_ocol, headOf_ocol, entOf_ocol, soft]
    exact Finset.sum_congr rfl fun l _ => by rw [hw, hx, mul_comm]
  exact t _ _ hp fun l => by
    rw [rcat_at]
    simp only [e2, e4]

end Cert.ReferenceAIdeal.AttnA

end
-- ==== Proof.AttnAClaim.lean ====
/- The plain attention kernel and its reference end with the same array. -/
module

public import proofs.«01_k».proof.Defs
public import proofs.«01_k».proof.Proof.Finite
public import proofs.«01_k».proof.Proof.AttnAKernel
public import proofs.«01_k».proof.Proof.AttnARef
public import proofs.«01_k».proof.Proof.Gen.Pre_laid_out_a

@[expose] public section

set_option maxRecDepth 16384

noncomputable section

namespace Cert.Proof.AttnAClaim

open Idealize.ShloMosaic Idealize.SL.Sem Cert.KernelAIdeal
open Cert.Attn (IsR real_of zero_of)
open Cert.AttnB (half)
open Cert.AttnA (qcol LaidOut)

/-- The precondition says that the queries, the keys and the leading keys are real and the queries laid out. -/
theorem given (m : (ℓ : Loc nD τ sig) → Buf (Elt Ideal) ℓ) (h : Cert.Pre_KernelAIdeal_laid_out_a m) (c : Dev nD) :
    (∀ i, IsR ((m ((c.tc : Thread nD τ).loc main_arg0) : FVec Ideal S8x4096x1024 .bf16) i))
    ∧ (∀ i, IsR ((m ((c.tc : Thread nD τ).loc main_arg1) : FVec Ideal S8x4096x128 .bf16) i))
    ∧ (∀ i, IsR ((m ((c.tc : Thread nD τ).loc main_arg3) : FVec Ideal S16x128 .bf16) i))
    ∧ LaidOut (fun s i n => (m ((c.tc : Thread nD τ).loc main_arg0) : FVec Ideal S8x4096x1024 .bf16) (ix3 s i n)) := by
  have e := congrFun (h c) ix0
  dsimp only [Cert.Pre_laid_out_a.fn, Cert.Pre_laid_out_a.fn_part1] at e
  obtain ⟨e, z1⟩ := IntOp.andi_eq_one.1 e
  obtain ⟨e, z0⟩ := IntOp.andi_eq_one.1 e
  obtain ⟨e, e3⟩ := IntOp.andi_eq_one.1 e
  obtain ⟨e0, e1⟩ := IntOp.andi_eq_one.1 e
  refine ⟨real_of _ _ _ _ _ e0, real_of _ _ _ _ _ e1, real_of _ _ _ _ _ e3, fun s i g d => ⟨?_, ?_⟩⟩
  · refine Eq.trans ?_ (zero_of _ _ _ _ _ z0 (ix4 s i g d))
    pointwise [qcol, half]
    simp only [Nat.add_assoc]
  · refine Eq.trans ?_ (zero_of _ _ _ _ _ z1 (ix4 s i g d))
    pointwise [qcol, half]
    simp only [show (4 + g.val) * 128 = 512 + g.val * 128 by omega]

/-- At `Ideal` the kernel and its reference end with the same array. -/
theorem algebraic : Cert.algebraic_KernelAIdeal_ReferenceAIdeal_pre_laid_out_a := by
  intro m ρ m' ρ' hpre hag
  refine ⟨fun c => AttnA.res m c,
    (θ_run _ _ _).mono (fun _ h c => ⟨(h c).1.trans (AttnA.final m c (given m hpre c).1 (given m hpre c).2.1 (given m hpre c).2.2.1
        (given m hpre c).2.2.2), (h c).2⟩)
      (Cert.KernelAIdeal.Value.run_blocks m ρ),
    (θ_run _ _ _).mono (fun _ h c => ⟨(h c).1.trans ?_, (h c).2⟩) (Cert.ReferenceAIdeal.Value.run m' ρ')⟩
  obtain ⟨r0, r1, r3, l⟩ := given m hpre c
  obtain ⟨h0, h1, h2, h3, h4⟩ := hag c
  funext y
  obtain ⟨s, i, n, rfl⟩ : ∃ (s : Fin 8) (i : Fin 4096) (n : Fin 512), y = (ix3 s i n : S8x4096x512.Idx) :=
    ⟨y 0, y 1, y 2, eq_ix3 y⟩
  exact Cert.ReferenceAIdeal.AttnA.res_at m' c _ _ _ _ _
    (fun s i n => congrFun h0 (ix3 s i n)) (fun s i n => congrFun h1 (ix3 s i n)) (fun s i n => congrFun h2 (ix3 s i n))
    (fun i n => congrFun h3 (ix2 i n)) (fun i n => congrFun h4 (ix2 i n))
    (fun s i n => r0 _) (fun s i n => r1 _) (fun i n => r3 _) s i n

end Cert.Proof.AttnAClaim

end
-- ==== Proof.AttnBKernel.lean ====
/- The differential attention kernel's stored block, and from it its result array. -/
module

public import proofs.«01_k».proof.Proof.AttnBHost
public import proofs.«01_k».proof.Proof.Gen.KernelBIdeal.Value
public import Idealize.ShloMosaic.Lib.Pipeline.ValueKit

@[expose] public section

set_option maxRecDepth 16384

noncomputable section

namespace Cert.KernelBIdeal.AttnB

open Cert.KernelBIdeal Cert.KernelBIdeal.Gen Idealize.ShloMosaic Idealize.ShloMosaic.TcCoe Idealize.SL.Sem
open Idealize.ShloMosaic.Pipeline (Dat)
open Cert.Attn (IsR cat soft)
open Cert.AttnB (lane G)

variable (m : (ℓ : Loc nD τ sig) → Buf (Elt Ideal) ℓ)

/-- The rows of the keys or the values that trip `k` reads. -/
def chunk (X : FVec Ideal S1x4096x128 .bf16) (k : Fin k0_t1_loop.trips) : FVec Ideal S1x512x128 .bf16 :=
  View.ld (Val := Elt Ideal) (e' := .bf16) X (Rect.unit (s := S1x4096x128) (k0_off1 k) S1x512x128.size (k0_off1_inb k))

/-- The number of trips. -/
theorem trips_eq : k0_t1_loop.trips = 8 := by decide +kernel

/-- Where trip `k` reads. -/
theorem off_eq : ∀ k : Fin k0_t1_loop.trips, k0_off1 k = ![0, k.val * 512, 0] := by decide +kernel

/-- Row `t` of them. -/
theorem chunk_at (X : FVec Ideal S1x4096x128 .bf16) (k : Fin k0_t1_loop.trips) (t : Fin 512) (d : Fin 128) :
    chunk X k (ix3 0 t d) = X (ix3 0 ⟨k.val * 512 + t.val, by have := k.isLt; have := trips_eq; omega⟩ d) := by
  pointwise [chunk]
  refine congrArg X ?_
  have e := off_eq k
  have e0 : k0_off1 k 0 = 0 := by rw [e]; rfl
  have e1 : k0_off1 k 1 = k.val * 512 := by rw [e]; rfl
  have e2 : k0_off1 k 2 = 0 := by rw [e]; rfl
  congr 1 <;> exact Fin.ext (by simp only [e0, e1, e2]; try omega)

/-- One trip's result. -/
theorem trip (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x256x128 .bf16) (harg11 : arg11.IsWhole)
    (q : FVec Ideal S1x256x128 .bf16) (X Y : FVec Ideal S1x4096x128 .bf16) (k : Fin k0_t1_loop.trips)
    (s : FVec Ideal S512x1 .f32 × FVec Ideal S512x1 .f32 × FVec Ideal S512x128 .f32) :
    tripR_k0_t1 (F := Ideal) Variants.none c none i arg3 harg3 arg4 harg4 arg5 harg5 arg6 harg6 arg7 harg7 arg8 harg8 arg9 harg9 arg10 harg10 arg11 harg11 q (harg4.unread X) (harg5.unread Y) k s
      = (k0_pay9 q s.1 (chunk X k), k0_pay12 q s.1 s.2.1 (chunk X k), k0_pay13 q s.1 s.2.2 (chunk X k) (chunk Y k)) := by
  unfold tripR_k0_t1 trip_k0_t1
  frame_out
  rfl

/-- The index maps of the windows. -/
theorem idx : ∀ t : Fin cfg0.N, win0_0.index t = ![t.val / 64, t.val % 16, t.val / 16 % 4]
    ∧ win0_1.index t = ![t.val / 64, 0, t.val / 16 % 4] ∧ win0_2.index t = ![t.val / 64, 0, t.val / 16 % 4]
    ∧ win0_3.index t = ![0, t.val / 16 % 4] ∧ win0_4.index t = ![0, t.val / 16 % 4] ∧ win0_5.index t = ![0, 0]
    ∧ win0_6.index t = ![0, 0] ∧ win0_7.index t = ![0, 0]
    ∧ win0_8.index t = ![t.val / 64, t.val % 16, t.val / 16 % 4] ∧ t.val < 512 :=
  (by decide +kernel : ∀ t : Fin grid0.N, _)

/-- The bound on the points. -/
theorem lt (t : Fin cfg0.N) : t.val < 512 := (idx t).2.2.2.2.2.2.2.2.2
/-- The batch entry of a point. -/
def bat (t : Fin cfg0.N) : Fin 8 := ⟨t.val / 64, by have := lt t; omega⟩
/-- Its head. -/
def hd (t : Fin cfg0.N) : Fin 4 := ⟨t.val / 16 % 4, by omega⟩
/-- The position of row `r` of its queries. -/
def row (t : Fin cfg0.N) (r : Fin 256) : Fin 4096 := ⟨t.val % 16 * 256 + r.val, by omega⟩

/-- What window 0 reads. -/
theorem blk0 (c : Dev nD) (t : Fin cfg0.N) (r : Fin 256) (d : Fin 128) :
    (iblk m c 0 t : FVec Ideal S1x256x128 .bf16) (ix3 0 r d)
      = (m ((c : Thread nD τ).loc main_arg0)) (ix3 (bat t) (row t r) (lane (hd t) d)) := by
  blk_simp [iblk]
  entry_read
  pointwise [bat, row, lane, hd]
  blk_ext [idx t]

/-- What window 1 reads. -/
theorem blk1 (c : Dev nD) (t : Fin cfg0.N) (r : Fin 4096) (d : Fin 128) :
    (iblk m c 1 t : FVec Ideal S1x4096x128 .bf16) (ix3 0 r d)
      = (m ((c : Thread nD τ).loc main_arg1)) (ix3 (bat t) r (lane (hd t) d)) := by
  blk_simp [iblk]
  entry_read
  pointwise [bat, row, lane, hd]
  blk_ext [idx t]

/-- What window 2 reads. -/
theorem blk2 (c : Dev nD) (t : Fin cfg0.N) (r : Fin 4096) (d : Fin 128) :
    (iblk m c 2 t : FVec Ideal S1x4096x128 .bf16) (ix3 0 r d)
      = (m ((c : Thread nD τ).loc main_arg2)) (ix3 (bat t) r (lane (hd t) d)) := by
  blk_simp [iblk]
  entry_read
  pointwise [bat, row, lane, hd]
  blk_ext [idx t]

/-- What window 3 reads, in the rows that count. -/
theorem blk3 (c : Dev nD) (t : Fin cfg0.N) (j : Fin 16) (d : Fin 128) :
    (iblk m c 3 t : FVec Ideal S128x128 .bf16) (ix2 ⟨j.val, by omega⟩ d)
      = (m ((c : Thread nD τ).loc main_arg3)) (ix2 j (lane (hd t) d)) := by
  refine Eq.trans ?_ (keys_at m c j (lane (hd t) d))
  blk_simp [iblk]
  refine congrArg (V m c main_v0) ?_
  unfold lane hd
  blk_ext [idx t]

/-- What window 4 reads, in the rows that count. -/
theorem blk4 (c : Dev nD) (t : Fin cfg0.N) (j : Fin 16) (d : Fin 128) :
    (iblk m c 4 t : FVec Ideal S128x128 .bf16) (ix2 ⟨j.val, by omega⟩ d)
      = (m ((c : Thread nD τ).loc main_arg4)) (ix2 j (lane (hd t) d)) := by
  refine Eq.trans ?_ (values_at m c j (lane (hd t) d))
  blk_simp [iblk]
  refine congrArg (V m c main_v1) ?_
  unfold lane hd
  blk_ext [idx t]

/-- What window 5 reads, as the kernel uses it. -/
theorem blk5 (c : Dev nD) (t : Fin cfg0.N) (j : Fin 128) :
    mask ((iblk m c 5 t : FVec Ideal S1x128 .f32) (ix2 0 j)) = if j.val < 16 then (0 : EReal) else ⊥ := by
  refine Eq.trans (congrArg mask ?_) (mask_at m c j)
  blk_simp [iblk]
  refine congrArg (V m c main_v7) ?_
  blk_ext [idx t]

/-- What window 6 reads. -/
theorem blk6 (c : Dev nD) (t : Fin cfg0.N) (i : Fin 4) (j : Fin 128) :
    (iblk m c 6 t : FVec Ideal S4x128 .f32) (ix2 i j) = (V m c main_v20 : FVec Ideal S4x128 .f32) (ix2 i j) := by
  blk_simp [iblk]
  refine congrArg (V m c main_v20) ?_
  blk_ext [idx t]

/-- What window 7 reads. -/
theorem blk7 (c : Dev nD) (t : Fin cfg0.N) (j : Fin 128) :
    (iblk m c 7 t : FVec Ideal S1x128 .f32) (ix2 0 j) = (m ((c : Thread nD τ).loc main_arg9)) (ix2 0 j) := by
  refine Eq.trans ?_ (gain_at m c j)
  blk_simp [iblk]
  refine congrArg (V m c main_v22) ?_
  blk_ext [idx t]

/-- What the loop leaves in row `x`, divided: the attention of that row's query. -/
theorem rowLoop (S : ℕ → FVec Ideal S512x1 .f32 × FVec Ideal S512x1 .f32 × FVec Ideal S512x128 .f32)
    (q : FVec Ideal S1x256x128 .bf16) (X Y : FVec Ideal S1x4096x128 .bf16) (km vm : FVec Ideal S128x128 .bf16)
    (b : FVec Ideal S1x128 .f32) (x : Fin 512) (e : Fin 128)
    (z : S 0 = (k0_pay4 q km b, k0_pay6 q km b, k0_pay7 q km vm b))
    (s : ∀ k : Fin k0_t1_loop.trips, S (k.val + 1) = (k0_pay9 q (S k.val).1 (chunk X k),
      k0_pay12 q (S k.val).1 (S k.val).2.1 (chunk X k), k0_pay13 q (S k.val).1 (S k.val).2.2 (chunk X k) (chunk Y k)))
    (kmr : Fin 16 → Fin 128 → EReal) (kr : Fin 4096 → Fin 128 → EReal) (vmr : Fin 16 → EReal) (vr : Fin 4096 → EReal)
    (hq : ∀ d, IsR (k0_pay2 (F := Ideal) q (ix2 x d))) (hkm : ∀ j d, IsR (kmr j d)) (hk : ∀ r d, IsR (kr r d))
    (ekm : ∀ (j : Fin 16) d, km (ix2 ⟨j.val, by omega⟩ d) = kmr j d) (evm : ∀ j : Fin 16, vm (ix2 ⟨j.val, by omega⟩ e) = vmr j)
    (eb : ∀ j : Fin 128, mask (b (ix2 0 j)) = if j.val < 16 then (0 : EReal) else ⊥)
    (ek : ∀ r d, X (ix3 0 r d) = kr r d) (ev : ∀ r, Y (ix3 0 r e) = vr r) :
    Ideal.div ((S 8).2.2 (ix2 x e)) ((S 8).2.1 (ix2 x 0))
      = soft (fun l => ∑ d, k0_pay2 (F := Ideal) q (ix2 x d) * cat (fun j => kmr j d) (fun j => kr j d) l) (cat vmr vr) := by
  have s' : ∀ c : Fin 8, S (c.val + 1) = _ := fun c => s (Fin.cast trips_eq.symm c)
  refine Cert.Attn.loop (fun d => k0_pay2 (F := Ideal) q (ix2 x d)) kmr kr vmr vr hq hkm hk (fun j d => km (ix2 j d))
    (fun j => vm (ix2 j e)) (fun j => mask (b (ix2 0 j))) (fun c t d => chunk X (Fin.cast trips_eq.symm c) (ix3 0 t d))
    (fun c t => chunk Y (Fin.cast trips_eq.symm c) (ix3 0 t e)) ekm evm eb
    (fun c t d => (chunk_at _ _ _ _).trans (ek _ d)) (fun c t => (chunk_at _ _ _ _).trans (ev _))
    (fun n => (S n).1 (ix2 x 0)) (fun n => (S n).2.1 (ix2 x 0)) (fun n => (S n).2.2 (ix2 x e)) ?_ ?_ ?_ ?_ ?_ ?_
  · simp only [z, pay4_at, pay3_at]
  · intro c
    simp only [s' c, pay9_at, pay8_at, Fin.val_cast]
  · simp only [z, pay6_at, pay5_at, pay3_at]
  · intro c
    simp only [s' c, pay12_at, pay10_at, pay11_at, pay8_at, Fin.val_cast]
  · simp only [z, pay7_at, pay5_at, pay3_at]
  · intro c
    simp only [s' c, pay13_at, pay10_at, pay11_at, pay8_at, Fin.val_cast]

/-- The number of trips, as the loop counts them. -/
theorem count : Scf.trips 0#32 (Scalar.addi 0#32 8#32) 1#32 = 8 := by decide +kernel

/-- The rows of the queries that a point stacks are real where the queries are. -/
theorem stack_real (c : Dev nD) (t : Fin cfg0.N)
    (h0 : ∀ i, IsR ((m ((c : Thread nD τ).loc main_arg0) : FVec Ideal S8x4096x512 .bf16) i)) (r : Fin 256) (d : Fin 128) :
    IsR (k0_pay2 (F := Ideal) (iblk m c 0 t) (ix2 ⟨r.val, by omega⟩ d))
      ∧ IsR (k0_pay2 (F := Ideal) (iblk m c 0 t) (ix2 ⟨256 + r.val, by omega⟩ d)) := by
  rw [pay2_lo, pay2_hi, blk0]
  split
  · exact ⟨h0 _, IsR.zero⟩
  · exact ⟨IsR.zero, h0 _⟩

/-- What the body stores, from what its loop leaves. -/
theorem ofState (c : Dev nD) (t : Fin cfg0.N) (r : Fin 256) (e : Fin 128)
    (h0 : ∀ i, IsR ((m ((c : Thread nD τ).loc main_arg0) : FVec Ideal S8x4096x512 .bf16) i))
    (h1 : ∀ i, IsR ((m ((c : Thread nD τ).loc main_arg1) : FVec Ideal S8x4096x512 .bf16) i))
    (h3 : ∀ i, IsR ((m ((c : Thread nD τ).loc main_arg3) : FVec Ideal S16x512 .bf16) i))
    (S : ℕ → FVec Ideal S512x1 .f32 × FVec Ideal S512x1 .f32 × FVec Ideal S512x128 .f32)
    (z : S 0 = (k0_pay4 (iblk m c 0 t) (iblk m c 3 t) (iblk m c 5 t), k0_pay6 (iblk m c 0 t) (iblk m c 3 t) (iblk m c 5 t),
      k0_pay7 (iblk m c 0 t) (iblk m c 3 t) (iblk m c 4 t) (iblk m c 5 t)))
    (s : ∀ k : Fin k0_t1_loop.trips, S (k.val + 1) = (k0_pay9 (iblk m c 0 t) (S k.val).1 (chunk (iblk m c 1 t) k),
      k0_pay12 (iblk m c 0 t) (S k.val).1 (S k.val).2.1 (chunk (iblk m c 1 t) k),
      k0_pay13 (iblk m c 0 t) (S k.val).1 (S k.val).2.2 (chunk (iblk m c 1 t) k) (chunk (iblk m c 2 t) k))) :
    k0_pay1 (F := Ideal) (S 8).2.2 (k0_pay14 (S 8).2.1) (iblk m c 6 t) (iblk m c 7 t) (ix3 0 r e)
      = G (fun s i n => (m ((c : Thread nD τ).loc main_arg0) : FVec Ideal S8x4096x512 .bf16) (ix3 s i n))
          (fun s i n => (m ((c : Thread nD τ).loc main_arg1) : FVec Ideal S8x4096x512 .bf16) (ix3 s i n))
          (fun s i n => (m ((c : Thread nD τ).loc main_arg2) : FVec Ideal S8x4096x512 .bf16) (ix3 s i n))
          (fun i n => (m ((c : Thread nD τ).loc main_arg3) : FVec Ideal S16x512 .bf16) (ix2 i n))
          (fun i n => (m ((c : Thread nD τ).loc main_arg4) : FVec Ideal S16x512 .bf16) (ix2 i n))
          (fun j => (m ((c : Thread nD τ).loc main_arg5) : FVec Ideal S1x64 .f32) (ix2 0 j))
          (fun j => (m ((c : Thread nD τ).loc main_arg6) : FVec Ideal S1x64 .f32) (ix2 0 j))
          (fun j => (m ((c : Thread nD τ).loc main_arg7) : FVec Ideal S1x64 .f32) (ix2 0 j))
          (fun j => (m ((c : Thread nD τ).loc main_arg8) : FVec Ideal S1x64 .f32) (ix2 0 j))
          (fun j => (m ((c : Thread nD τ).loc main_arg9) : FVec Ideal S1x128 .f32) (ix2 0 j)) (bat t) (row t r) (lane (hd t) e) := by
  refine (pay1_at _ _ _ _ r e).trans ?_
  have row : ∀ (x : Fin 512) (e : Fin 128), (∀ d, IsR (k0_pay2 (F := Ideal) (iblk m c 0 t) (ix2 x d))) → _ :=
    fun x e hq => rowLoop S (iblk m c 0 t) (iblk m c 1 t) (iblk m c 2 t) (iblk m c 3 t) (iblk m c 4 t) (iblk m c 5 t) x e z s
      _ _ _ _ hq (fun j d => h3 (ix2 j (lane (hd t) d))) (fun r d => h1 (ix3 (bat t) r (lane (hd t) d))) (fun j d => blk3 m c t j d)
      (fun j => blk4 m c t j e) (fun j => blk5 m c t j) (fun r d => blk1 m c t r d) (fun r => blk2 m c t r e)
  have lo := fun e => row ⟨r.val, by omega⟩ e fun d => (stack_real m c t h0 r d).1
  have hi := fun e => row ⟨256 + r.val, by omega⟩ e fun d => (stack_real m c t h0 r d).2
  simp only [pay2_lo, pay2_hi, blk0, Cert.AttnB.score_lo, Cert.AttnB.score_hi] at lo hi
  simp only [G, Cert.AttnB.attn, Cert.AttnB.headOf_lane, Cert.AttnB.laneOf_lane, lo, hi, blk7, blk6]
  rw [← lam_fill]
  exact congrArg (fun l => Cert.AttnB.out l _ _ _ e) (lam_congr (vec_0 m c) (vec_1 m c) (vec_2 m c) (vec_3 m c))

/-- What the body stores at a point, at an index of its block, is `G` where that index sits in the array. -/
theorem point (c : Dev nD) (t : Fin cfg0.N) (r : Fin 256) (e : Fin 128)
    (h0 : ∀ i, IsR ((m ((c : Thread nD τ).loc main_arg0) : FVec Ideal S8x4096x512 .bf16) i))
    (h1 : ∀ i, IsR ((m ((c : Thread nD τ).loc main_arg1) : FVec Ideal S8x4096x512 .bf16) i))
    (h3 : ∀ i, IsR ((m ((c : Thread nD τ).loc main_arg3) : FVec Ideal S16x512 .bf16) i)) :
    (outsAt0 m c t : FVec Ideal S1x256x128 .bf16) (ix3 0 r e)
      = G (fun s i n => (m ((c : Thread nD τ).loc main_arg0) : FVec Ideal S8x4096x512 .bf16) (ix3 s i n))
          (fun s i n => (m ((c : Thread nD τ).loc main_arg1) : FVec Ideal S8x4096x512 .bf16) (ix3 s i n))
          (fun s i n => (m ((c : Thread nD τ).loc main_arg2) : FVec Ideal S8x4096x512 .bf16) (ix3 s i n))
          (fun i n => (m ((c : Thread nD τ).loc main_arg3) : FVec Ideal S16x512 .bf16) (ix2 i n))
          (fun i n => (m ((c : Thread nD τ).loc main_arg4) : FVec Ideal S16x512 .bf16) (ix2 i n))
          (fun j => (m ((c : Thread nD τ).loc main_arg5) : FVec Ideal S1x64 .f32) (ix2 0 j))
          (fun j => (m ((c : Thread nD τ).loc main_arg6) : FVec Ideal S1x64 .f32) (ix2 0 j))
          (fun j => (m ((c : Thread nD τ).loc main_arg7) : FVec Ideal S1x64 .f32) (ix2 0 j))
          (fun j => (m ((c : Thread nD τ).loc main_arg8) : FVec Ideal S1x64 .f32) (ix2 0 j))
          (fun j => (m ((c : Thread nD τ).loc main_arg9) : FVec Ideal S1x128 .f32) (ix2 0 j)) (bat t) (row t r) (lane (hd t) e) := by
  unfold outsAt0
  frame_out
  rw [count]
  exact ofState m c t r e h0 h1 h3
    (fun n => st_k0_t1 (F := Ideal) _ _ _ _ _ _ _ _ _ _ _ _ _ _ _ _ _ _ _ _ _ _ _ _ _ _ n)
    (st_k0_t1_zero ..) (fun k => (st_k0_t1_succ ..).trans (trip ..))

/-- The result's array. -/
def res (c : Dev nD) : FVec Ideal S8x4096x512 .bf16 := fun y : S8x4096x512.Idx =>
        G (fun s i n => (m ((c : Thread nD τ).loc main_arg0) : FVec Ideal S8x4096x512 .bf16) (ix3 s i n))
          (fun s i n => (m ((c : Thread nD τ).loc main_arg1) : FVec Ideal S8x4096x512 .bf16) (ix3 s i n))
          (fun s i n => (m ((c : Thread nD τ).loc main_arg2) : FVec Ideal S8x4096x512 .bf16) (ix3 s i n))
          (fun i n => (m ((c : Thread nD τ).loc main_arg3) : FVec Ideal S16x512 .bf16) (ix2 i n))
          (fun i n => (m ((c : Thread nD τ).loc main_arg4) : FVec Ideal S16x512 .bf16) (ix2 i n))
          (fun j => (m ((c : Thread nD τ).loc main_arg5) : FVec Ideal S1x64 .f32) (ix2 0 j))
          (fun j => (m ((c : Thread nD τ).loc main_arg6) : FVec Ideal S1x64 .f32) (ix2 0 j))
          (fun j => (m ((c : Thread nD τ).loc main_arg7) : FVec Ideal S1x64 .f32) (ix2 0 j))
          (fun j => (m ((c : Thread nD τ).loc main_arg8) : FVec Ideal S1x64 .f32) (ix2 0 j))
          (fun j => (m ((c : Thread nD τ).loc main_arg9) : FVec Ideal S1x128 .f32) (ix2 0 j)) (y 0) (y 1) (y 2)

/-- What the body stores at a point is the result's array there. -/
theorem stored (c : Dev nD) (t : Fin cfg0.N) (y : S1x256x128.Idx)
    (h0 : ∀ i, IsR ((m ((c : Thread nD τ).loc main_arg0) : FVec Ideal S8x4096x512 .bf16) i))
    (h1 : ∀ i, IsR ((m ((c : Thread nD τ).loc main_arg1) : FVec Ideal S8x4096x512 .bf16) i))
    (h3 : ∀ i, IsR ((m ((c : Thread nD τ).loc main_arg3) : FVec Ideal S16x512 .bf16) i)) :
    (outsAt0 m c t : FVec Ideal S1x256x128 .bf16) y = res m c (((cfg0.win 8).blk t).view.emb y) := by
  obtain ⟨z, r, e, rfl⟩ : ∃ (z : Fin 1) (r : Fin 256) (e : Fin 128), y = ix3 z r e := ⟨y 0, y 1, y 2, eq_ix3 y⟩
  obtain rfl : z = 0 := Subsingleton.elim _ _
  have w : ((cfg0.win 8).blk t).view.emb (ix3 0 r e) = (ix3 (bat t) (row t r) (lane (hd t) e) : S8x4096x512.Idx) := by
    unfold bat row lane hd
    blk_ext [idx t]
  rw [w]
  exact point m c t r e h0 h1 h3

/-- The result array after the run. -/
theorem final (c : Dev nD)
    (h0 : ∀ i, IsR ((m ((c : Thread nD τ).loc main_arg0) : FVec Ideal S8x4096x512 .bf16) i))
    (h1 : ∀ i, IsR ((m ((c : Thread nD τ).loc main_arg1) : FVec Ideal S8x4096x512 .bf16) i))
    (h3 : ∀ i, IsR ((m ((c : Thread nD τ).loc main_arg3) : FVec Ideal S16x512 .bf16) i)) :
    (dats m 0 c).arrAt 8 cfg0.N = res m c := by
  refine (dats m 0 c).arrAt_eq_of_covers 8 _ (by decide +kernel) fun t _ y => ?_
  blk_simp
  rw [after0_8]
  exact stored m c t y h0 h1 h3

end Cert.KernelBIdeal.AttnB

end
-- ==== Proof.AttnBRef.lean ====
/- The differential attention reference's result, read at an index. -/
module

public import proofs.«01_k».proof.Proof.AttnBPure
public import proofs.«01_k».proof.Proof.Gen.ReferenceBIdeal.Run

@[expose] public section

set_option maxRecDepth 16384

noncomputable section

namespace Cert.ReferenceBIdeal.AttnB

open Cert.ReferenceBIdeal Cert.ReferenceBIdeal.Gen Idealize.ShloMosaic Idealize.ShloMosaic.TcCoe Idealize.SL.Sem
open Cert.Attn Cert.AttnB

/-- The leading rows in front of every batch entry's rows. -/
def rcat (a : FVec Ideal S16x512 .bf16) (b : FVec Ideal S8x4096x512 .bf16) : FVec Ideal S8x4112x512 .f32 :=
  concatenate S8x4112x512 1 [⟨S8x16x512, (broadcastInDim S8x16x512 ![0, 1, 2] bcast_S1x16x512_S8x16x512_0_1_2
      (broadcastInDim S1x16x512 ![1, 2] bcast_S16x512_S1x16x512_1_2 (extf .f32 a bitsLt_bf16_f32)))⟩,
    ⟨S8x4096x512, (extf .f32 b bitsLt_bf16_f32)⟩] concatenates_S8x16x512_S8x4096x512_S8x4112x512_d1

/-- The scores, of the exponential function. -/
def rsc (q k : FVec Ideal S8x4096x512 .bf16) (km : FVec Ideal S16x512 .bf16) : FVec Ideal S8x4x2x4096x4112 .f32 :=
  mulf (Host.dotGeneral dot_S8x4096x4x2x64_S8x4112x4x2x64_S8x4x2x4096x4112_4_4_1_1_023_023 none
      (shapeCast S8x4096x4x2x64 (extf .f32 q bitsLt_bf16_f32) shapeCasts_S8x4096x512_S8x4096x4x2x64)
      (shapeCast S8x4112x4x2x64 (rcat km k) shapeCasts_S8x4112x512_S8x4112x4x2x64))
    (broadcastInDim S8x4x2x4096x4112 ![] bcast_S_S8x4x2x4096x4112 (Host.log (constant S_ .f32 0x40000000#32)))

/-- The maximum of the scores. -/
def rmax (s : FVec Ideal S8x4x2x4096x4112 .f32) : FVec Ideal S8x4x2x4096 .f32 :=
  Host.reduce FloatOps.maximumf s (constant S_ .f32 0xFF800000#32) reducesTo_S8x4x2x4096x4112_S8x4x2x4096_d4 h_S_

/-- The exponentials of the scores less a maximum. -/
def rexp (s : FVec Ideal S8x4x2x4096x4112 .f32) (M : FVec Ideal S8x4x2x4096 .f32) : FVec Ideal S8x4x2x4096x4112 .f32 :=
  Host.exp (subf s (broadcastInDim S8x4x2x4096x4112 ![0, 1, 2, 3, 4] bcast_S8x4x2x4096x1_S8x4x2x4096x4112_0_1_2_3_4
    (broadcastInDim S8x4x2x4096x1 ![0, 1, 2, 3] bcast_S8x4x2x4096_S8x4x2x4096x1_0_1_2_3
      (maximumf (broadcastInDim S8x4x2x4096 ![] bcast_S_S8x4x2x4096 (constant S_ .f32 0xFF800000#32))
        M))))

/-- The softmax's weights, of the exponentials. -/
def rsoft (s : FVec Ideal S8x4x2x4096x4112 .f32) : FVec Ideal S8x4x2x4096x4112 .f32 :=
  Host.divf s (broadcastInDim S8x4x2x4096x4112 ![0, 1, 2, 3, 4] bcast_S8x4x2x4096x1_S8x4x2x4096x4112_0_1_2_3_4
    (broadcastInDim S8x4x2x4096x1 ![0, 1, 2, 3] bcast_S8x4x2x4096_S8x4x2x4096x1_0_1_2_3
      (Host.reduceAdd s (constant S_ .f32 0x00000000#32) reducesTo_S8x4x2x4096x4112_S8x4x2x4096_d4 h_S_)))

/-- The weights of the queries' scores. -/
def rweights (q k : FVec Ideal S8x4096x512 .bf16) (km : FVec Ideal S16x512 .bf16) : FVec Ideal S8x4x2x4096x4112 .f32 :=
  rsoft (rexp (rsc q k km) (rmax (rsc q k km)))

/-- The factor of the second softmax. -/
def rlam (a b c d : FVec Ideal S1x64 .f32) : FVec Ideal S_ .f32 :=
  addf (subf
      (Host.exp (Host.reduceAdd (mulf (shapeCast S64 a shapeCasts_S1x64_S64) (shapeCast S64 b shapeCasts_S1x64_S64))
        (constant S_ .f32 0x00000000#32) reducesTo_S64_S_d0 h_S_))
      (Host.exp (Host.reduceAdd (mulf (shapeCast S64 c shapeCasts_S1x64_S64) (shapeCast S64 d shapeCasts_S1x64_S64))
        (constant S_ .f32 0x00000000#32) reducesTo_S64_S_d0 h_S_)))
    (constant S_ .f32 0x3E4CCCCD#32)

/-- The difference of the weights. -/
def rdiff (p : FVec Ideal S8x4x2x4096x4112 .f32) (l : FVec Ideal S_ .f32) : FVec Ideal S8x4x4096x4112 .f32 :=
  subf (shapeCast S8x4x4096x4112
      (extractStridedSlice S8x4x1x4096x4112 ![0, 0, 0, 0, 0] p slices_S8x4x2x4096x4112_S8x4x1x4096x4112_0_0_0_0_0)
      shapeCasts_S8x4x1x4096x4112_S8x4x4096x4112)
    (mulf (broadcastInDim S8x4x4096x4112 ![] bcast_S_S8x4x4096x4112 l) (shapeCast S8x4x4096x4112
      (extractStridedSlice S8x4x1x4096x4112 ![0, 0, 1, 0, 0] p slices_S8x4x2x4096x4112_S8x4x1x4096x4112_0_0_1_0_0)
      shapeCasts_S8x4x1x4096x4112_S8x4x4096x4112))

/-- The values' sums under the difference. -/
def rsum (w : FVec Ideal S8x4x4096x4112 .f32) (v : FVec Ideal S8x4112x512 .f32) : FVec Ideal S8x4096x4x128 .f32 :=
  transpose S8x4096x4x128 [0, 3, 1, 2]
    (Host.dotGeneral (φ₁ := .f32) (φ₂ := .f32) dot_S8x4112x4x128_S8x4x4096x4112_S8x4x128x4096_1_3_3_2_02_01 none
      (shapeCast S8x4112x4x128 v shapeCasts_S8x4112x512_S8x4112x4x128) w)
    transposes_S8x4x128x4096_S8x4096x4x128_0_3_1_2

/-- Their norm over the lanes, scaled. -/
def rnorm (o : FVec Ideal S8x4096x4x128 .f32) (g : FVec Ideal S1x128 .f32) : FVec Ideal S8x4096x512 .bf16 :=
  truncf .bf16 (shapeCast S8x4096x512 (mulf (mulf (mulf o (broadcastInDim S8x4096x4x128 ![0, 1, 2, 3] bcast_S8x4096x4x1_S8x4096x4x128_0_1_2_3
      (Host.rsqrt (addf (Host.divf (broadcastInDim S8x4096x4x1 ![0, 1, 2] bcast_S8x4096x4_S8x4096x4x1_0_1_2
        (Host.reduceAdd (mulf o o) (constant S_ .f32 0x00000000#32) reducesTo_S8x4096x4x128_S8x4096x4_d3 h_S_))
        (broadcastInDim S8x4096x4x1 ![] bcast_S_S8x4096x4x1 (constant S_ .f32 0x43000000#32)))
        (broadcastInDim S8x4096x4x1 ![] bcast_S_S8x4096x4x1 (constant S_ .f32 0x358637BD#32))))))
      (broadcastInDim S8x4096x4x128 ![0, 1, 2, 3] bcast_S1x1x1x128_S8x4096x4x128_0_1_2_3
        (broadcastInDim S1x1x1x128 ![3] bcast_S128_S1x1x1x128_3 (shapeCast S128 g shapeCasts_S1x128_S128))))
      (broadcastInDim S8x4096x4x128 ![] bcast_S_S8x4096x4x128 (constant S_ .f32 0x3F4CCCCD#32)))
    shapeCasts_S8x4096x4x128_S8x4096x512) bitsLt_bf16_f32

/-- The reference's result, from these steps. -/
theorem res_eq (m : (ℓ : Loc nD τ sig) → Buf (Elt Ideal) ℓ) (c : Dev nD) :
    Value.res_out0 (F := Ideal) m c
      = rnorm (rsum (rdiff (rweights (m ((c.tc : Thread nD τ).loc main_arg0)) (m ((c.tc : Thread nD τ).loc main_arg1))
            (m ((c.tc : Thread nD τ).loc main_arg3)))
          (rlam (m ((c.tc : Thread nD τ).loc main_arg5)) (m ((c.tc : Thread nD τ).loc main_arg6))
            (m ((c.tc : Thread nD τ).loc main_arg7)) (m ((c.tc : Thread nD τ).loc main_arg8))))
          (rcat (m ((c.tc : Thread nD τ).loc main_arg4)) (m ((c.tc : Thread nD τ).loc main_arg2))))
        (m ((c.tc : Thread nD τ).loc main_arg9)) := rfl

/-- A row of the leading rows and those after them. -/
theorem rcat_at (a : FVec Ideal S16x512 .bf16) (b : FVec Ideal S8x4096x512 .bf16) (s : Fin 8) (l : Fin 4112) (n : Fin 512) :
    rcat a b (ix3 s l n) = cat (fun i => a (ix2 i n)) (fun i => b (ix3 s i n)) l := by
  pointwise [rcat, cat]

/-- A score. -/
theorem rsc_at (q k : FVec Ideal S8x4096x512 .bf16) (km : FVec Ideal S16x512 .bf16) (s : Fin 8) (h : Fin 4) (j : Fin 2)
    (i : Fin 4096) (l : Fin 4112) :
    rsc q k km (ix5 s h j i l)
      = score (fun d => q (ix3 s i (lane h d))) (fun r d => km (ix2 r (lane h d))) (fun r d => k (ix3 s r (lane h d))) j l
        * Ideal.log (Ideal.ofBits .f32 0x40000000#32) := by
  pointwise [rsc, score]
  refine congrArg (· * _) (Finset.sum_congr rfl fun d _ => ?_)
  have e : (⟨h.val * 128 + j.val * 64 + d.val, by omega⟩ : Fin 512) = lane h (half j d) :=
    Fin.ext (by simp only [lane, half]; omega)
  rw [rcat_at, e]

/-- The maximum. -/
theorem rmax_at (x : FVec Ideal S8x4x2x4096x4112 .f32) (s : Fin 8) (h : Fin 4) (j : Fin 2) (i : Fin 4096) :
    rmax x (ix4 s h j i) = Finset.univ.fold max ⊥ fun l => x (ix5 s h j i l) :=
  rowMax x reducesTo_S8x4x2x4096x4112_S8x4x2x4096_d4 h_S_ s h j i

/-- An exponential. -/
theorem rexp_at (x : FVec Ideal S8x4x2x4096x4112 .f32) (M : FVec Ideal S8x4x2x4096 .f32) (s : Fin 8) (h : Fin 4) (j : Fin 2)
    (i : Fin 4096) (l : Fin 4112) :
    rexp x M (ix5 s h j i l) = Ideal.exp (x (ix5 s h j i l) - max ⊥ (M (ix4 s h j i))) := by
  pointwise [rexp]
  rw [negInfWord]

/-- A weight, from the exponentials. -/
theorem rsoft_at (x : FVec Ideal S8x4x2x4096x4112 .f32) (s : Fin 8) (h : Fin 4) (j : Fin 2) (i : Fin 4096) (l : Fin 4112) :
    rsoft x (ix5 s h j i l) = Ideal.div (x (ix5 s h j i l)) (∑ l, x (ix5 s h j i l)) := by
  pointwise [rsoft]

/-- The factor. -/
theorem rlam_at (a b c d : FVec Ideal S1x64 .f32) (z : S_.Idx) :
    rlam a b c d z = lam (fun j => a (ix2 0 j)) (fun j => b (ix2 0 j)) (fun j => c (ix2 0 j)) (fun j => d (ix2 0 j)) := by
  pointwise [rlam, lam]

/-- A difference of weights. -/
theorem rdiff_at (p : FVec Ideal S8x4x2x4096x4112 .f32) (x : FVec Ideal S_ .f32) (s : Fin 8) (h : Fin 4) (i : Fin 4096)
    (l : Fin 4112) :
    rdiff p x (ix4 s h i l) = p (ix5 s h 0 i l) - x ix0 * p (ix5 s h 1 i l) := by
  pointwise [rdiff]

/-- A sum of the values. -/
theorem rsum_at (w : FVec Ideal S8x4x4096x4112 .f32) (v : FVec Ideal S8x4112x512 .f32) (s : Fin 8) (h : Fin 4) (i : Fin 4096)
    (e : Fin 128) :
    rsum w v (ix4 s i h e) = ∑ l, v (ix3 s l (lane h e)) * w (ix4 s h i l) := by
  pointwise [rsum, lane]

/-- The norm. -/
theorem rnorm_at (o : FVec Ideal S8x4096x4x128 .f32) (g : FVec Ideal S1x128 .f32) (s : Fin 8) (h : Fin 4) (i : Fin 4096)
    (e : Fin 128) :
    rnorm o g (ix3 s i (lane h e))
      = o (ix4 s i h e)
        * Ideal.rsqrt (Ideal.div (∑ j, o (ix4 s i h j) * o (ix4 s i h j)) (Ideal.ofBits .f32 0x43000000#32)
          + Ideal.ofBits .f32 0x358637BD#32)
        * g (ix2 0 e) * Ideal.ofBits .f32 0x3F4CCCCD#32 := by
  pointwise [rnorm, lane]

/-- The reference's result, at an index. -/
theorem res_at (m : (ℓ : Loc nD τ sig) → Buf (Elt Ideal) ℓ) (c : Dev nD)
    (q k v : Fin 8 → Fin 4096 → Fin 512 → EReal) (km vm : Fin 16 → Fin 512 → EReal) (l1 l2 l3 l4 : Fin 64 → EReal)
    (g : Fin 128 → EReal)
    (e0 : ∀ s i n, (m ((c.tc : Thread nD τ).loc main_arg0) : FVec Ideal S8x4096x512 .bf16) (ix3 s i n) = q s i n)
    (e1 : ∀ s i n, (m ((c.tc : Thread nD τ).loc main_arg1) : FVec Ideal S8x4096x512 .bf16) (ix3 s i n) = k s i n)
    (e2 : ∀ s i n, (m ((c.tc : Thread nD τ).loc main_arg2) : FVec Ideal S8x4096x512 .bf16) (ix3 s i n) = v s i n)
    (e3 : ∀ i n, (m ((c.tc : Thread nD τ).loc main_arg3) : FVec Ideal S16x512 .bf16) (ix2 i n) = km i n)
    (e4 : ∀ i n, (m ((c.tc : Thread nD τ).loc main_arg4) : FVec Ideal S16x512 .bf16) (ix2 i n) = vm i n)
    (e5 : ∀ j, (m ((c.tc : Thread nD τ).loc main_arg5) : FVec Ideal S1x64 .f32) (ix2 0 j) = l1 j)
    (e6 : ∀ j, (m ((c.tc : Thread nD τ).loc main_arg6) : FVec Ideal S1x64 .f32) (ix2 0 j) = l2 j)
    (e7 : ∀ j, (m ((c.tc : Thread nD τ).loc main_arg7) : FVec Ideal S1x64 .f32) (ix2 0 j) = l3 j)
    (e8 : ∀ j, (m ((c.tc : Thread nD τ).loc main_arg8) : FVec Ideal S1x64 .f32) (ix2 0 j) = l4 j)
    (e9 : ∀ j, (m ((c.tc : Thread nD τ).loc main_arg9) : FVec Ideal S1x128 .f32) (ix2 0 j) = g j)
    (h0 : ∀ s i n, IsR (q s i n)) (h1 : ∀ s i n, IsR (k s i n)) (h2 : ∀ s i n, IsR (v s i n)) (h3 : ∀ i n, IsR (km i n))
    (h4 : ∀ i n, IsR (vm i n)) (h5 : ∀ j, IsR (l1 j)) (h6 : ∀ j, IsR (l2 j)) (h7 : ∀ j, IsR (l3 j)) (h8 : ∀ j, IsR (l4 j))
    (s : Fin 8) (i : Fin 4096) (n : Fin 512) :
    (Value.res_out0 (F := Ideal) m c : FVec Ideal S8x4096x512 .bf16) (ix3 s i n) = G q k v km vm l1 l2 l3 l4 g s i n := by
  rw [res_eq]
  obtain ⟨h, e, rfl⟩ : ∃ h e, n = lane h e := ⟨headOf n, laneOf n, (lane_of n).symm⟩
  rw [rnorm_at]
  simp only [G, attn, out, headOf_lane, laneOf_lane]
  have hs : ∀ j l, IsR (score (fun x => q s i (lane h x)) (fun r x => km r (lane h x)) (fun r x => k s r (lane h x)) j l) :=
    fun j l => score_real (fun _ => h0 _ _ _) (fun _ _ => h3 _ _) (fun _ _ => h1 _ _ _) j l
  have hp : ∀ j l, rweights (m ((c.tc : Thread nD τ).loc main_arg0)) (m ((c.tc : Thread nD τ).loc main_arg1))
      (m ((c.tc : Thread nD τ).loc main_arg3)) (ix5 s h j i l)
      = wt (score (fun x => q s i (lane h x)) (fun r x => km r (lane h x)) (fun r x => k s r (lane h x)) j) l := fun j l => by
    rw [rweights, rsoft_at]
    simp only [rexp_at, rmax_at, rsc_at, e0, e1, e3]
    exact softmax_eq _ (hs j) l
  have ho : ∀ e, rsum (rdiff (rweights (m ((c.tc : Thread nD τ).loc main_arg0)) (m ((c.tc : Thread nD τ).loc main_arg1))
            (m ((c.tc : Thread nD τ).loc main_arg3)))
          (rlam (m ((c.tc : Thread nD τ).loc main_arg5)) (m ((c.tc : Thread nD τ).loc main_arg6))
            (m ((c.tc : Thread nD τ).loc main_arg7)) (m ((c.tc : Thread nD τ).loc main_arg8))))
          (rcat (m ((c.tc : Thread nD τ).loc main_arg4)) (m ((c.tc : Thread nD τ).loc main_arg2))) (ix4 s i h e)
      = soft (score (fun x => q s i (lane h x)) (fun r x => km r (lane h x)) (fun r x => k s r (lane h x)) 0)
          (cat (fun i => vm i (lane h e)) fun i => v s i (lane h e))
        - lam l1 l2 l3 l4 * soft (score (fun x => q s i (lane h x)) (fun r x => km r (lane h x)) (fun r x => k s r (lane h x)) 1)
          (cat (fun i => vm i (lane h e)) fun i => v s i (lane h e)) := fun e => by
    rw [rsum_at, ← soft_sub _ _ _ (fun l => IsR.cat (fun _ => h4 _ _) (fun _ => h2 _ _ _) l) _ (lam_real h5 h6 h7 h8)]
    refine Finset.sum_congr rfl fun l _ => ?_
    rw [rcat_at, rdiff_at, hp, hp, rlam_at]
    simp only [e2, e4, e5, e6, e7, e8]
  simp only [ho, e9]

end Cert.ReferenceBIdeal.AttnB

end
-- ==== Proof.AttnBClaim.lean ====
/- The differential attention kernel and its reference end with the same array. -/
module

public import proofs.«01_k».proof.Defs
public import proofs.«01_k».proof.Proof.Finite
public import proofs.«01_k».proof.Proof.AttnBKernel
public import proofs.«01_k».proof.Proof.AttnBRef
public import proofs.«01_k».proof.Proof.Gen.Pre_finite_b

@[expose] public section

set_option maxRecDepth 16384

noncomputable section

namespace Cert.Proof.AttnBClaim

open Idealize.ShloMosaic Idealize.SL.Sem Cert.KernelBIdeal
open Cert.Attn (IsR real_of)

/-- The precondition says that these arrays are real. -/
theorem real (m : (ℓ : Loc nD τ sig) → Buf (Elt Ideal) ℓ) (h : Cert.Pre_KernelBIdeal_finite_b m) (c : Dev nD) :
    (∀ i, IsR ((m ((c.tc : Thread nD τ).loc main_arg0) : FVec Ideal S8x4096x512 .bf16) i))
    ∧ (∀ i, IsR ((m ((c.tc : Thread nD τ).loc main_arg1) : FVec Ideal S8x4096x512 .bf16) i))
    ∧ (∀ i, IsR ((m ((c.tc : Thread nD τ).loc main_arg2) : FVec Ideal S8x4096x512 .bf16) i))
    ∧ (∀ i, IsR ((m ((c.tc : Thread nD τ).loc main_arg3) : FVec Ideal S16x512 .bf16) i))
    ∧ (∀ i, IsR ((m ((c.tc : Thread nD τ).loc main_arg4) : FVec Ideal S16x512 .bf16) i))
    ∧ (∀ i, IsR ((m ((c.tc : Thread nD τ).loc main_arg5) : FVec Ideal S1x64 .f32) i))
    ∧ (∀ i, IsR ((m ((c.tc : Thread nD τ).loc main_arg6) : FVec Ideal S1x64 .f32) i))
    ∧ (∀ i, IsR ((m ((c.tc : Thread nD τ).loc main_arg7) : FVec Ideal S1x64 .f32) i))
    ∧ (∀ i, IsR ((m ((c.tc : Thread nD τ).loc main_arg8) : FVec Ideal S1x64 .f32) i)) := by
  have e := congrFun (h c) ix0
  dsimp only [Cert.Pre_finite_b.fn, Cert.Pre_finite_b.fn_part1, Cert.Pre_finite_b.fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of _ _ _ _ _ e0, real_of _ _ _ _ _ e1, real_of _ _ _ _ _ e2, real_of _ _ _ _ _ e3, real_of _ _ _ _ _ e4,
    real_of _ _ _ _ _ e5, real_of _ _ _ _ _ e6, real_of _ _ _ _ _ e7, real_of _ _ _ _ _ e8⟩

/-- At `Ideal` the kernel and its reference end with the same array. -/
theorem algebraic : Cert.algebraic_KernelBIdeal_ReferenceBIdeal_pre_finite_b := by
  intro m ρ m' ρ' hpre hag
  refine ⟨fun c => AttnB.res m c,
    (θ_run _ _ _).mono (fun _ h c => ⟨(h c).1.trans (AttnB.final m c (real m hpre c).1 (real m hpre c).2.1 (real m hpre c).2.2.2.1), (h c).2⟩)
      (Cert.KernelBIdeal.Value.run_blocks m ρ),
    (θ_run _ _ _).mono (fun _ h c => ⟨(h c).1.trans ?_, (h c).2⟩) (Cert.ReferenceBIdeal.Value.run m' ρ')⟩
  obtain ⟨r0, r1, r2, r3, r4, r5, r6, r7, r8⟩ := real m hpre c
  obtain ⟨h0, h1, h2, h3, h4, h5, h6, h7, h8, h9⟩ := hag c
  funext y
  obtain ⟨s, i, n, rfl⟩ : ∃ (s : Fin 8) (i : Fin 4096) (n : Fin 512), y = (ix3 s i n : S8x4096x512.Idx) :=
    ⟨y 0, y 1, y 2, eq_ix3 y⟩
  exact Cert.ReferenceBIdeal.AttnB.res_at m' c _ _ _ _ _ _ _ _ _ _
    (fun s i n => congrFun h0 (ix3 s i n)) (fun s i n => congrFun h1 (ix3 s i n)) (fun s i n => congrFun h2 (ix3 s i n))
    (fun i n => congrFun h3 (ix2 i n)) (fun i n => congrFun h4 (ix2 i n)) (fun j => congrFun h5 (ix2 0 j))
    (fun j => congrFun h6 (ix2 0 j)) (fun j => congrFun h7 (ix2 0 j)) (fun j => congrFun h8 (ix2 0 j))
    (fun j => congrFun h9 (ix2 0 j))
    (fun s i n => r0 _) (fun s i n => r1 _) (fun s i n => r2 _) (fun i n => r3 _) (fun i n => r4 _)
    (fun j => r5 _) (fun j => r6 _) (fun j => r7 _) (fun j => r8 _) s i n

end Cert.Proof.AttnBClaim

end
-- ==== Proof.Frames.lean ====
/- The frames: every program of the claim ends with its arguments as launched and its counters at zero. -/
module

public import proofs.«01_k».proof.Defs
public import proofs.«01_k».proof.Proof.Gen.KernelA.Frame
public import proofs.«01_k».proof.Proof.Gen.KernelB.Frame
public import proofs.«01_k».proof.Proof.Gen.KernelC.Frame
public import proofs.«01_k».proof.Proof.Gen.KernelD.Frame
public import proofs.«01_k».proof.Proof.Gen.KernelAIdeal.Frame
public import proofs.«01_k».proof.Proof.Gen.KernelBIdeal.Frame
public import proofs.«01_k».proof.Proof.Gen.KernelCIdeal.Frame
public import proofs.«01_k».proof.Proof.Gen.KernelDIdeal.Frame
public import proofs.«01_k».proof.Proof.Gen.ReferenceAIdeal.Run
public import proofs.«01_k».proof.Proof.Gen.ReferenceBIdeal.Run
public import proofs.«01_k».proof.Proof.Gen.ReferenceCIdeal.Run
public import proofs.«01_k».proof.Proof.Gen.ReferenceDIdeal.Run

@[expose] public section

noncomputable section

namespace Cert.Proof.Frames

open Idealize.ShloMosaic Idealize.SL.Sem

theorem kB : Cert.quiescent_KernelB := fun m ρ _ => Cert.KernelB.Gen.frame m ρ
theorem kBI : Cert.quiescent_KernelBIdeal := fun m ρ _ => Cert.KernelBIdeal.Gen.frame m ρ
theorem kA : Cert.quiescent_KernelA := fun m ρ _ => Cert.KernelA.Gen.frame m ρ
theorem kAI : Cert.quiescent_KernelAIdeal := fun m ρ _ => Cert.KernelAIdeal.Gen.frame m ρ
theorem kC : Cert.quiescent_KernelC := fun m ρ _ => Cert.KernelC.Gen.frame m ρ
theorem kCI : Cert.quiescent_KernelCIdeal := fun m ρ _ => Cert.KernelCIdeal.Gen.frame m ρ
theorem kD : Cert.quiescent_KernelD := fun m ρ _ => Cert.KernelD.Gen.frame m ρ
theorem kDI : Cert.quiescent_KernelDIdeal := fun m ρ _ => Cert.KernelDIdeal.Gen.frame m ρ

/-- The references' frames: their runs read at the arguments; they declare no semaphore. -/
theorem rB : Cert.quiescent_ReferenceBIdeal := fun m ρ _ =>
  (θ_run Cert.ReferenceBIdeal.defs _ _).mono (fun r h => ⟨fun c => (h c).2, sem_eq_zero_of_no_sems (by decide) r.2⟩)
    (Cert.ReferenceBIdeal.Value.run (F := Ideal) m ρ)
theorem rA : Cert.quiescent_ReferenceAIdeal := fun m ρ _ =>
  (θ_run Cert.ReferenceAIdeal.defs _ _).mono (fun r h => ⟨fun c => (h c).2, sem_eq_zero_of_no_sems (by decide) r.2⟩)
    (Cert.ReferenceAIdeal.Value.run (F := Ideal) m ρ)
theorem rC : Cert.quiescent_ReferenceCIdeal := fun m ρ _ =>
  (θ_run Cert.ReferenceCIdeal.defs _ _).mono (fun r h => ⟨fun c => (h c).2, sem_eq_zero_of_no_sems (by decide) r.2⟩)
    (Cert.ReferenceCIdeal.Value.run (F := Ideal) m ρ)
theorem rD : Cert.quiescent_ReferenceDIdeal := fun m ρ _ =>
  (θ_run Cert.ReferenceDIdeal.defs _ _).mono (fun r h => ⟨fun c => (h c).2.2.2.2.2.2, sem_eq_zero_of_no_sems (by decide) r.2⟩)
    (Cert.ReferenceDIdeal.Value.run (F := Ideal) m ρ)

end Cert.Proof.Frames

end
-- ==== Proof.PostPure.lean ====
/- The post-attention call of the layer, row by row: the residual with the projected attention outputs, the RMS norm, the
   gated feed-forward step. `post` is one row's result as a function of that row's inputs and the weights; the kernel's
   payload and the reference's composed term are both read to it, each in its own module. -/
module

public import Idealize.ShloMosaic.Lib.Pointwise
public import Idealize.ShloMosaic.Lib.IdealHost

@[expose] public section

noncomputable section

namespace Cert.PostRow

open Idealize.ShloMosaic

/-- The residual row: the input plus the two attention outputs through their halves of the output projection. -/
def mid (x : Fin 1024 → EReal) (a b : Fin 512 → EReal) (wa wb : Fin 512 → Fin 1024 → EReal) (n : Fin 1024) : EReal :=
  x n + ∑ k, a k * wa k n + ∑ k, b k * wb k n

/-- The RMS norm of a row, with gain `g`. -/
def nrm (y g : Fin 1024 → EReal) (n : Fin 1024) : EReal :=
  y n * Ideal.rsqrt (Ideal.div (∑ k, y k * y k) (Ideal.ofBits .f32 0x44800000#32) + Ideal.ofBits .f32 0x358637BD#32) * g n

/-- One hidden entry of the gated feed-forward step. -/
def act (u : Fin 1024 → EReal) (wg wu : Fin 1024 → Fin 2816 → EReal) (f : Fin 2816) : EReal :=
  (∑ k, u k * wg k f) * Ideal.logistic (∑ k, u k * wg k f) * ∑ k, u k * wu k f

/-- One row of the call's result. -/
def post (x : Fin 1024 → EReal) (a b : Fin 512 → EReal) (wa wb : Fin 512 → Fin 1024 → EReal) (g : Fin 1024 → EReal)
    (wg wu : Fin 1024 → Fin 2816 → EReal) (wd : Fin 2816 → Fin 1024 → EReal) (n : Fin 1024) : EReal :=
  mid x a b wa wb n + ∑ f, act (nrm (mid x a b wa wb) g) wg wu f * wd f n

/-- A row's result depends on its inputs entry by entry. -/
theorem post_congr {x x' : Fin 1024 → EReal} {a a' b b' : Fin 512 → EReal} {wa wa' wb wb' : Fin 512 → Fin 1024 → EReal}
    {g g' : Fin 1024 → EReal} {wg wg' wu wu' : Fin 1024 → Fin 2816 → EReal} {wd wd' : Fin 2816 → Fin 1024 → EReal}
    {n n' : Fin 1024} (hx : ∀ k, x k = x' k) (ha : ∀ k, a k = a' k) (hb : ∀ k, b k = b' k)
    (hwa : ∀ k l, wa k l = wa' k l) (hwb : ∀ k l, wb k l = wb' k l) (hg : ∀ k, g k = g' k)
    (hwg : ∀ k l, wg k l = wg' k l) (hwu : ∀ k l, wu k l = wu' k l) (hwd : ∀ k l, wd k l = wd' k l) (hn : n = n') :
    post x a b wa wb g wg wu wd n = post x' a' b' wa' wb' g' wg' wu' wd' n' := by
  obtain rfl : x = x' := funext hx
  obtain rfl : a = a' := funext ha
  obtain rfl : b = b' := funext hb
  obtain rfl : wa = wa' := funext fun k => funext (hwa k)
  obtain rfl : wb = wb' := funext fun k => funext (hwb k)
  obtain rfl : g = g' := funext hg
  obtain rfl : wg = wg' := funext fun k => funext (hwg k)
  obtain rfl : wu = wu' := funext fun k => funext (hwu k)
  obtain rfl : wd = wd' := funext fun k => funext (hwd k)
  rw [hn]

end Cert.PostRow

end
-- ==== Proof.PostKernel.lean ====
/- The post-attention kernel's stored block, and from it its result array, as rows of `PostRow.post`. -/
module

public import proofs.«01_k».proof.Proof.PostPure
public import proofs.«01_k».proof.Proof.Gen.KernelCIdeal.Value
public import Idealize.ShloMosaic.Lib.Pipeline.ValueKit

@[expose] public section

set_option maxRecDepth 16384

noncomputable section

namespace Cert.KernelCIdeal.Post

open Cert.KernelCIdeal Cert.KernelCIdeal.Gen Idealize.ShloMosaic Idealize.ShloMosaic.TcCoe Idealize.SL.Sem
open Idealize.ShloMosaic.Pipeline (Dat)
open Cert.PostRow

/-- The residual rows of a block. -/
theorem pay2_at (x : FVec Ideal S512x1024 .f32) (a b : FVec Ideal S512x512 .bf16) (wa wb : FVec Ideal S512x1024 .bf16)
    (r : Fin 512) (n : Fin 1024) :
    k0_pay2 (F := Ideal) x a wa b wb (ix2 r n)
      = mid (fun n => x (ix2 r n)) (fun k => a (ix2 r k)) (fun k => b (ix2 r k)) (fun k n => wa (ix2 k n))
          (fun k n => wb (ix2 k n)) n := by
  pointwise [k0_pay2, mid]

/-- The normalised rows of a block. -/
theorem pay3_at (x : FVec Ideal S512x1024 .f32) (a b : FVec Ideal S512x512 .bf16) (wa wb : FVec Ideal S512x1024 .bf16)
    (g : FVec Ideal S1x1024 .f32) (r : Fin 512) (n : Fin 1024) :
    k0_pay3 (F := Ideal) x a wa b wb g (ix2 r n)
      = nrm (mid (fun n => x (ix2 r n)) (fun k => a (ix2 r k)) (fun k => b (ix2 r k)) (fun k n => wa (ix2 k n))
          (fun k n => wb (ix2 k n))) (fun n => g (ix2 0 n)) n := by
  pointwise [k0_pay3, nrm, pay2_at]

/-- What a point stores, at a row and a column of its block. -/
theorem pay1_at (x : FVec Ideal S512x1024 .f32) (a b : FVec Ideal S512x512 .bf16) (wa wb : FVec Ideal S512x1024 .bf16)
    (g : FVec Ideal S1x1024 .f32) (wg wu : FVec Ideal S1024x2816 .bf16) (wd : FVec Ideal S2816x1024 .bf16)
    (r : Fin 512) (n : Fin 1024) :
    k0_pay1 (F := Ideal) (k0_pay2 x a wa b wb) (k0_pay4 x a wa b wb g wg) (k0_pay5 x a wa b wb g wu)
        (k0_pay6 x a wa b wb g wg) wd (ix2 r n)
      = PostRow.post (fun n => x (ix2 r n)) (fun k => a (ix2 r k)) (fun k => b (ix2 r k)) (fun k n => wa (ix2 k n))
          (fun k n => wb (ix2 k n)) (fun n => g (ix2 0 n)) (fun k f => wg (ix2 k f)) (fun k f => wu (ix2 k f))
          (fun f n => wd (ix2 f n)) n := by
  pointwise [k0_pay1, k0_pay4, k0_pay5, k0_pay6, PostRow.post, act, pay2_at, pay3_at]

variable (m : (ℓ : Loc nD τ sig) → Buf (Elt Ideal) ℓ)

/-- The index maps of the windows: the rows move with the point, the weights do not move. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 64 :=
  (by decide +kernel : ∀ t : Fin grid0.N, _)

/-- The batch entry and the position that a row of the flattened arrays is. -/
def batch (r : Fin 32768) : Fin 8 := ⟨r.val / 4096, by omega⟩
/-- The position. -/
def pos (r : Fin 32768) : Fin 4096 := ⟨r.val % 4096, by omega⟩

/-- The kernel's result array, over the argument arrays. -/
def G (x : FVec Ideal S8x4096x1024 .f32) (a b : FVec Ideal S8x4096x512 .bf16) (w : FVec Ideal S1x1024x1024 .f32)
    (g : FVec Ideal S1x1024 .f32) (wg wu : FVec Ideal S1x1024x2816 .f32) (wd : FVec Ideal S1x2816x1024 .f32) :
    FVec Ideal S32768x1024 .f32 := fun i =>
  PostRow.post (fun n => x (ix3 (batch (i 0)) (pos (i 0)) n)) (fun k => a (ix3 (batch (i 0)) (pos (i 0)) k))
    (fun k => b (ix3 (batch (i 0)) (pos (i 0)) k))
    (fun k n => w (ix3 0 ⟨k, by omega⟩ n)) (fun k n => w (ix3 0 ⟨512 + k, by omega⟩ n)) (fun n => g (ix2 0 n))
    (fun k f => wg (ix3 0 k f)) (fun k f => wu (ix3 0 k f)) (fun f n => wd (ix3 0 f n)) (i 1)

/-- The row of the flattened arrays at which row `r` of point `t`'s blocks sits. -/
def row (t : Fin cfg0.N) (r : Fin 512) : Fin 32768 :=
  ⟨t.val * 512 + r.val, by have := (idx t).2.2.2.2.2.2.2.2.2.2; omega⟩

/-- What window 0 reads. -/
theorem blk0 (c : Dev nD) (t : Fin cfg0.N) (r : Fin 512) (n : Fin 1024) :
    (iblk m c 0 t : FVec Ideal S512x1024 .f32) (ix2 r n) = (m ((c : Thread nD τ).loc main_arg0)) (ix3 (batch (row t r)) (pos (row t r)) n) := by
  blk_simp [iblk]
  entry_read
  pointwise [batch, pos, row]
  blk_ext [idx t]

/-- What window 1 reads. -/
theorem blk1 (c : Dev nD) (t : Fin cfg0.N) (r : Fin 512) (n : Fin 512) :
    (iblk m c 1 t : FVec Ideal S512x512 .bf16) (ix2 r n) = (m ((c : Thread nD τ).loc main_arg1)) (ix3 (batch (row t r)) (pos (row t r)) n) := by
  blk_simp [iblk]
  entry_read
  pointwise [batch, pos, row]
  blk_ext [idx t]

/-- What window 2 reads. -/
theorem blk2 (c : Dev nD) (t : Fin cfg0.N) (r : Fin 512) (n : Fin 512) :
    (iblk m c 2 t : FVec Ideal S512x512 .bf16) (ix2 r n) = (m ((c : Thread nD τ).loc main_arg2)) (ix3 (batch (row t r)) (pos (row t r)) n) := by
  blk_simp [iblk]
  entry_read
  pointwise [batch, pos, row]
  blk_ext [idx t]

/-- What window 3 reads. -/
theorem blk3 (c : Dev nD) (t : Fin cfg0.N) (r : Fin 512) (n : Fin 1024) :
    (iblk m c 3 t : FVec Ideal S512x1024 .bf16) (ix2 r n) = (m ((c : Thread nD τ).loc main_arg3)) (ix3 0 ⟨r, by omega⟩ n) := by
  blk_simp [iblk]
  entry_read
  pointwise [batch, pos, row]
  blk_ext [idx t]

/-- What window 4 reads. -/
theorem blk4 (c : Dev nD) (t : Fin cfg0.N) (r : Fin 512) (n : Fin 1024) :
    (iblk m c 4 t : FVec Ideal S512x1024 .bf16) (ix2 r n) = (m ((c : Thread nD τ).loc main_arg3)) (ix3 0 ⟨512 + r, by omega⟩ n) := by
  blk_simp [iblk]
  entry_read
  pointwise [batch, pos, row]
  blk_ext [idx t]

/-- What window 5 reads. -/
theorem blk5 (c : Dev nD) (t : Fin cfg0.N) (r : Fin 1) (n : Fin 1024) :
    (iblk m c 5 t : FVec Ideal S1x1024 .f32) (ix2 r n) = (m ((c : Thread nD τ).loc main_arg4)) (ix2 r n) := by
  blk_simp [iblk]
  entry_read
  pointwise [batch, pos, row]
  blk_ext [idx t]

/-- What window 6 reads. -/
theorem blk6 (c : Dev nD) (t : Fin cfg0.N) (r : Fin 1024) (n : Fin 2816) :
    (iblk m c 6 t : FVec Ideal S1024x2816 .bf16) (ix2 r n) = (m ((c : Thread nD τ).loc main_arg5)) (ix3 0 r n) := by
  blk_simp [iblk]
  entry_read
  pointwise [batch, pos, row]
  blk_ext [idx t]

/-- What window 7 reads. -/
theorem blk7 (c : Dev nD) (t : Fin cfg0.N) (r : Fin 1024) (n : Fin 2816) :
    (iblk m c 7 t : FVec Ideal S1024x2816 .bf16) (ix2 r n) = (m ((c : Thread nD τ).loc main_arg6)) (ix3 0 r n) := by
  blk_simp [iblk]
  entry_read
  pointwise [batch, pos, row]
  blk_ext [idx t]

/-- What window 8 reads. -/
theorem blk8 (c : Dev nD) (t : Fin cfg0.N) (r : Fin 2816) (n : Fin 1024) :
    (iblk m c 8 t : FVec Ideal S2816x1024 .bf16) (ix2 r n) = (m ((c : Thread nD τ).loc main_arg7)) (ix3 0 r n) := by
  blk_simp [iblk]
  entry_read
  pointwise [batch, pos, row]
  blk_ext [idx t]

/-- What the body stores at a point, at an index of its block, is `G` where that index sits in the array. -/
theorem point (c : Dev nD) (t : Fin cfg0.N) (y : S512x1024.Idx) :
    out0_9 (iblk m c 0 t) (iblk m c 1 t) (iblk m c 2 t) (iblk m c 3 t) (iblk m c 4 t) (iblk m c 5 t) (iblk m c 6 t)
        (iblk m c 7 t) (iblk m c 8 t) y
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 9).blk t).view.emb y) := by
  obtain ⟨r, n, rfl⟩ : ∃ (r : Fin 512) (n : Fin 1024), y = ix2 r n := ⟨y 0, y 1, eq_ix2 y⟩
  frame_out
  have e : ((cfg0.win 9).blk t).view.emb (ix2 r n) = (ix2 (row t r) n : S32768x1024.Idx) := by
    unfold row
    blk_ext [idx t]
  rw [e]
  refine (pay1_at _ _ _ _ _ _ _ _ _ r n).trans ?_
  exact post_congr (fun k => blk0 m c t r k) (fun k => blk1 m c t r k) (fun k => blk2 m c t r k)
    (fun k l => blk3 m c t k l) (fun k l => blk4 m c t k l) (fun k => blk5 m c t 0 k) (fun k l => blk6 m c t k l)
    (fun k l => blk7 m c t k l) (fun k l => blk8 m c t k l) rfl

/-- The result array after the run. -/
theorem final (c : Dev nD) : (dats m 0 c).arrAt 9 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 9 _ (by decide +kernel) fun t _ y => ?_
  blk_simp
  rw [after0_9]
  exact point m c t y

end Cert.KernelCIdeal.Post

end
-- ==== Proof.PostRef.lean ====
/- The post-attention reference's result, read at an index: rows of `PostRow.post`. -/
module

public import proofs.«01_k».proof.Proof.PostPure
public import proofs.«01_k».proof.Proof.Gen.ReferenceCIdeal.Run

@[expose] public section

set_option maxRecDepth 16384

noncomputable section

namespace Cert.ReferenceCIdeal.Post

open Cert.ReferenceCIdeal Cert.ReferenceCIdeal.Gen Idealize.ShloMosaic Idealize.ShloMosaic.TcCoe Idealize.SL.Sem
open Cert.PostRow

/-- The residual with the projected attention outputs. -/
def rmid (x : FVec Ideal S8x4096x1024 .f32) (a b : FVec Ideal S8x4096x512 .bf16) (w : FVec Ideal S1x1024x1024 .f32) :
    FVec Ideal S8x4096x1024 .f32 :=
  addf x (Host.dotGeneral dot_S8x4096x1024_S1024x1024_S8x4096x1024_2_0_01_1_n_n none
    (concatenate S8x4096x1024 2 [⟨S8x4096x512, (extf .f32 a bitsLt_bf16_f32)⟩, ⟨S8x4096x512, (extf .f32 b bitsLt_bf16_f32)⟩]
      concatenates_S8x4096x512_S8x4096x512_S8x4096x1024_d2)
    (shapeCast S1024x1024 w shapeCasts_S1x1024x1024_S1024x1024))

/-- The RMS norm. -/
def rnrm (y : FVec Ideal S8x4096x1024 .f32) (g : FVec Ideal S1x1024 .f32) : FVec Ideal S8x4096x1024 .f32 :=
  mulf (mulf y (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf y y) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast S1024 g shapeCasts_S1x1024_S1024)))

/-- A row through one of the two first feed-forward weights. -/
def rlin (u : FVec Ideal S8x4096x1024 .f32) (w : FVec Ideal S1x1024x2816 .f32) : FVec Ideal S8x4096x2816 .f32 :=
  Host.dotGeneral (φ₁ := .f32) (φ₂ := .f32) dot_S8x4096x1024_S1024x2816_S8x4096x2816_2_0_01_1_n_n none u
    (shapeCast S1024x2816 w shapeCasts_S1x1024x2816_S1024x2816)

/-- The gated feed-forward step added to the residual. -/
def rout (y u : FVec Ideal S8x4096x1024 .f32) (wg wu : FVec Ideal S1x1024x2816 .f32) (wd : FVec Ideal S1x2816x1024 .f32) :
    FVec Ideal S8x4096x1024 .f32 :=
  addf y (Host.dotGeneral dot_S8x4096x2816_S2816x1024_S8x4096x1024_2_0_01_1_n_n none
    (mulf (mulf (rlin u wg) (Host.divf (broadcastInDim S8x4096x2816 ![] bcast_S_S8x4096x2816 (constant S_ .f32 0x3F800000#32))
      (addf (broadcastInDim S8x4096x2816 ![] bcast_S_S8x4096x2816 (constant S_ .f32 0x3F800000#32))
        (Host.exp (Host.negf (rlin u wg)))))) (rlin u wu))
    (shapeCast S2816x1024 wd shapeCasts_S1x2816x1024_S2816x1024))

/-- The residual, at an index. -/
theorem rmid_at (x : FVec Ideal S8x4096x1024 .f32) (a b : FVec Ideal S8x4096x512 .bf16) (w : FVec Ideal S1x1024x1024 .f32)
    (s : Fin 8) (t : Fin 4096) (n : Fin 1024) :
    rmid x a b w (ix3 s t n)
      = mid (fun n => x (ix3 s t n)) (fun k => a (ix3 s t k)) (fun k => b (ix3 s t k))
          (fun k n => w (ix3 0 ⟨k, by omega⟩ n)) (fun k n => w (ix3 0 ⟨512 + k, by omega⟩ n)) n := by
  pointwise [rmid, mid]
  rw [add_assoc]

/-- The norm, at an index. -/
theorem rnrm_at (y : FVec Ideal S8x4096x1024 .f32) (g : FVec Ideal S1x1024 .f32) (s : Fin 8) (t : Fin 4096) (n : Fin 1024) :
    rnrm y g (ix3 s t n) = nrm (fun n => y (ix3 s t n)) (fun n => g (ix2 0 n)) n := by
  pointwise [rnrm, nrm]

/-- The feed-forward step, at an index. -/
theorem rout_at (y u : FVec Ideal S8x4096x1024 .f32) (wg wu : FVec Ideal S1x1024x2816 .f32) (wd : FVec Ideal S1x2816x1024 .f32)
    (s : Fin 8) (t : Fin 4096) (n : Fin 1024) :
    rout y u wg wu wd (ix3 s t n)
      = y (ix3 s t n) + ∑ f, act (fun n => u (ix3 s t n)) (fun k f => wg (ix3 0 k f)) (fun k f => wu (ix3 0 k f)) f
          * wd (ix3 0 f n) := by
  pointwise [rout, rlin, act, Ideal.logistic]

/-- The reference's result is the step of the norm of the residual, its rows in one list. -/
theorem res_eq (m : (ℓ : Loc nD τ sig) → Buf (Elt Ideal) ℓ) (c : Dev nD) :
    Value.res_out0 (F := Ideal) m c
      = shapeCast S32768x1024 (rout
          (rmid (m ((c.tc : Thread nD τ).loc main_arg0)) (m ((c.tc : Thread nD τ).loc main_arg1))
            (m ((c.tc : Thread nD τ).loc main_arg2)) (m ((c.tc : Thread nD τ).loc main_arg3)))
          (rnrm (rmid (m ((c.tc : Thread nD τ).loc main_arg0)) (m ((c.tc : Thread nD τ).loc main_arg1))
            (m ((c.tc : Thread nD τ).loc main_arg2)) (m ((c.tc : Thread nD τ).loc main_arg3)))
            (m ((c.tc : Thread nD τ).loc main_arg4)))
          (m ((c.tc : Thread nD τ).loc main_arg5)) (m ((c.tc : Thread nD τ).loc main_arg6))
          (m ((c.tc : Thread nD τ).loc main_arg7))) shapeCasts_S8x4096x1024_S32768x1024 := rfl

end Cert.ReferenceCIdeal.Post

end
-- ==== Proof.PostClaim.lean ====
/- The value claim of the post-attention call: kernel and reference end at the same rows. -/
module

public import proofs.«01_k».proof.Defs
public import proofs.«01_k».proof.Proof.PostKernel
public import proofs.«01_k».proof.Proof.PostRef

@[expose] public section

set_option maxRecDepth 16384

noncomputable section

namespace Cert.ReferenceCIdeal.Post

open Cert.ReferenceCIdeal Cert.ReferenceCIdeal.Gen Idealize.ShloMosaic Idealize.ShloMosaic.TcCoe Idealize.SL.Sem

/-- The reference's result is the kernel's `G` of the same arrays. -/
theorem res_eq_G (m : (ℓ : Loc nD τ sig) → Buf (Elt Ideal) ℓ) (c : Dev nD) :
    Value.res_out0 (F := Ideal) m c
      = Cert.KernelCIdeal.Post.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [res_eq]
  funext i
  obtain ⟨r, n, rfl⟩ : ∃ (r : Fin 32768) (n : Fin 1024), i = ix2 r n := ⟨i 0, i 1, eq_ix2 i⟩
  have e : ∀ v : FVec Ideal S8x4096x1024 .f32, shapeCast S32768x1024 v shapeCasts_S8x4096x1024_S32768x1024 (ix2 r n)
      = v (ix3 (Cert.KernelCIdeal.Post.batch r) (Cert.KernelCIdeal.Post.pos r) n) := fun v => by
    pointwise [Cert.KernelCIdeal.Post.batch, Cert.KernelCIdeal.Post.pos]
  refine (e _).trans ?_
  rw [rout_at]
  unfold Cert.KernelCIdeal.Post.G PostRow.post
  simp only [rnrm_at, rmid_at]
  rfl

end Cert.ReferenceCIdeal.Post

namespace Cert.Proof.PostClaim

open Idealize.ShloMosaic Idealize.SL.Sem

/-- At `Ideal` the post-attention kernel and its reference end with the same array. -/
theorem algebraic : Cert.algebraic_KernelCIdeal_ReferenceCIdeal := by
  intro m ρ m' ρ' _ hag
  refine ⟨fun c => Cert.KernelCIdeal.Post.G _ _ _ _ _ _ _ _,
    (θ_run _ _ _).mono (fun _ h c => ⟨(h c).1.trans (Cert.KernelCIdeal.Post.final m c), (h c).2⟩)
      (Cert.KernelCIdeal.Value.run_blocks m ρ),
    (θ_run _ _ _).mono (fun _ h c => ⟨(h c).1.trans ?_, (h c).2⟩) (Cert.ReferenceCIdeal.Value.run m' ρ')⟩
  refine (Cert.ReferenceCIdeal.Post.res_eq_G m' c).trans ?_
  obtain ⟨h0, h1, h2, h3, h4, h5, h6, h7⟩ := hag c
  rw [h0, h1, h2, h3, h4, h5, h6, h7]

end Cert.Proof.PostClaim

end
-- ==== Proof.ProjPure.lean ====
/- The input projection of the layer, row by row: the RMS norm, the projection, and on each head of 64 lanes the norm and
   the rotary embedding. The kernel's stored blocks and the reference's composed terms are both read to these functions. -/
module

public import proofs.«01_k».proof.Proof.PostPure

@[expose] public section

noncomputable section

namespace Cert.ProjRow

open Idealize.ShloMosaic
open Cert.PostRow (nrm)

/-- One entry of a row's projection. -/
def prj (x g : Fin 1024 → EReal) (w : Fin 1024 → Fin 2304 → EReal) (c : Fin 2304) : EReal := ∑ k, nrm x g k * w k c

/-- Lane `d` of head `h` of a projected row. -/
def hd (p : Fin 2304 → EReal) (h : Fin 36) (d : Fin 64) : EReal := p ⟨64 * h.val + d.val, by omega⟩

/-- The norm of a head, with gain `g`. -/
def hnrm (y g : Fin 64 → EReal) (d : Fin 64) : EReal :=
  y d * Ideal.rsqrt (Ideal.div (∑ k, y k * y k) (Ideal.ofBits .f32 0x42800000#32) + Ideal.ofBits .f32 0x358637BD#32) * g d

/-- The pair a lane belongs to, and the pair's two lanes. -/
def pr (d : Fin 64) : Fin 32 := ⟨d.val / 2, by omega⟩
/-- The even lane of a lane's pair. -/
def ev (d : Fin 64) : Fin 64 := ⟨2 * (d.val / 2), by omega⟩
/-- The odd lane of a lane's pair. -/
def od (d : Fin 64) : Fin 64 := ⟨2 * (d.val / 2) + 1, by omega⟩

/-- The rotary embedding of a head: each pair of lanes turned by the pair's angle, given by its cosine and sine. -/
def rot (y : Fin 64 → EReal) (cs sn : Fin 32 → EReal) (d : Fin 64) : EReal :=
  if d.val % 2 = 0 then y (ev d) * cs (pr d) - y (od d) * sn (pr d) else y (ev d) * sn (pr d) + y (od d) * cs (pr d)

/-- Lane `d` of head `h` of a projected row, normed with gain `g` and turned. -/
def turn (p : Fin 2304 → EReal) (g : Fin 64 → EReal) (cs sn : Fin 32 → EReal) (h : Fin 36) (d : Fin 64) : EReal :=
  rot (hnrm (hd p h) g) cs sn d

/-- The scale the queries carry: the softmax scale times the logarithm of e in base two. -/
def qs : EReal := Ideal.ofBits .f32 0x3E38AA3B#32

/-- The first queries' row: head `h` takes the half of its block of 128 lanes that its key head has, the other half zero. -/
def qaRow (p : Fin 2304 → EReal) (g : Fin 64 → EReal) (cs sn : Fin 32 → EReal) (c : Fin 1024) : EReal :=
  if c.val % 128 / 64 = c.val / 512 then turn p g cs sn ⟨c.val / 128, by omega⟩ ⟨c.val % 64, by omega⟩ * qs else 0

/-- The scale is a nonnegative number. -/
theorem qs_nonneg : 0 ≤ qs := by
  unfold qs
  simp [Ideal.ofBits, Ideal.ieee]
  exact mul_nonneg (by norm_num) (by exact_mod_cast (by norm_num : (0 : ℝ) ≤ ((2 : ℝ) ^ 26)⁻¹))

/-- It is not infinite. -/
theorem qs_ne_top : qs ≠ ⊤ := by
  unfold qs
  simp [Ideal.ofBits, Ideal.ieee]
  norm_cast

/-- The mean as a product by the reciprocal of the length. -/
theorem mean_eq (s : EReal) : s * Ideal.ofBits .f32 0x3C800000#32 = Ideal.div s (Ideal.ofBits .f32 0x42800000#32) := by
  have e1 : Ideal.ofBits FTy.f32 0x42800000#32 = ((64 : ℝ) : EReal) := by
    simp [Ideal.ofBits, Ideal.ieee]
    rw [← EReal.coe_mul]
    norm_num
  have e2 : Ideal.ofBits FTy.f32 0x3C800000#32 = ((1 / 64 : ℝ) : EReal) := by
    simp [Ideal.ofBits, Ideal.ieee]
    rw [← EReal.coe_mul]
    norm_num
  rw [e1, e2, Ideal.div_coe (by norm_num)]

/-- Lane `d` of half `b` of a block of 128 lanes. -/
def lane (b : Fin 2) (d : Fin 64) : Fin 128 := ⟨64 * b.val + d.val, by omega⟩

/-- Every lane is one of a half. -/
theorem exists_lane (l : Fin 128) : ∃ b d, l = lane b d :=
  ⟨⟨l.val / 64, by omega⟩, ⟨l.val % 64, by omega⟩, Fin.ext (by simp only [lane]; omega)⟩

/-- The lane the rotation reads next to a lane: the other one of its pair. -/
def other (l : Fin 128) : Fin 128 := ⟨if l.val % 2 = 0 then (l.val + 1) % 128 else l.val - 1, by split <;> omega⟩

/-- A sum over the lanes that counts those of one half alone. -/
theorem sum_half (f : Fin 128 → EReal) (b : Fin 2) (d : Fin 64) :
    ∑ k : Fin 128, f k * (if k.val / 64 = (lane b d).val / 64 then (1 : EReal) else 0) = ∑ k : Fin 64, f (lane b k) := by
  rw [Fin.sum_univ_two_halves 64 64 rfl]
  obtain rfl | rfl : b = 0 ∨ b = 1 := by omega
  · refine (congrArg₂ (· + ·) (Finset.sum_congr rfl fun k _ => ?_) (Finset.sum_eq_zero fun k _ => ?_)).trans (add_zero _)
    · rw [if_pos (by simp only [lane]; omega), mul_one]
      exact congrArg f (Fin.ext (by simp [lane]))
    · rw [if_neg (by simp only [lane]; omega), mul_zero]
  · rw [Finset.sum_eq_zero fun k _ => ?_, zero_add]
    · refine Finset.sum_congr rfl fun k _ => ?_
      rw [if_pos (by simp only [lane]; omega), mul_one]
      exact congrArg f (Fin.ext (by simp [lane]))
    · rw [if_neg (by simp only [lane]; omega), mul_zero]

/-- The lane after an even one. -/
theorem other_even (l : Fin 128) (h : l.val % 2 = 0) : (other l).val = (l.val + 1) % 128 := by
  unfold other
  exact if_pos h

/-- The lane before an odd one. -/
theorem other_odd (l : Fin 128) (h : ¬ l.val % 2 = 0) : (other l).val = l.val - 1 := by
  unfold other
  exact if_neg h

/-- What the kernel computes on the lanes of a block is the rotary embedding of the head's norm, scaled. -/
theorem lanes_eq (y : Fin 128 → EReal) (sg : Fin 128 → Fin 128 → EReal) (gn cs sn : Fin 128 → EReal)
    (g : Fin 64 → EReal) (q : EReal) (cs' sn' : Fin 32 → EReal) (hq : 0 ≤ q) (hq' : q ≠ ⊤)
    (hsg : ∀ k l, sg k l = if k.val / 64 = l.val / 64 then (1 : EReal) else 0)
    (hg : ∀ b d, gn (lane b d) = g d * q) (hc : ∀ b d, cs (lane b d) = cs' (pr d))
    (hs : ∀ b d, sn (lane b d) = if d.val % 2 = 0 then -(sn' (pr d)) else sn' (pr d))
    (z : Fin 128 → EReal)
    (hz : ∀ l, z l = y l * Ideal.rsqrt ((∑ k, y k * y k * sg k l) * Ideal.ofBits .f32 0x3C800000#32
      + Ideal.ofBits .f32 0x358637BD#32) * gn l) (b : Fin 2) (d : Fin 64) :
    z (lane b d) * cs (lane b d) + z (other (lane b d)) * sn (lane b d)
      = rot (hnrm (fun k => y (lane b k)) g) cs' sn' d * q := by
  have e : ∀ d, z (lane b d) = hnrm (fun k => y (lane b k)) g d * q := fun d => by
    rw [hz, hg, ← mul_assoc]
    simp only [hsg]
    rw [sum_half (fun k => y k * y k) b d, mean_eq]
    rfl
  rw [hc, hs]
  unfold rot
  by_cases h : d.val % 2 = 0
  · have o : other (lane b d) = lane b (od d) := Fin.ext ((other_even _ (by simp only [lane]; omega)).trans (by simp only [lane, od]; omega))
    have v : d = ev d := Fin.ext (by simp only [ev]; omega)
    rw [o, e, e, if_pos h, if_pos h, mul_neg, sub_eq_add_neg, EReal.right_distrib_of_nonneg_of_ne_top hq hq', EReal.neg_mul,
      ← v, mul_right_comm, mul_right_comm (hnrm _ _ (od d))]
  · have o : other (lane b d) = lane b (ev d) := Fin.ext ((other_odd _ (by simp only [lane]; omega)).trans (by simp only [lane, ev]; omega))
    have v : d = od d := Fin.ext (by simp only [od]; omega)
    rw [o, e, e, if_neg h, if_neg h, EReal.right_distrib_of_nonneg_of_ne_top hq hq', ← v, add_comm, mul_right_comm,
      mul_right_comm (hnrm _ _ d)]

end Cert.ProjRow

end
-- ==== Proof.ProjPay.lean ====
/- The projection kernel's operations entry by entry. -/
module

public import proofs.«01_k».proof.Proof.ProjPure
public import proofs.«01_k».proof.Proof.Gen.KernelDIdeal.Skeleton
public import Idealize.ShloMosaic.Lib.Pipeline.ValueKit

@[expose] public section

set_option maxRecDepth 16384

noncomputable section

namespace Cert.KernelDIdeal.Proj

open Cert.KernelDIdeal Cert.KernelDIdeal.Gen Idealize.ShloMosaic Idealize.ShloMosaic.TcCoe Idealize.SL.Sem
open Cert.ProjRow

/-- The projection of a block's rows. -/
theorem proj_at (x : FVec Ideal S512x1024 .f32) (g : FVec Ideal S1x1024 .f32) (w : FVec Ideal S1024x2304 .bf16)
    (r : Fin 512) (c : Fin 2304) :
    k0_pay2 (F := Ideal) x g w (ix2 r c) = prj (fun n => x (ix2 r n)) (fun n => g (ix2 0 n)) (fun k c => w (ix2 k c)) c := by
  pointwise [k0_pay2, prj, Cert.PostRow.nrm]

/-- The norm of two heads side by side. -/
def normed (col : FVec Ideal S512x128 .f32) (seg : FVec Ideal S128x128 .bf16) (gn : FVec Ideal S1x128 .f32) :
    FVec Ideal S512x128 .f32 :=
  mulf (mulf col (rsqrt (addf (mulf (matmul dot_S512x128_S128x128_S512x128_1_0_0_1_n_n none
    (truncf .bf16 (mulf col col) bitsLt_bf16_f32) seg (constant S512x128 .f32 0x00000000#32))
    (broadcast S512x128 (Scalar.ofBits .f32 0x3C800000#32))) (broadcast S512x128 (Scalar.ofBits .f32 0x358637BD#32)))))
    (broadcastTo S512x128 gn broadcasts_S1x128_S512x128)

/-- The rotation of two heads side by side. -/
def turned (y cos sin : FVec Ideal S512x128 .f32) : FVec Ideal S512x128 .f32 :=
  addf (mulf y cos) (mulf (select k0_pay3 (dynamicRotate 1 127#32 none y rotates_S512x128_d1)
    (dynamicRotate 1 1#32 none y rotates_S512x128_d1)) sin)

/-- The norm at an entry. -/
theorem normed_at (col : FVec Ideal S512x128 .f32) (seg : FVec Ideal S128x128 .bf16) (gn : FVec Ideal S1x128 .f32)
    (r : Fin 512) (l : Fin 128) :
    normed col seg gn (ix2 r l) = col (ix2 r l) * Ideal.rsqrt ((∑ k, col (ix2 r k) * col (ix2 r k) * seg (ix2 k l))
      * Ideal.ofBits .f32 0x3C800000#32 + Ideal.ofBits .f32 0x358637BD#32) * gn (ix2 0 l) := by
  pointwise [normed]

/-- The choice by lane that the rotation makes. -/
theorem even_sel (r : Fin 512) (l : Fin 128) (a b : EReal) :
    Scalar.select (k0_pay3 (ix2 r l)) a b = if l.val % 2 = 0 then a else b := by
  have e : k0_pay3 (ix2 r l) = if l.val % 2 = 0 then 1#1 else 0#1 := by
    pointwise [k0_pay3]
    revert l
    decide +kernel
  rw [e]
  split <;> rfl

/-- The choice of the lower lanes. -/
theorem low_sel (r : Fin 512) (l : Fin 128) (a b : EReal) :
    Scalar.select (k0_pay4 (ix2 r l)) a b = if l.val < 64 then a else b := by
  have e : k0_pay4 (ix2 r l) = if l.val < 64 then 1#1 else 0#1 := by
    pointwise [k0_pay4]
    revert l
    decide +kernel
  rw [e]
  split <;> rfl

/-- The choice of the upper lanes. -/
theorem high_sel (r : Fin 512) (l : Fin 128) (a b : EReal) :
    Scalar.select (k0_pay4 (ix2 r l) ^^^ 1#1) a b = if l.val < 64 then b else a := by
  have e : k0_pay4 (ix2 r l) ^^^ 1#1 = if l.val < 64 then 0#1 else 1#1 := by
    pointwise [k0_pay4]
    revert l
    decide +kernel
  rw [e]
  split <;> rfl

/-- The rotation at an entry. -/
theorem turned_at (y cos sin : FVec Ideal S512x128 .f32) (r : Fin 512) (l : Fin 128) :
    turned y cos sin (ix2 r l) = y (ix2 r l) * cos (ix2 r l) + y (ix2 r (other l)) * sin (ix2 r l) := by
  pointwise [turned]
  rw [even_sel]
  congr 2
  split
  · exact congrArg (fun k => y (ix2 r k)) (Fin.ext (by rw [other_even l (by assumption)]; simp only []; omega))
  · exact congrArg (fun k => y (ix2 r k)) (Fin.ext (by rw [other_odd l (by assumption)]; simp only []; omega))

/-- What the kernel's operands hold at a row: the mask of heads, a gain with a scale, and the row's cosines and sines. -/
structure Lanes (seg : FVec Ideal S128x128 .bf16) (gn : FVec Ideal S1x128 .f32) (cos sin : FVec Ideal S512x128 .f32)
    (r : Fin 512) (g : Fin 64 → EReal) (q : EReal) (cs sn : Fin 32 → EReal) : Prop where
  seg_at : ∀ k l, seg (ix2 k l) = if k.val / 64 = l.val / 64 then (1 : EReal) else 0
  gain_at : ∀ b d, gn (ix2 0 (lane b d)) = g d * q
  cos_at : ∀ b d, cos (ix2 r (lane b d)) = cs (pr d)
  sin_at : ∀ b d, sin (ix2 r (lane b d)) = if d.val % 2 = 0 then -(sn (pr d)) else sn (pr d)

/-- Two heads side by side, at a lane. -/
theorem head_at {seg : FVec Ideal S128x128 .bf16} {gn : FVec Ideal S1x128 .f32} {cos sin : FVec Ideal S512x128 .f32}
    {r : Fin 512} {g : Fin 64 → EReal} {q : EReal} {cs sn : Fin 32 → EReal} (L : Lanes seg gn cos sin r g q cs sn)
    (hq : 0 ≤ q) (hq' : q ≠ ⊤) {p : Fin 2304 → EReal} {col : FVec Ideal S512x128 .f32} (j : Fin 18)
    (hcol : ∀ l : Fin 128, col (ix2 r l) = p ⟨128 * j.val + l.val, by omega⟩) (l : Fin 128) :
    turned (normed col seg gn) cos sin (ix2 r l)
      = turn p g cs sn ⟨2 * j.val + l.val / 64, by omega⟩ ⟨l.val % 64, by omega⟩ * q := by
  obtain ⟨b, d, rfl⟩ := exists_lane l
  refine (turned_at _ _ _ r _).trans ?_
  refine (lanes_eq (fun l => col (ix2 r l)) (fun k l => seg (ix2 k l)) (fun l => gn (ix2 0 l)) (fun l => cos (ix2 r l))
    (fun l => sin (ix2 r l)) g q cs sn hq hq' L.seg_at L.gain_at L.cos_at L.sin_at
    (fun l => normed col seg gn (ix2 r l)) (fun l => normed_at col seg gn r l) b d).trans ?_
  have ed : (⟨(lane b d).val % 64, by omega⟩ : Fin 64) = d := Fin.ext (by simp only [lane]; omega)
  have eh : (fun k => col (ix2 r (lane b k))) = hd p ⟨2 * j.val + (lane b d).val / 64, by omega⟩ := funext fun k => by
    rw [hcol]
    exact congrArg p (Fin.ext (by simp only [lane]; omega))
  rw [ed, eh]
  rfl

/-- The lower lanes of a block kept, the upper ones cleared. -/
def keepLow (z : FVec Ideal S512x128 .f32) : FVec Ideal S512x128 .bf16 :=
  truncf .bf16 (select k0_pay4 z (broadcast S512x128 (Scalar.ofBits .f32 0x00000000#32))) bitsLt_bf16_f32

/-- The upper lanes kept, the lower ones cleared. -/
def keepHigh (z : FVec Ideal S512x128 .f32) : FVec Ideal S512x128 .bf16 :=
  truncf .bf16 (select (xori k0_pay4 (constantI S512x128 1 1#1)) z (broadcast S512x128 (Scalar.ofBits .f32 0x00000000#32)))
    bitsLt_bf16_f32

/-- The halves of a block exchanged. -/
def swapped (z : FVec Ideal S512x128 .f32) : FVec Ideal S512x128 .f32 := dynamicRotate 1 64#32 none z rotates_S512x128_d1

theorem keepLow_at (z : FVec Ideal S512x128 .f32) (r : Fin 512) (l : Fin 128) :
    keepLow z (ix2 r l) = if l.val < 64 then z (ix2 r l) else 0 := by
  pointwise [keepLow]
  exact low_sel r l _ _

theorem keepHigh_at (z : FVec Ideal S512x128 .f32) (r : Fin 512) (l : Fin 128) :
    keepHigh z (ix2 r l) = if l.val < 64 then 0 else z (ix2 r l) := by
  pointwise [keepHigh]
  exact high_sel r l _ _

theorem swapped_at (z : FVec Ideal S512x128 .f32) (r : Fin 512) (l : Fin 128) :
    swapped z (ix2 r l) = z (ix2 r ⟨(l.val + 64) % 128, by omega⟩) := by
  pointwise [swapped]
  exact congrArg (fun k => z (ix2 r k)) (Fin.ext (by simp only []; omega))

/-- The first head of a pair that takes the lower lanes. -/
theorem low_at {seg : FVec Ideal S128x128 .bf16} {gn : FVec Ideal S1x128 .f32} {cos sin : FVec Ideal S512x128 .f32}
    {r : Fin 512} {g : Fin 64 → EReal} {cs sn : Fin 32 → EReal} (L : Lanes seg gn cos sin r g qs cs sn)
    {p : Fin 2304 → EReal} {col : FVec Ideal S512x128 .f32} (j : Fin 18) (hj : j.val < 2)
    (hcol : ∀ l : Fin 128, col (ix2 r l) = p ⟨128 * j.val + l.val, by omega⟩) (l : Fin 128) :
    keepLow (turned (normed col seg gn) cos sin) (ix2 r l) = qaRow p g cs sn ⟨128 * (2 * j.val) + l.val, by omega⟩ := by
  rw [keepLow_at, head_at L qs_nonneg qs_ne_top j hcol]
  unfold qaRow
  by_cases h : l.val < 64
  · rw [if_pos h, if_pos (by simp only []; omega)]
    exact congrArg (· * qs) (congrArg₂ (turn p g cs sn) (Fin.ext (by simp only []; omega)) (Fin.ext (by simp only []; omega)))
  · rw [if_neg h, if_neg (by simp only []; omega)]

/-- The second one. -/
theorem lowSwapped_at {seg : FVec Ideal S128x128 .bf16} {gn : FVec Ideal S1x128 .f32} {cos sin : FVec Ideal S512x128 .f32}
    {r : Fin 512} {g : Fin 64 → EReal} {cs sn : Fin 32 → EReal} (L : Lanes seg gn cos sin r g qs cs sn)
    {p : Fin 2304 → EReal} {col : FVec Ideal S512x128 .f32} (j : Fin 18) (hj : j.val < 2)
    (hcol : ∀ l : Fin 128, col (ix2 r l) = p ⟨128 * j.val + l.val, by omega⟩) (l : Fin 128) :
    keepLow (swapped (turned (normed col seg gn) cos sin)) (ix2 r l) = qaRow p g cs sn ⟨128 * (2 * j.val + 1) + l.val, by omega⟩ := by
  rw [keepLow_at, swapped_at, head_at L qs_nonneg qs_ne_top j hcol]
  unfold qaRow
  by_cases h : l.val < 64
  · rw [if_pos h, if_pos (by simp only []; omega)]
    exact congrArg (· * qs) (congrArg₂ (turn p g cs sn) (Fin.ext (by simp only []; omega)) (Fin.ext (by simp only []; omega)))
  · rw [if_neg h, if_neg (by simp only []; omega)]

/-- The first head of a pair that takes the upper lanes. -/
theorem highSwapped_at {seg : FVec Ideal S128x128 .bf16} {gn : FVec Ideal S1x128 .f32} {cos sin : FVec Ideal S512x128 .f32}
    {r : Fin 512} {g : Fin 64 → EReal} {cs sn : Fin 32 → EReal} (L : Lanes seg gn cos sin r g qs cs sn)
    {p : Fin 2304 → EReal} {col : FVec Ideal S512x128 .f32} (j : Fin 18) (hj : 2 ≤ j.val ∧ j.val < 4)
    (hcol : ∀ l : Fin 128, col (ix2 r l) = p ⟨128 * j.val + l.val, by omega⟩) (l : Fin 128) :
    keepHigh (swapped (turned (normed col seg gn) cos sin)) (ix2 r l) = qaRow p g cs sn ⟨128 * (2 * j.val) + l.val, by omega⟩ := by
  rw [keepHigh_at, swapped_at, head_at L qs_nonneg qs_ne_top j hcol]
  unfold qaRow
  by_cases h : l.val < 64
  · rw [if_pos h, if_neg (by simp only []; omega)]
  · rw [if_neg h, if_pos (by simp only []; omega)]
    exact congrArg (· * qs) (congrArg₂ (turn p g cs sn) (Fin.ext (by simp only []; omega)) (Fin.ext (by simp only []; omega)))

/-- The second one. -/
theorem high_at {seg : FVec Ideal S128x128 .bf16} {gn : FVec Ideal S1x128 .f32} {cos sin : FVec Ideal S512x128 .f32}
    {r : Fin 512} {g : Fin 64 → EReal} {cs sn : Fin 32 → EReal} (L : Lanes seg gn cos sin r g qs cs sn)
    {p : Fin 2304 → EReal} {col : FVec Ideal S512x128 .f32} (j : Fin 18) (hj : 2 ≤ j.val ∧ j.val < 4)
    (hcol : ∀ l : Fin 128, col (ix2 r l) = p ⟨128 * j.val + l.val, by omega⟩) (l : Fin 128) :
    keepHigh (turned (normed col seg gn) cos sin) (ix2 r l) = qaRow p g cs sn ⟨128 * (2 * j.val + 1) + l.val, by omega⟩ := by
  rw [keepHigh_at, head_at L qs_nonneg qs_ne_top j hcol]
  unfold qaRow
  by_cases h : l.val < 64
  · rw [if_pos h, if_neg (by simp only []; omega)]
  · rw [if_neg h, if_pos (by simp only []; omega)]
    exact congrArg (· * qs) (congrArg₂ (turn p g cs sn) (Fin.ext (by simp only []; omega)) (Fin.ext (by simp only []; omega)))

variable (v : FVec Ideal S512x2304 .f32) (seg : FVec Ideal S128x128 .bf16) (gn : FVec Ideal S1x128 .f32)
  (cos sin : FVec Ideal S512x128 .f32)

theorem col0 {r : Fin 512} {p : Fin 2304 → EReal} (hp : ∀ c, v (ix2 r c) = p c) (l : Fin 128) :
    (extractStridedSlice S512x128 ![0, 0] v slices_S512x2304_o0_0_S512x128 : FVec Ideal S512x128 .f32) (ix2 r l) = p ⟨128 * (⟨0, by omega⟩ : Fin 18).val + l.val, by simp only []; omega⟩ := by
  rw [← hp]
  pointwise []
  try exact congrArg (fun k => v (ix2 r k)) (Fin.ext (by simp only []; omega))

theorem col128 {r : Fin 512} {p : Fin 2304 → EReal} (hp : ∀ c, v (ix2 r c) = p c) (l : Fin 128) :
    (extractStridedSlice S512x128 ![0, 128] v slices_S512x2304_o0_128_S512x128 : FVec Ideal S512x128 .f32) (ix2 r l) = p ⟨128 * (⟨1, by omega⟩ : Fin 18).val + l.val, by simp only []; omega⟩ := by
  rw [← hp]
  pointwise []
  try exact congrArg (fun k => v (ix2 r k)) (Fin.ext (by simp only []; omega))

theorem col256 {r : Fin 512} {p : Fin 2304 → EReal} (hp : ∀ c, v (ix2 r c) = p c) (l : Fin 128) :
    (extractStridedSlice S512x128 ![0, 256] v slices_S512x2304_o0_256_S512x128 : FVec Ideal S512x128 .f32) (ix2 r l) = p ⟨128 * (⟨2, by omega⟩ : Fin 18).val + l.val, by simp only []; omega⟩ := by
  rw [← hp]
  pointwise []
  try exact congrArg (fun k => v (ix2 r k)) (Fin.ext (by simp only []; omega))

theorem col384 {r : Fin 512} {p : Fin 2304 → EReal} (hp : ∀ c, v (ix2 r c) = p c) (l : Fin 128) :
    (extractStridedSlice S512x128 ![0, 384] v slices_S512x2304_o0_384_S512x128 : FVec Ideal S512x128 .f32) (ix2 r l) = p ⟨128 * (⟨3, by omega⟩ : Fin 18).val + l.val, by simp only []; omega⟩ := by
  rw [← hp]
  pointwise []
  try exact congrArg (fun k => v (ix2 r k)) (Fin.ext (by simp only []; omega))

theorem col512 {r : Fin 512} {p : Fin 2304 → EReal} (hp : ∀ c, v (ix2 r c) = p c) (l : Fin 128) :
    (extractStridedSlice S512x128 ![0, 512] v slices_S512x2304_o0_512_S512x128 : FVec Ideal S512x128 .f32) (ix2 r l) = p ⟨128 * (⟨4, by omega⟩ : Fin 18).val + l.val, by simp only []; omega⟩ := by
  rw [← hp]
  pointwise []
  try exact congrArg (fun k => v (ix2 r k)) (Fin.ext (by simp only []; omega))

theorem col768 {r : Fin 512} {p : Fin 2304 → EReal} (hp : ∀ c, v (ix2 r c) = p c) (l : Fin 128) :
    (extractStridedSlice S512x128 ![0, 768] v slices_S512x2304_o0_768_S512x128 : FVec Ideal S512x128 .f32) (ix2 r l) = p ⟨128 * (⟨6, by omega⟩ : Fin 18).val + l.val, by simp only []; omega⟩ := by
  rw [← hp]
  pointwise []
  try exact congrArg (fun k => v (ix2 r k)) (Fin.ext (by simp only []; omega))

theorem col896 {r : Fin 512} {p : Fin 2304 → EReal} (hp : ∀ c, v (ix2 r c) = p c) (l : Fin 128) :
    (extractStridedSlice S512x128 ![0, 896] v slices_S512x2304_o0_896_S512x128 : FVec Ideal S512x128 .f32) (ix2 r l) = p ⟨128 * (⟨7, by omega⟩ : Fin 18).val + l.val, by simp only []; omega⟩ := by
  rw [← hp]
  pointwise []
  try exact congrArg (fun k => v (ix2 r k)) (Fin.ext (by simp only []; omega))

theorem col1024 {r : Fin 512} {p : Fin 2304 → EReal} (hp : ∀ c, v (ix2 r c) = p c) (l : Fin 128) :
    (extractStridedSlice S512x128 ![0, 1024] v slices_S512x2304_o0_1024_S512x128 : FVec Ideal S512x128 .f32) (ix2 r l) = p ⟨128 * (⟨8, by omega⟩ : Fin 18).val + l.val, by simp only []; omega⟩ := by
  rw [← hp]
  pointwise []
  try exact congrArg (fun k => v (ix2 r k)) (Fin.ext (by simp only []; omega))

theorem col1152 {r : Fin 512} {p : Fin 2304 → EReal} (hp : ∀ c, v (ix2 r c) = p c) (l : Fin 128) :
    (extractStridedSlice S512x128 ![0, 1152] v slices_S512x2304_o0_1152_S512x128 : FVec Ideal S512x128 .f32) (ix2 r l) = p ⟨128 * (⟨9, by omega⟩ : Fin 18).val + l.val, by simp only []; omega⟩ := by
  rw [← hp]
  pointwise []
  try exact congrArg (fun k => v (ix2 r k)) (Fin.ext (by simp only []; omega))

theorem col1280 {r : Fin 512} {p : Fin 2304 → EReal} (hp : ∀ c, v (ix2 r c) = p c) (l : Fin 128) :
    (extractStridedSlice S512x128 ![0, 1280] v slices_S512x2304_o0_1280_S512x128 : FVec Ideal S512x128 .f32) (ix2 r l) = p ⟨128 * (⟨10, by omega⟩ : Fin 18).val + l.val, by simp only []; omega⟩ := by
  rw [← hp]
  pointwise []
  try exact congrArg (fun k => v (ix2 r k)) (Fin.ext (by simp only []; omega))

theorem col1408 {r : Fin 512} {p : Fin 2304 → EReal} (hp : ∀ c, v (ix2 r c) = p c) (l : Fin 128) :
    (extractStridedSlice S512x128 ![0, 1408] v slices_S512x2304_o0_1408_S512x128 : FVec Ideal S512x128 .f32) (ix2 r l) = p ⟨128 * (⟨11, by omega⟩ : Fin 18).val + l.val, by simp only []; omega⟩ := by
  rw [← hp]
  pointwise []
  try exact congrArg (fun k => v (ix2 r k)) (Fin.ext (by simp only []; omega))

theorem col1536 {r : Fin 512} {p : Fin 2304 → EReal} (hp : ∀ c, v (ix2 r c) = p c) (l : Fin 128) :
    (extractStridedSlice S512x128 ![0, 1536] v slices_S512x2304_o0_1536_S512x128 : FVec Ideal S512x128 .f32) (ix2 r l) = p ⟨128 * (⟨12, by omega⟩ : Fin 18).val + l.val, by simp only []; omega⟩ := by
  rw [← hp]
  pointwise []
  try exact congrArg (fun k => v (ix2 r k)) (Fin.ext (by simp only []; omega))

theorem col1664 {r : Fin 512} {p : Fin 2304 → EReal} (hp : ∀ c, v (ix2 r c) = p c) (l : Fin 128) :
    (extractStridedSlice S512x128 ![0, 1664] v slices_S512x2304_o0_1664_S512x128 : FVec Ideal S512x128 .f32) (ix2 r l) = p ⟨128 * (⟨13, by omega⟩ : Fin 18).val + l.val, by simp only []; omega⟩ := by
  rw [← hp]
  pointwise []
  try exact congrArg (fun k => v (ix2 r k)) (Fin.ext (by simp only []; omega))

theorem pay17_at {r : Fin 512} {p : Fin 2304 → EReal} (hp : ∀ c, v (ix2 r c) = p c) {g : Fin 64 → EReal} {cs sn : Fin 32 → EReal}
    (L : Lanes (k0_pay5 seg) (k0_pay10 gn) cos sin r g qs cs sn) (l : Fin 128) :
    k0_pay17 k0_pay3 k0_pay4 cos sin (k0_pay14 v seg gn) (k0_pay15 v seg gn) 1#32 (ix2 r l)
      = qaRow p g cs sn ⟨0 + l.val, by omega⟩ :=
  (low_at L ⟨0, by omega⟩ (by decide) (col0 v hp) l).trans (congrArg (qaRow p g cs sn) (Fin.ext (by simp only [])))

theorem pay18_at {r : Fin 512} {p : Fin 2304 → EReal} (hp : ∀ c, v (ix2 r c) = p c) {g : Fin 64 → EReal} {cs sn : Fin 32 → EReal}
    (L : Lanes (k0_pay5 seg) (k0_pay10 gn) cos sin r g qs cs sn) (l : Fin 128) :
    k0_pay18 k0_pay3 k0_pay4 cos sin (k0_pay14 v seg gn) (k0_pay15 v seg gn) 1#32 (ix2 r l)
      = qaRow p g cs sn ⟨128 + l.val, by omega⟩ :=
  (lowSwapped_at L ⟨0, by omega⟩ (by decide) (col0 v hp) l).trans (congrArg (qaRow p g cs sn) (Fin.ext (by simp only [])))

theorem pay20_at {r : Fin 512} {p : Fin 2304 → EReal} (hp : ∀ c, v (ix2 r c) = p c) {g : Fin 64 → EReal} {cs sn : Fin 32 → EReal}
    (L : Lanes seg gn cos sin r g qs cs sn) (l : Fin 128) :
    k0_pay20 v k0_pay3 k0_pay4 seg cos sin gn (ix2 r l)
      = qaRow p g cs sn ⟨256 + l.val, by omega⟩ :=
  (low_at L ⟨1, by omega⟩ (by decide) (col128 v hp) l).trans (congrArg (qaRow p g cs sn) (Fin.ext (by simp only [])))

theorem pay21_at {r : Fin 512} {p : Fin 2304 → EReal} (hp : ∀ c, v (ix2 r c) = p c) {g : Fin 64 → EReal} {cs sn : Fin 32 → EReal}
    (L : Lanes seg gn cos sin r g qs cs sn) (l : Fin 128) :
    k0_pay21 v k0_pay3 k0_pay4 seg cos sin gn (ix2 r l)
      = qaRow p g cs sn ⟨384 + l.val, by omega⟩ :=
  (lowSwapped_at L ⟨1, by omega⟩ (by decide) (col128 v hp) l).trans (congrArg (qaRow p g cs sn) (Fin.ext (by simp only [])))

theorem pay23_at {r : Fin 512} {p : Fin 2304 → EReal} (hp : ∀ c, v (ix2 r c) = p c) {g : Fin 64 → EReal} {cs sn : Fin 32 → EReal}
    (L : Lanes seg gn cos sin r g qs cs sn) (l : Fin 128) :
    k0_pay23 v k0_pay3 k0_pay4 seg cos sin gn (ix2 r l)
      = qaRow p g cs sn ⟨512 + l.val, by omega⟩ :=
  (highSwapped_at L ⟨2, by omega⟩ (by decide) (col256 v hp) l).trans (congrArg (qaRow p g cs sn) (Fin.ext (by simp only [])))

theorem pay24_at {r : Fin 512} {p : Fin 2304 → EReal} (hp : ∀ c, v (ix2 r c) = p c) {g : Fin 64 → EReal} {cs sn : Fin 32 → EReal}
    (L : Lanes seg gn cos sin r g qs cs sn) (l : Fin 128) :
    k0_pay24 v k0_pay3 k0_pay4 seg cos sin gn (ix2 r l)
      = qaRow p g cs sn ⟨640 + l.val, by omega⟩ :=
  (high_at L ⟨2, by omega⟩ (by decide) (col256 v hp) l).trans (congrArg (qaRow p g cs sn) (Fin.ext (by simp only [])))

theorem pay28_at {r : Fin 512} {p : Fin 2304 → EReal} (hp : ∀ c, v (ix2 r c) = p c) {g : Fin 64 → EReal} {cs sn : Fin 32 → EReal}
    (L : Lanes seg gn cos sin r g qs cs sn) (l : Fin 128) :
    k0_pay28 k0_pay3 k0_pay4 cos sin gn (k0_pay25 v) (k0_pay26 v seg) (ix2 r l)
      = qaRow p g cs sn ⟨768 + l.val, by omega⟩ :=
  (highSwapped_at L ⟨3, by omega⟩ (by decide) (col384 v hp) l).trans (congrArg (qaRow p g cs sn) (Fin.ext (by simp only [])))

theorem pay29_at {r : Fin 512} {p : Fin 2304 → EReal} (hp : ∀ c, v (ix2 r c) = p c) {g : Fin 64 → EReal} {cs sn : Fin 32 → EReal}
    (L : Lanes seg gn cos sin r g qs cs sn) (l : Fin 128) :
    k0_pay29 k0_pay3 k0_pay4 cos sin gn (k0_pay25 v) (k0_pay26 v seg) (ix2 r l)
      = qaRow p g cs sn ⟨896 + l.val, by omega⟩ :=
  (high_at L ⟨3, by omega⟩ (by decide) (col384 v hp) l).trans (congrArg (qaRow p g cs sn) (Fin.ext (by simp only [])))

theorem pay30_at {r : Fin 512} {p : Fin 2304 → EReal} (hp : ∀ c, v (ix2 r c) = p c) {g : Fin 64 → EReal} {cs sn : Fin 32 → EReal}
    (L : Lanes seg gn cos sin r g 1 cs sn) (l : Fin 128) :
    k0_pay30 v k0_pay3 seg cos sin gn (ix2 r l)
      = turn p g cs sn ⟨8 + l.val / 64, by omega⟩ ⟨l.val % 64, by omega⟩ :=
  (head_at L zero_le_one (EReal.coe_ne_top 1) ⟨4, by omega⟩ (col512 v hp) l).trans (mul_one _)

theorem pay32_at {r : Fin 512} {p : Fin 2304 → EReal} (hp : ∀ c, v (ix2 r c) = p c) {g : Fin 64 → EReal} {cs sn : Fin 32 → EReal}
    (L : Lanes seg gn cos sin r g qs cs sn) (l : Fin 128) :
    k0_pay32 v k0_pay3 seg cos sin gn (ix2 r l)
      = turn p g cs sn ⟨12 + l.val / 64, by omega⟩ ⟨l.val % 64, by omega⟩ * qs :=
  head_at L qs_nonneg qs_ne_top ⟨6, by omega⟩ (col768 v hp) l

theorem pay33_at {r : Fin 512} {p : Fin 2304 → EReal} (hp : ∀ c, v (ix2 r c) = p c) {g : Fin 64 → EReal} {cs sn : Fin 32 → EReal}
    (L : Lanes seg gn cos sin r g qs cs sn) (l : Fin 128) :
    k0_pay33 v k0_pay3 seg cos sin gn (ix2 r l)
      = turn p g cs sn ⟨14 + l.val / 64, by omega⟩ ⟨l.val % 64, by omega⟩ * qs :=
  head_at L qs_nonneg qs_ne_top ⟨7, by omega⟩ (col896 v hp) l

theorem pay34_at {r : Fin 512} {p : Fin 2304 → EReal} (hp : ∀ c, v (ix2 r c) = p c) {g : Fin 64 → EReal} {cs sn : Fin 32 → EReal}
    (L : Lanes seg gn cos sin r g qs cs sn) (l : Fin 128) :
    k0_pay34 v k0_pay3 seg cos sin gn (ix2 r l)
      = turn p g cs sn ⟨16 + l.val / 64, by omega⟩ ⟨l.val % 64, by omega⟩ * qs :=
  head_at L qs_nonneg qs_ne_top ⟨8, by omega⟩ (col1024 v hp) l

theorem pay35_at {r : Fin 512} {p : Fin 2304 → EReal} (hp : ∀ c, v (ix2 r c) = p c) {g : Fin 64 → EReal} {cs sn : Fin 32 → EReal}
    (L : Lanes seg gn cos sin r g qs cs sn) (l : Fin 128) :
    k0_pay35 v k0_pay3 seg cos sin gn (ix2 r l)
      = turn p g cs sn ⟨18 + l.val / 64, by omega⟩ ⟨l.val % 64, by omega⟩ * qs :=
  head_at L qs_nonneg qs_ne_top ⟨9, by omega⟩ (col1152 v hp) l

theorem pay36_at {r : Fin 512} {p : Fin 2304 → EReal} (hp : ∀ c, v (ix2 r c) = p c) {g : Fin 64 → EReal} {cs sn : Fin 32 → EReal}
    (L : Lanes seg gn cos sin r g 1 cs sn) (l : Fin 128) :
    k0_pay36 v k0_pay3 seg cos sin gn (ix2 r l)
      = turn p g cs sn ⟨20 + l.val / 64, by omega⟩ ⟨l.val % 64, by omega⟩ :=
  (head_at L zero_le_one (EReal.coe_ne_top 1) ⟨10, by omega⟩ (col1280 v hp) l).trans (mul_one _)

theorem pay37_at {r : Fin 512} {p : Fin 2304 → EReal} (hp : ∀ c, v (ix2 r c) = p c) {g : Fin 64 → EReal} {cs sn : Fin 32 → EReal}
    (L : Lanes seg gn cos sin r g 1 cs sn) (l : Fin 128) :
    k0_pay37 v k0_pay3 seg cos sin gn (ix2 r l)
      = turn p g cs sn ⟨22 + l.val / 64, by omega⟩ ⟨l.val % 64, by omega⟩ :=
  (head_at L zero_le_one (EReal.coe_ne_top 1) ⟨11, by omega⟩ (col1408 v hp) l).trans (mul_one _)

theorem pay40_at {r : Fin 512} {p : Fin 2304 → EReal} (hp : ∀ c, v (ix2 r c) = p c) {g : Fin 64 → EReal} {cs sn : Fin 32 → EReal}
    (L : Lanes seg gn cos sin r g 1 cs sn) (l : Fin 128) :
    k0_pay40 k0_pay3 seg cos sin gn (k0_pay38 v) (k0_pay39 v) (constant S512x128 .f32 0x00000000#32) (ix2 r l)
      = turn p g cs sn ⟨24 + l.val / 64, by omega⟩ ⟨l.val % 64, by omega⟩ :=
  (head_at L zero_le_one (EReal.coe_ne_top 1) ⟨12, by omega⟩ (col1536 v hp) l).trans (mul_one _)

theorem pay41_at {r : Fin 512} {p : Fin 2304 → EReal} (hp : ∀ c, v (ix2 r c) = p c) {g : Fin 64 → EReal} {cs sn : Fin 32 → EReal}
    (L : Lanes seg gn cos sin r g 1 cs sn) (l : Fin 128) :
    k0_pay41 v k0_pay3 seg cos sin gn (ix2 r l)
      = turn p g cs sn ⟨26 + l.val / 64, by omega⟩ ⟨l.val % 64, by omega⟩ :=
  (head_at L zero_le_one (EReal.coe_ne_top 1) ⟨13, by omega⟩ (col1664 v hp) l).trans (mul_one _)

theorem pay31_at {r : Fin 512} {p : Fin 2304 → EReal} (hp : ∀ c, v (ix2 r c) = p c) (l : Fin 128) :
    k0_pay31 v (ix2 r l) = p ⟨640 + l.val, by omega⟩ := by
  rw [← hp]
  pointwise [k0_pay31]

theorem pay1_at {r : Fin 512} {p : Fin 2304 → EReal} (hp : ∀ c, v (ix2 r c) = p c) (l : Fin 512) :
    k0_pay1 v (ix2 r l) = p ⟨1792 + l.val, by omega⟩ := by
  rw [← hp]
  pointwise [k0_pay1]

end Cert.KernelDIdeal.Proj

end
-- ==== Proof.ProjHost.lean ====
/- What the host's operations hand the projection kernel. -/
module

public import proofs.«01_k».proof.Proof.ProjPay
public import proofs.«01_k».proof.Proof.Gen.KernelDIdeal.Value
public import Idealize.ShloMosaic.Lib.Pipeline.ValueKit
public import Idealize.ShloMosaic.Lib.StableHlo.ReadAt

@[expose] public section

set_option maxRecDepth 16384

noncomputable section

namespace Cert.KernelDIdeal.Proj

open Cert.KernelDIdeal Cert.KernelDIdeal.Gen Idealize.ShloMosaic Idealize.ShloMosaic.TcCoe Idealize.SL.Sem
open Idealize.ShloMosaic.Pipeline (Dat)
open Cert.ProjRow

variable (m : (ℓ : Loc nD τ sig) → Buf (Elt Ideal) ℓ)

/-- A table of cosines, of an array of angles. -/
theorem cosTable (a : FVec Ideal S4096x32 .f32) (t : Fin 4096) (b : Fin 2) (d : Fin 64) :
    (shapeCast S4096x128 (broadcastInDim S1x4096x2x64 ![0, 1, 2, 3] bcast_S1x4096x1x64_S1x4096x2x64_0_1_2_3
      (shapeCast S1x4096x1x64 (shapeCast S4096x64 (broadcastInDim S4096x32x2 ![0, 1] bcast_S4096x32_S4096x32x2_0_1 (Host.cos a))
        shapeCasts_S4096x32x2_S4096x64) shapeCasts_S4096x64_S1x4096x1x64)) shapeCasts_S1x4096x2x64_S4096x128
        : FVec Ideal S4096x128 .f32) (ix2 t (lane b d)) = Host.cos a (ix2 t (pr d)) := by
  pointwise [lane, pr]

/-- A table of sines, the even lanes' negated. -/
theorem sinTable (a : FVec Ideal S4096x32 .f32) (t : Fin 4096) (b : Fin 2) (d : Fin 64) :
    (shapeCast S4096x128 (broadcastInDim S1x4096x2x64 ![0, 1, 2, 3] bcast_S1x4096x1x64_S1x4096x2x64_0_1_2_3
      (shapeCast S1x4096x1x64 (shapeCast S4096x64 (concatenate S4096x32x2 2
        [⟨S4096x32x1, broadcastInDim S4096x32x1 ![0, 1] bcast_S4096x32_S4096x32x1_0_1 (Host.negf (Host.sin a))⟩,
         ⟨S4096x32x1, broadcastInDim S4096x32x1 ![0, 1] bcast_S4096x32_S4096x32x1_0_1 (Host.sin a)⟩]
        concatenates_S4096x32x1_S4096x32x1_S4096x32x2_d2)
        shapeCasts_S4096x32x2_S4096x64) shapeCasts_S4096x64_S1x4096x1x64)) shapeCasts_S1x4096x2x64_S4096x128
        : FVec Ideal S4096x128 .f32) (ix2 t (lane b d))
      = if d.val % 2 = 0 then -(Host.sin a (ix2 t (pr d))) else Host.sin a (ix2 t (pr d)) := by
  pointwise [lane, pr]
  by_cases h : d.val % 2 = 0
  · rw [dif_pos (by omega), if_pos h]
  · rw [dif_neg (by omega), if_neg h]

/-- The angles of the first group, by position. -/
def angA (c : Dev nD) : FVec Ideal S4096x32 .f32 := V m c main_v25

/-- The angles of the second group. -/
def angB (c : Dev nD) : FVec Ideal S4096x32 .f32 := V m c main_v57

/-- The first group's cosines. -/
theorem cosA_at (c : Dev nD) (t : Fin 4096) (b : Fin 2) (d : Fin 64) :
    (V m c main_v53 : FVec Ideal S4096x128 .f32) (ix2 t (lane b d))
      = Host.cos (angA m c) (ix2 t (pr d)) := by
  unfold angA V
  simp only [List.flatten_cons, List.flatten_nil, List.append_nil, List.cons_append, List.nil_append]
  after_reads_simp
  try simp only [StableHlo.TRef.ofBuf_toBuf]
  try simp -implicitDefEqProofs only [StableHlo.TRef.toBuf, StableHlo.TRef.ofBuf, cast_cast, cast_eq]
  exact cosTable _ t b d

set_option maxHeartbeats 1000000 in
/-- The first group's sines. -/
theorem sinA_at (c : Dev nD) (t : Fin 4096) (b : Fin 2) (d : Fin 64) :
    (V m c main_v56 : FVec Ideal S4096x128 .f32) (ix2 t (lane b d))
      = if d.val % 2 = 0 then -(Host.sin (angA m c) (ix2 t (pr d))) else Host.sin (angA m c) (ix2 t (pr d)) := by
  unfold angA V
  simp only [List.flatten_cons, List.flatten_nil, List.append_nil, List.cons_append, List.nil_append]
  after_reads_simp
  try simp only [StableHlo.TRef.ofBuf_toBuf]
  try simp -implicitDefEqProofs only [StableHlo.TRef.toBuf, StableHlo.TRef.ofBuf, cast_cast, cast_eq]
  exact sinTable _ t b d

/-- The second group's cosines. -/
theorem cosB_at (c : Dev nD) (t : Fin 4096) (b : Fin 2) (d : Fin 64) :
    (V m c main_v69 : FVec Ideal S4096x128 .f32) (ix2 t (lane b d))
      = Host.cos (angB m c) (ix2 t (pr d)) := by
  unfold angB V
  simp only [List.flatten_cons, List.flatten_nil, List.append_nil, List.cons_append, List.nil_append]
  after_reads_simp
  try simp only [StableHlo.TRef.ofBuf_toBuf]
  try simp -implicitDefEqProofs only [StableHlo.TRef.toBuf, StableHlo.TRef.ofBuf, cast_cast, cast_eq]
  exact cosTable _ t b d

/-- The second group's sines. -/
theorem sinB_at (c : Dev nD) (t : Fin 4096) (b : Fin 2) (d : Fin 64) :
    (V m c main_v72 : FVec Ideal S4096x128 .f32) (ix2 t (lane b d))
      = if d.val % 2 = 0 then -(Host.sin (angB m c) (ix2 t (pr d))) else Host.sin (angB m c) (ix2 t (pr d)) := by
  unfold angB V
  simp only [List.flatten_cons, List.flatten_nil, List.append_nil, List.cons_append, List.nil_append]
  after_reads_simp
  try simp only [StableHlo.TRef.ofBuf_toBuf]
  try simp -implicitDefEqProofs only [StableHlo.TRef.toBuf, StableHlo.TRef.ofBuf, cast_cast, cast_eq]
  exact sinTable _ t b d

/-- Row 0 of the four gains. -/
theorem gains_0 (w x y z : FVec Ideal S1x128 .f32) (j : Fin 128) (h) :
    concatenate S4x128 0 [⟨S1x128, w⟩, ⟨S1x128, x⟩, ⟨S1x128, y⟩, ⟨S1x128, z⟩] h (ix2 0 j) = w (ix2 0 j) := by
  pointwise

/-- Gain 0, twice side by side. -/
theorem gain0_at (c : Dev nD) (b : Fin 2) (d : Fin 64) :
    (V m c main_v125 : FVec Ideal S4x128 .f32) (ix2 0 (lane b d))
      = (m ((c : Thread nD τ).loc main_arg3) : FVec Ideal S1x64 .f32) (ix2 0 d) := by
  unfold V
  simp only [List.flatten_cons, List.flatten_nil, List.append_nil, List.cons_append, List.nil_append]
  after_reads_simp
  refine (gains_0 _ _ _ _ _ _).trans ?_
  refine (congrFun (StableHlo.unary_result (x := main_v108) (y := main_v121) _ _ _ _) _).trans ?_
  after_reads_simp
  try simp only [StableHlo.TRef.ofBuf_toBuf]
  try simp -implicitDefEqProofs only [StableHlo.TRef.toBuf, StableHlo.TRef.ofBuf, cast_cast, cast_eq]
  try clean_types
  pointwise [lane]
  exact congrArg (fun j => (m ((c : Thread nD τ).loc main_arg3) : FVec Ideal S1x64 .f32) (ix2 0 j)) (Fin.ext (by simp only []; omega))

/-- Row 1 of the four gains. -/
theorem gains_1 (w x y z : FVec Ideal S1x128 .f32) (j : Fin 128) (h) :
    concatenate S4x128 0 [⟨S1x128, w⟩, ⟨S1x128, x⟩, ⟨S1x128, y⟩, ⟨S1x128, z⟩] h (ix2 1 j) = x (ix2 0 j) := by
  pointwise

/-- Gain 1, twice side by side. -/
theorem gain1_at (c : Dev nD) (b : Fin 2) (d : Fin 64) :
    (V m c main_v125 : FVec Ideal S4x128 .f32) (ix2 1 (lane b d))
      = (m ((c : Thread nD τ).loc main_arg4) : FVec Ideal S1x64 .f32) (ix2 0 d) := by
  unfold V
  simp only [List.flatten_cons, List.flatten_nil, List.append_nil, List.cons_append, List.nil_append]
  after_reads_simp
  refine (gains_1 _ _ _ _ _ _).trans ?_
  refine (congrFun (StableHlo.unary_result (x := main_v112) (y := main_v122) _ _ _ _) _).trans ?_
  after_reads_simp
  try simp only [StableHlo.TRef.ofBuf_toBuf]
  try simp -implicitDefEqProofs only [StableHlo.TRef.toBuf, StableHlo.TRef.ofBuf, cast_cast, cast_eq]
  try clean_types
  pointwise [lane]
  exact congrArg (fun j => (m ((c : Thread nD τ).loc main_arg4) : FVec Ideal S1x64 .f32) (ix2 0 j)) (Fin.ext (by simp only []; omega))

/-- Row 2 of the four gains. -/
theorem gains_2 (w x y z : FVec Ideal S1x128 .f32) (j : Fin 128) (h) :
    concatenate S4x128 0 [⟨S1x128, w⟩, ⟨S1x128, x⟩, ⟨S1x128, y⟩, ⟨S1x128, z⟩] h (ix2 2 j) = y (ix2 0 j) := by
  pointwise

/-- Gain 2, twice side by side. -/
theorem gain2_at (c : Dev nD) (b : Fin 2) (d : Fin 64) :
    (V m c main_v125 : FVec Ideal S4x128 .f32) (ix2 2 (lane b d))
      = (m ((c : Thread nD τ).loc main_arg5) : FVec Ideal S1x64 .f32) (ix2 0 d) := by
  unfold V
  simp only [List.flatten_cons, List.flatten_nil, List.append_nil, List.cons_append, List.nil_append]
  after_reads_simp
  refine (gains_2 _ _ _ _ _ _).trans ?_
  refine (congrFun (StableHlo.unary_result (x := main_v116) (y := main_v123) _ _ _ _) _).trans ?_
  after_reads_simp
  try simp only [StableHlo.TRef.ofBuf_toBuf]
  try simp -implicitDefEqProofs only [StableHlo.TRef.toBuf, StableHlo.TRef.ofBuf, cast_cast, cast_eq]
  try clean_types
  pointwise [lane]
  exact congrArg (fun j => (m ((c : Thread nD τ).loc main_arg5) : FVec Ideal S1x64 .f32) (ix2 0 j)) (Fin.ext (by simp only []; omega))

/-- Row 3 of the four gains. -/
theorem gains_3 (w x y z : FVec Ideal S1x128 .f32) (j : Fin 128) (h) :
    concatenate S4x128 0 [⟨S1x128, w⟩, ⟨S1x128, x⟩, ⟨S1x128, y⟩, ⟨S1x128, z⟩] h (ix2 3 j) = z (ix2 0 j) := by
  pointwise

/-- Gain 3, twice side by side. -/
theorem gain3_at (c : Dev nD) (b : Fin 2) (d : Fin 64) :
    (V m c main_v125 : FVec Ideal S4x128 .f32) (ix2 3 (lane b d))
      = (m ((c : Thread nD τ).loc main_arg6) : FVec Ideal S1x64 .f32) (ix2 0 d) := by
  unfold V
  simp only [List.flatten_cons, List.flatten_nil, List.append_nil, List.cons_append, List.nil_append]
  after_reads_simp
  refine (gains_3 _ _ _ _ _ _).trans ?_
  refine (congrFun (StableHlo.unary_result (x := main_v120) (y := main_v124) _ _ _ _) _).trans ?_
  after_reads_simp
  try simp only [StableHlo.TRef.ofBuf_toBuf]
  try simp -implicitDefEqProofs only [StableHlo.TRef.toBuf, StableHlo.TRef.ofBuf, cast_cast, cast_eq]
  try clean_types
  pointwise [lane]
  exact congrArg (fun j => (m ((c : Thread nD τ).loc main_arg6) : FVec Ideal S1x64 .f32) (ix2 0 j)) (Fin.ext (by simp only []; omega))

/-- The word of a lane's head. -/
def headWord (k : Fin 128) : BitVec 32 :=
  Scalar.select
    (IntOp.andi
      (IntOp.cmpi CmpIPredicate.ne
        (if BitVec.ofNat 32 k.val = 0 then (0 : BitVec 32) else if (BitVec.ofNat 32 k.val).msb = true then -1 else 1)
        (if 64#32 = 0 then (0 : BitVec 32) else if (64#32).msb = true then -1 else 1))
      (IntOp.cmpi CmpIPredicate.ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32)

/-- It is the head's number. -/
theorem headWord_eq : ∀ k : Fin 128, headWord k = if k.val / 64 = 0 then 0#32 else 1#32 := by decide +kernel

/-- A bit as a number. -/
theorem bitOne : (FloatOps.uitofp (F := Ideal) FTy.bf16 (1#1) : EReal) = 1 := by
  show ((((1#1 : BitVec 1).toNat : ℕ) : ℝ) : EReal) = 1
  simp

/-- The clear bit as a number. -/
theorem bitZero : (FloatOps.uitofp (F := Ideal) FTy.bf16 (0#1) : EReal) = 0 := by
  show ((((0#1 : BitVec 1).toNat : ℕ) : ℝ) : EReal) = 0
  simp

/-- Two lanes' heads compared. -/
theorem sameHead (k l : Fin 128) :
    (FloatOps.uitofp (F := Ideal) FTy.bf16 (IntOp.cmpi CmpIPredicate.eq (headWord k) (headWord l)) : EReal)
      = if k.val / 64 = l.val / 64 then (1 : EReal) else 0 := by
  rw [headWord_eq, headWord_eq]
  by_cases hk : k.val / 64 = 0 <;> by_cases hl : l.val / 64 = 0
  · rw [if_pos hk, if_pos hl, if_pos (by omega)]
    exact bitOne
  · rw [if_pos hk, if_neg hl, if_neg (by omega)]
    exact bitZero
  · rw [if_neg hk, if_pos hl, if_neg (by omega)]
    exact bitZero
  · rw [if_neg hk, if_neg hl, if_pos (by omega)]
    exact bitOne

/-- The mask of the heads in a block of lanes. -/
theorem seg_at (c : Dev nD) (k l : Fin 128) :
    (V m c main_v133 : FVec Ideal S128x128 .bf16) (ix2 k l) = if k.val / 64 = l.val / 64 then (1 : EReal) else 0 := by
  unfold V
  simp only [List.flatten_cons, List.flatten_nil, List.append_nil, List.cons_append, List.nil_append]
  entry_read
  try simp only [StableHlo.TRef.ofBuf_toBuf]
  try simp -implicitDefEqProofs only [StableHlo.TRef.toBuf, StableHlo.TRef.ofBuf, cast_cast, cast_eq]
  try clean_types
  pointwise
  exact sameHead k l

/-- The rows of the flattened input. -/
theorem x_at (c : Dev nD) (r : Fin 32768) (n : Fin 1024) :
    (V m c main_v138 : FVec Ideal S32768x1024 .f32) (ix2 r n)
      = (m ((c : Thread nD τ).loc main_arg0) : FVec Ideal S8x4096x1024 .f32) (ix3 ⟨r.val / 4096, by omega⟩ ⟨r.val % 4096, by omega⟩ n) := by
  unfold V
  simp only [List.flatten_cons, List.flatten_nil, List.append_nil, List.cons_append, List.nil_append]
  entry_read
  try simp only [StableHlo.TRef.ofBuf_toBuf]
  try simp -implicitDefEqProofs only [StableHlo.TRef.toBuf, StableHlo.TRef.ofBuf, cast_cast, cast_eq]
  try clean_types
  pointwise

/-- The gain of the row norm. -/
theorem g_at (c : Dev nD) (n : Fin 1024) :
    (V m c main_v137 : FVec Ideal S1x1024 .f32) (ix2 0 n) = (m ((c : Thread nD τ).loc main_arg1) : FVec Ideal S1x1024 .f32) (ix2 0 n) := by
  unfold V
  simp only [List.flatten_cons, List.flatten_nil, List.append_nil, List.cons_append, List.nil_append]
  entry_read
  try simp only [StableHlo.TRef.ofBuf_toBuf]
  try simp -implicitDefEqProofs only [StableHlo.TRef.toBuf, StableHlo.TRef.ofBuf, cast_cast, cast_eq]
  try clean_types
  pointwise

/-- The projection's weights. -/
theorem w_at (c : Dev nD) (k : Fin 1024) (n : Fin 2304) :
    (V m c main_v135 : FVec Ideal S1024x2304 .bf16) (ix2 k n)
      = (m ((c : Thread nD τ).loc main_arg2) : FVec Ideal S1x1024x2304 .f32) (ix3 0 k n) := by
  unfold V
  simp only [List.flatten_cons, List.flatten_nil, List.append_nil, List.cons_append, List.nil_append]
  entry_read
  try simp only [StableHlo.TRef.ofBuf_toBuf]
  try simp -implicitDefEqProofs only [StableHlo.TRef.toBuf, StableHlo.TRef.ofBuf, cast_cast, cast_eq]
  try clean_types
  pointwise

end Cert.KernelDIdeal.Proj

end
-- ==== Proof.ProjKernel.lean ====
/- The projection kernel's stored blocks, and from them its result arrays, as rows of the functions of `ProjRow`. -/
module

public import Idealize.ShloMosaic.Lib.Pipeline.ReadBack
public import proofs.«01_k».proof.Proof.ProjHost

@[expose] public section

set_option maxRecDepth 16384

noncomputable section

namespace Cert.KernelDIdeal.Proj

open Cert.KernelDIdeal Cert.KernelDIdeal.Gen Idealize.ShloMosaic Idealize.ShloMosaic.TcCoe Idealize.SL.Sem
open Idealize.ShloMosaic.Pipeline (Dat)
open Cert.ProjRow

variable (m : (ℓ : Loc nD τ sig) → Buf (Elt Ideal) ℓ)

/-- The index maps of the windows: the rows move with the point, the tables with its place in the sequence. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![t.val % 8, 0]
    ∧ win0_6.index t = ![t.val % 8, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ t.val < 64 :=
  (by decide +kernel : ∀ t : Fin grid0.N, _)

/-- The batch entry that a row of the flattened arrays is in. -/
def batch (r : Fin 32768) : Fin 8 := ⟨r.val / 4096, by omega⟩
/-- Its position. -/
def pos (r : Fin 32768) : Fin 4096 := ⟨r.val % 4096, by omega⟩

/-- The row of the flattened arrays at which row `r` of point `t`'s blocks sits. -/
def row (t : Fin cfg0.N) (r : Fin 512) : Fin 32768 :=
  ⟨t.val * 512 + r.val, by have := (idx t).2.2.2.2.2.2.2.2.2.2.2.2.2.2.2; omega⟩

/-- What window 0 reads. -/
theorem blk0 (c : Dev nD) (t : Fin cfg0.N) (r : Fin 512) (n : Fin 1024) :
    (iblk m c 0 t : FVec Ideal S512x1024 .f32) (ix2 r n) = (V m c main_v138 : FVec Ideal S32768x1024 .f32) (ix2 (row t r) n) := by
  blk_simp [iblk]
  unfold row
  blk_ext [idx t]

/-- What window 1 reads. -/
theorem blk1 (c : Dev nD) (t : Fin cfg0.N) (n : Fin 1024) :
    (iblk m c 1 t : FVec Ideal S1x1024 .f32) (ix2 0 n) = (V m c main_v137 : FVec Ideal S1x1024 .f32) (ix2 0 n) := by
  blk_simp [iblk]
  blk_ext [idx t]

/-- What window 2 reads. -/
theorem blk2 (c : Dev nD) (t : Fin cfg0.N) (k : Fin 1024) (n : Fin 2304) :
    (iblk m c 2 t : FVec Ideal S1024x2304 .bf16) (ix2 k n) = (V m c main_v135 : FVec Ideal S1024x2304 .bf16) (ix2 k n) := by
  blk_simp [iblk]
  blk_ext [idx t]

/-- What window 3 reads. -/
theorem blk3 (c : Dev nD) (t : Fin cfg0.N) (r : Fin 512) (l : Fin 128) :
    (iblk m c 3 t : FVec Ideal S512x128 .f32) (ix2 r l) = (V m c main_v53 : FVec Ideal S4096x128 .f32) (ix2 (pos (row t r)) l) := by
  blk_simp [iblk]
  unfold pos row
  blk_ext [idx t]

/-- What window 4 reads. -/
theorem blk4 (c : Dev nD) (t : Fin cfg0.N) (r : Fin 512) (l : Fin 128) :
    (iblk m c 4 t : FVec Ideal S512x128 .f32) (ix2 r l) = (V m c main_v56 : FVec Ideal S4096x128 .f32) (ix2 (pos (row t r)) l) := by
  blk_simp [iblk]
  unfold pos row
  blk_ext [idx t]

/-- What window 5 reads. -/
theorem blk5 (c : Dev nD) (t : Fin cfg0.N) (r : Fin 512) (l : Fin 128) :
    (iblk m c 5 t : FVec Ideal S512x128 .f32) (ix2 r l) = (V m c main_v69 : FVec Ideal S4096x128 .f32) (ix2 (pos (row t r)) l) := by
  blk_simp [iblk]
  unfold pos row
  blk_ext [idx t]

/-- What window 6 reads. -/
theorem blk6 (c : Dev nD) (t : Fin cfg0.N) (r : Fin 512) (l : Fin 128) :
    (iblk m c 6 t : FVec Ideal S512x128 .f32) (ix2 r l) = (V m c main_v72 : FVec Ideal S4096x128 .f32) (ix2 (pos (row t r)) l) := by
  blk_simp [iblk]
  unfold pos row
  blk_ext [idx t]

/-- What window 7 reads. -/
theorem blk7 (c : Dev nD) (t : Fin cfg0.N) (k : Fin 4) (l : Fin 128) :
    (iblk m c 7 t : FVec Ideal S4x128 .f32) (ix2 k l) = (V m c main_v125 : FVec Ideal S4x128 .f32) (ix2 k l) := by
  blk_simp [iblk]
  blk_ext [idx t]

/-- What window 8 reads. -/
theorem blk8 (c : Dev nD) (t : Fin cfg0.N) (k l : Fin 128) :
    (iblk m c 8 t : FVec Ideal S128x128 .bf16) (ix2 k l) = (V m c main_v133 : FVec Ideal S128x128 .bf16) (ix2 k l) := by
  blk_simp [iblk]
  blk_ext [idx t]

/-- A row's projection, over the argument arrays. -/
def P (c : Dev nD) (r : Fin 32768) : Fin 2304 → EReal :=
  prj (fun n => (m ((c : Thread nD τ).loc main_arg0) : FVec Ideal S8x4096x1024 .f32) (ix3 (batch r) (pos r) n))
    (fun n => (m ((c : Thread nD τ).loc main_arg1) : FVec Ideal S1x1024 .f32) (ix2 0 n))
    (fun k n => (m ((c : Thread nD τ).loc main_arg2) : FVec Ideal S1x1024x2304 .f32) (ix3 0 k n))

/-- The cosines of the angles at a row. -/
def cosOf (a : FVec Ideal S4096x32 .f32) (r : Fin 32768) (i : Fin 32) : EReal := Host.cos a (ix2 (pos r) i)
/-- The sines. -/
def sinOf (a : FVec Ideal S4096x32 .f32) (r : Fin 32768) (i : Fin 32) : EReal := Host.sin a (ix2 (pos r) i)
/-- A gain. -/
def gainOf (g : FVec Ideal S1x64 .f32) (d : Fin 64) : EReal := g (ix2 0 d)

/-- A load through a rectangle of two axes. -/
theorem ld2 {a b a' b' : ℕ} {e : EltTy} (X : (⟨2, ![a, b]⟩ : Shape).Idx → Elt Ideal e) (o : ℕ) (inb) (i : Fin a') (j : Fin b')
    (h : o + i.val < a) (h' : j.val < b) :
    View.ld X (Rect.unit (s := ⟨2, ![a, b]⟩) ![o, 0] ![a', b'] inb) (ix2 i j) = X (ix2 ⟨o + i.val, h⟩ ⟨j.val, h'⟩) :=
  View.ld_unit_apply_of X ![o, 0] ![a', b'] inb (ix2 i j) (ix2 ⟨o + i.val, h⟩ ⟨j.val, h'⟩) fun x => by
    fin_cases x <;> simp

variable (c : Dev nD) (t : Fin cfg0.N) (r : Fin 512)

/-- A block's projection. -/
abbrev pv : FVec Ideal S512x2304 .f32 :=
  k0_pay2 (View.ld (iblk m c 0 t) r0_0) (View.ld (iblk m c 1 t) r0_1) (View.ld (iblk m c 2 t) r0_2)

/-- Its rows. -/
theorem pv_at (n : Fin 2304) : pv m c t (ix2 r n) = P m c (row t r) n := by
  refine (proj_at _ _ _ r n).trans ?_
  unfold P
  have e0 : (fun k => View.ld (iblk m c 0 t) r0_0 (ix2 r k))
      = fun n => (m ((c : Thread nD τ).loc main_arg0) : FVec Ideal S8x4096x1024 .f32) (ix3 (batch (row t r)) (pos (row t r)) n) :=
    funext fun k => (ld2 _ 0 _ r k (by omega) k.isLt).trans
      ((congrArg (fun r' => (iblk m c 0 t : FVec Ideal S512x1024 .f32) (ix2 r' k)) (Fin.ext (Nat.zero_add _))).trans
        ((blk0 m c t r k).trans (x_at m c (row t r) k)))
  have e1 : (fun k => View.ld (iblk m c 1 t) r0_1 (ix2 0 k))
      = fun n => (m ((c : Thread nD τ).loc main_arg1) : FVec Ideal S1x1024 .f32) (ix2 0 n) :=
    funext fun k => (ld2 _ 0 _ 0 k (by omega) k.isLt).trans ((blk1 m c t k).trans (g_at m c k))
  have e2 : (fun k n => View.ld (iblk m c 2 t) r0_2 (ix2 k n))
      = fun k n => (m ((c : Thread nD τ).loc main_arg2) : FVec Ideal S1x1024x2304 .f32) (ix3 0 k n) :=
    funext fun k => funext fun n => (ld2 _ 0 _ k n (by omega) n.isLt).trans
      ((congrArg (fun k' => (iblk m c 2 t : FVec Ideal S1024x2304 .bf16) (ix2 k' n)) (Fin.ext (Nat.zero_add _))).trans
        ((blk2 m c t k n).trans (w_at m c k n)))
  exact congrFun (congr (congr (congrArg prj e0) e1) e2) n

/-- The mask of heads, as loaded. -/
theorem segBlk (k l : Fin 128) : k0_pay5 (View.ld (iblk m c 8 t) r0_3) (ix2 k l) = if k.val / 64 = l.val / 64 then (1 : EReal) else 0 := by
  refine Eq.trans ?_ (seg_at m c k l)
  refine Eq.trans ?_ (blk8 m c t k l)
  refine Eq.trans ?_ ((ld2 _ 0 inb_S128x128_S128x128_0_0 k l (by omega) l.isLt).trans
    (congrArg (fun k' => (iblk m c 8 t : FVec Ideal S128x128 .bf16) (ix2 k' l)) (Fin.ext (Nat.zero_add _))))
  pointwise [k0_pay5]

/-- Window 3's table, as loaded. -/
theorem tabBlk3 (b : Fin 2) (d : Fin 64) :
    k0_pay6 (View.ld (iblk m c 3 t) r0_4) (ix2 r (lane b d)) = cosOf (angA m c) (row t r) (pr d) := by
  refine Eq.trans ?_ (cosA_at m c (pos (row t r)) b d)
  refine Eq.trans ?_ (blk3 m c t r (lane b d))
  refine Eq.trans ?_ ((ld2 _ 0 inb_S512x128_S512x128_0_0 r (lane b d) (by omega) (lane b d).isLt).trans
    (congrArg (fun k' => (iblk m c 3 t : FVec Ideal S512x128 .f32) (ix2 k' (lane b d))) (Fin.ext (Nat.zero_add _))))
  pointwise [k0_pay6]

/-- Window 4's table, as loaded. -/
theorem tabBlk4 (b : Fin 2) (d : Fin 64) :
    k0_pay7 (View.ld (iblk m c 4 t) r0_4) (ix2 r (lane b d)) = if d.val % 2 = 0 then -(sinOf (angA m c) (row t r) (pr d)) else sinOf (angA m c) (row t r) (pr d) := by
  refine Eq.trans ?_ (sinA_at m c (pos (row t r)) b d)
  refine Eq.trans ?_ (blk4 m c t r (lane b d))
  refine Eq.trans ?_ ((ld2 _ 0 inb_S512x128_S512x128_0_0 r (lane b d) (by omega) (lane b d).isLt).trans
    (congrArg (fun k' => (iblk m c 4 t : FVec Ideal S512x128 .f32) (ix2 k' (lane b d))) (Fin.ext (Nat.zero_add _))))
  pointwise [k0_pay7]

/-- Window 5's table, as loaded. -/
theorem tabBlk5 (b : Fin 2) (d : Fin 64) :
    k0_pay8 (View.ld (iblk m c 5 t) r0_4) (ix2 r (lane b d)) = cosOf (angB m c) (row t r) (pr d) := by
  refine Eq.trans ?_ (cosB_at m c (pos (row t r)) b d)
  refine Eq.trans ?_ (blk5 m c t r (lane b d))
  refine Eq.trans ?_ ((ld2 _ 0 inb_S512x128_S512x128_0_0 r (lane b d) (by omega) (lane b d).isLt).trans
    (congrArg (fun k' => (iblk m c 5 t : FVec Ideal S512x128 .f32) (ix2 k' (lane b d))) (Fin.ext (Nat.zero_add _))))
  pointwise [k0_pay8]

/-- Window 6's table, as loaded. -/
theorem tabBlk6 (b : Fin 2) (d : Fin 64) :
    k0_pay9 (View.ld (iblk m c 6 t) r0_4) (ix2 r (lane b d)) = if d.val % 2 = 0 then -(sinOf (angB m c) (row t r) (pr d)) else sinOf (angB m c) (row t r) (pr d) := by
  refine Eq.trans ?_ (sinB_at m c (pos (row t r)) b d)
  refine Eq.trans ?_ (blk6 m c t r (lane b d))
  refine Eq.trans ?_ ((ld2 _ 0 inb_S512x128_S512x128_0_0 r (lane b d) (by omega) (lane b d).isLt).trans
    (congrArg (fun k' => (iblk m c 6 t : FVec Ideal S512x128 .f32) (ix2 k' (lane b d))) (Fin.ext (Nat.zero_add _))))
  pointwise [k0_pay9]

/-- The operands of the QA. -/
theorem lanesQA : Lanes (k0_pay5 (View.ld (iblk m c 8 t) r0_3)) (k0_pay10 (View.ld (iblk m c 7 t) r0_5))
    (k0_pay6 (View.ld (iblk m c 3 t) r0_4)) (k0_pay7 (View.ld (iblk m c 4 t) r0_4)) r
    (gainOf (m ((c : Thread nD τ).loc main_arg3))) qs (cosOf (angA m c) (row t r)) (sinOf (angA m c) (row t r)) where
  seg_at k l := segBlk m c t k l
  gain_at b d := by
    have e : View.ld (iblk m c 7 t) r0_5 (ix2 0 (lane b d)) = gainOf (m ((c : Thread nD τ).loc main_arg3)) d :=
      (ld2 _ 0 _ 0 (lane b d) (by omega) (lane b d).isLt).trans ((blk7 m c t 0 (lane b d)).trans (gain0_at m c b d))
    rw [← e]
    pointwise [k0_pay10, qs]

  cos_at b d := tabBlk3 m c t r b d
  sin_at b d := tabBlk4 m c t r b d

/-- The operands of the KA. -/
theorem lanesKA : Lanes (k0_pay5 (View.ld (iblk m c 8 t) r0_3)) (k0_pay11 (View.ld (iblk m c 7 t) r0_6))
    (k0_pay6 (View.ld (iblk m c 3 t) r0_4)) (k0_pay7 (View.ld (iblk m c 4 t) r0_4)) r
    (gainOf (m ((c : Thread nD τ).loc main_arg4))) 1 (cosOf (angA m c) (row t r)) (sinOf (angA m c) (row t r)) where
  seg_at k l := segBlk m c t k l
  gain_at b d := by
    have e : View.ld (iblk m c 7 t) r0_6 (ix2 0 (lane b d)) = gainOf (m ((c : Thread nD τ).loc main_arg4)) d :=
      (ld2 _ 1 _ 0 (lane b d) (by omega) (lane b d).isLt).trans ((blk7 m c t 1 (lane b d)).trans (gain1_at m c b d))
    rw [← e]
    pointwise [k0_pay11]
  cos_at b d := tabBlk3 m c t r b d
  sin_at b d := tabBlk4 m c t r b d

/-- The operands of the QB. -/
theorem lanesQB : Lanes (k0_pay5 (View.ld (iblk m c 8 t) r0_3)) (k0_pay12 (View.ld (iblk m c 7 t) r0_7))
    (k0_pay8 (View.ld (iblk m c 5 t) r0_4)) (k0_pay9 (View.ld (iblk m c 6 t) r0_4)) r
    (gainOf (m ((c : Thread nD τ).loc main_arg5))) qs (cosOf (angB m c) (row t r)) (sinOf (angB m c) (row t r)) where
  seg_at k l := segBlk m c t k l
  gain_at b d := by
    have e : View.ld (iblk m c 7 t) r0_7 (ix2 0 (lane b d)) = gainOf (m ((c : Thread nD τ).loc main_arg5)) d :=
      (ld2 _ 2 _ 0 (lane b d) (by omega) (lane b d).isLt).trans ((blk7 m c t 2 (lane b d)).trans (gain2_at m c b d))
    rw [← e]
    pointwise [k0_pay12, qs]

  cos_at b d := tabBlk5 m c t r b d
  sin_at b d := tabBlk6 m c t r b d

/-- The operands of the KB. -/
theorem lanesKB : Lanes (k0_pay5 (View.ld (iblk m c 8 t) r0_3)) (k0_pay13 (View.ld (iblk m c 7 t) r0_8))
    (k0_pay8 (View.ld (iblk m c 5 t) r0_4)) (k0_pay9 (View.ld (iblk m c 6 t) r0_4)) r
    (gainOf (m ((c : Thread nD τ).loc main_arg6))) 1 (cosOf (angB m c) (row t r)) (sinOf (angB m c) (row t r)) where
  seg_at k l := segBlk m c t k l
  gain_at b d := by
    have e : View.ld (iblk m c 7 t) r0_8 (ix2 0 (lane b d)) = gainOf (m ((c : Thread nD τ).loc main_arg6)) d :=
      (ld2 _ 3 _ 0 (lane b d) (by omega) (lane b d).isLt).trans ((blk7 m c t 3 (lane b d)).trans (gain3_at m c b d))
    rw [← e]
    pointwise [k0_pay13]
  cos_at b d := tabBlk5 m c t r b d
  sin_at b d := tabBlk6 m c t r b d

/-- The place of a store's tile in its block. -/
theorem emb2 {a b b' : ℕ} (o : ℕ) (inb) (i : Fin a) (j : Fin b') (h : o + j.val < b) :
    (Rect.unit (s := ⟨2, ![a, b]⟩) ![0, o] ![a, b'] inb).emb (ix2 i j) = (ix2 i ⟨o + j.val, h⟩ : (⟨2, ![a, b]⟩ : Shape).Idx) := by
  funext x
  fin_cases x
  · exact Fin.ext (show 0 + 1 * i.val = i.val by omega)
  · exact Fin.ext (show o + 1 * j.val = o + j.val by omega)

/-- Stores that are tiles of one array, and cover the block, leave that array. -/
theorem tiles {s : Shape} (H : s.Idx → Elt Ideal .bf16) (L : List (View.Piece (Elt Ideal) s .bf16)) (y : s.Idx)
    (hc : ∃ p ∈ L, y ∈ p.1.set) (h : View.PiecesOf H L) : View.canon L y = H y :=
  (congrArg (fun L => View.canon L y) (List.append_nil L).symm).trans (View.canon_append_of_piecesOf H [] L h y hc)

end Cert.KernelDIdeal.Proj

end
-- ==== Proof.ProjOut.lean ====
/- The projection kernel's result arrays, as rows of the functions of `ProjRow`. -/
module

public import proofs.«01_k».proof.Proof.ProjKernel

@[expose] public section

set_option maxRecDepth 16384

noncomputable section

namespace Cert.KernelDIdeal.Proj

open Cert.KernelDIdeal Cert.KernelDIdeal.Gen Idealize.ShloMosaic Idealize.ShloMosaic.TcCoe Idealize.SL.Sem
open Idealize.ShloMosaic.Pipeline (Dat)
open Cert.ProjRow

variable (m : (ℓ : Loc nD τ sig) → Buf (Elt Ideal) ℓ)

variable (c : Dev nD) (t : Fin cfg0.N)

/-- The head that a column is in, of heads laid out from `o` on. -/
def head {n : ℕ} (o : ℕ) (ho : o * 64 + n ≤ 36 * 64) (l : Fin n) : Fin 36 := ⟨o + l.val / 64, by have := l.isLt; omega⟩
/-- A column's place in its head. -/
def col {n : ℕ} (l : Fin n) : Fin 64 := ⟨l.val % 64, by omega⟩

/-- The queries of the first attention, each head laid out beside zeros. -/
def outQA : FVec Ideal S32768x1024 .bf16 := fun i =>
  qaRow (P m c (i 0)) (gainOf (m ((c : Thread nD τ).loc main_arg3))) (cosOf (angA m c) (i 0)) (sinOf (angA m c) (i 0)) (i 1)

/-- Its block at a point. -/
def blkQA : S512x1024.Idx → Elt Ideal .bf16 := fun y => outQA m c (ix2 (row t (y 0)) (y 1))

/-- What is stored to it at a point. -/
theorem pointQA (y : S512x1024.Idx) :
    out0_9 (iblk m c 0 t) (iblk m c 1 t) (iblk m c 2 t) (iblk m c 3 t) (iblk m c 4 t) (iblk m c 5 t) (iblk m c 6 t)
        (iblk m c 7 t) (iblk m c 8 t) y
      = blkQA m c t y := by
  unfold_out out0_9
  refine tiles (blkQA m c t) _ y ?_ ?_
  · apply cover0_9
  refine ⟨?_, ?_, ?_, ?_, ?_, ?_, ?_, ?_, trivial⟩
  · intro x
    obtain ⟨r, l, rfl⟩ : ∃ (r : Fin 512) (l : Fin 128), x = ix2 r l := ⟨x 0, x 1, eq_ix2 x⟩
    refine (pay29_at _ _ _ _ _ (fun n => pv_at m c t r n) (lanesQA m c t r) l).trans ?_
    refine Eq.trans ?_ (congrArg (blkQA m c t)
      (emb2 896 inb_S512x1024_S512x128_0_896 r l (by omega)).symm)
    exact rfl
  · intro x
    obtain ⟨r, l, rfl⟩ : ∃ (r : Fin 512) (l : Fin 128), x = ix2 r l := ⟨x 0, x 1, eq_ix2 x⟩
    refine (pay28_at _ _ _ _ _ (fun n => pv_at m c t r n) (lanesQA m c t r) l).trans ?_
    refine Eq.trans ?_ (congrArg (blkQA m c t)
      (emb2 768 inb_S512x1024_S512x128_0_768 r l (by omega)).symm)
    exact rfl
  · intro x
    obtain ⟨r, l, rfl⟩ : ∃ (r : Fin 512) (l : Fin 128), x = ix2 r l := ⟨x 0, x 1, eq_ix2 x⟩
    refine (pay24_at _ _ _ _ _ (fun n => pv_at m c t r n) (lanesQA m c t r) l).trans ?_
    refine Eq.trans ?_ (congrArg (blkQA m c t)
      (emb2 640 inb_S512x1024_S512x128_0_640 r l (by omega)).symm)
    exact rfl
  · intro x
    obtain ⟨r, l, rfl⟩ : ∃ (r : Fin 512) (l : Fin 128), x = ix2 r l := ⟨x 0, x 1, eq_ix2 x⟩
    refine (pay23_at _ _ _ _ _ (fun n => pv_at m c t r n) (lanesQA m c t r) l).trans ?_
    refine Eq.trans ?_ (congrArg (blkQA m c t)
      (emb2 512 inb_S512x1024_S512x128_0_512 r l (by omega)).symm)
    exact rfl
  · intro x
    obtain ⟨r, l, rfl⟩ : ∃ (r : Fin 512) (l : Fin 128), x = ix2 r l := ⟨x 0, x 1, eq_ix2 x⟩
    refine (pay21_at _ _ _ _ _ (fun n => pv_at m c t r n) (lanesQA m c t r) l).trans ?_
    refine Eq.trans ?_ (congrArg (blkQA m c t)
      (emb2 384 inb_S512x1024_S512x128_0_384 r l (by omega)).symm)
    exact rfl
  · intro x
    obtain ⟨r, l, rfl⟩ : ∃ (r : Fin 512) (l : Fin 128), x = ix2 r l := ⟨x 0, x 1, eq_ix2 x⟩
    refine (pay20_at _ _ _ _ _ (fun n => pv_at m c t r n) (lanesQA m c t r) l).trans ?_
    refine Eq.trans ?_ (congrArg (blkQA m c t)
      (emb2 256 inb_S512x1024_S512x128_0_256 r l (by omega)).symm)
    exact rfl
  · intro x
    obtain ⟨r, l, rfl⟩ : ∃ (r : Fin 512) (l : Fin 128), x = ix2 r l := ⟨x 0, x 1, eq_ix2 x⟩
    refine (pay18_at _ _ _ _ _ (fun n => pv_at m c t r n) (lanesQA m c t r) l).trans ?_
    refine Eq.trans ?_ (congrArg (blkQA m c t)
      (emb2 128 inb_S512x1024_S512x128_0_128 r l (by omega)).symm)
    exact rfl
  · intro x
    obtain ⟨r, l, rfl⟩ : ∃ (r : Fin 512) (l : Fin 128), x = ix2 r l := ⟨x 0, x 1, eq_ix2 x⟩
    refine (pay17_at _ _ _ _ _ (fun n => pv_at m c t r n) (lanesQA m c t r) l).trans ?_
    refine Eq.trans ?_ (congrArg (blkQA m c t)
      (emb2 0 inb_S512x1024_S512x128_0_0 r l (by omega)).symm)
    exact rfl

/-- The array after the run. -/
theorem finalQA : (dats m 0 c).arrAt 9 cfg0.N = outQA m c := by
  refine (dats m 0 c).arrAt_eq_of_covers 9 _ (by decide +kernel) fun t _ y => ?_
  blk_simp
  rw [after0_9]
  refine (pointQA m c t y).trans (congrArg (outQA m c) ?_)
  obtain ⟨r, n, rfl⟩ : ∃ (r : Fin 512) (n : Fin 1024), y = ix2 r n := ⟨y 0, y 1, eq_ix2 y⟩
  unfold row
  blk_ext [idx t]

/-- The keys of the first attention. -/
def outKA : FVec Ideal S32768x128 .bf16 := fun i =>
  turn (P m c (i 0)) (gainOf (m ((c : Thread nD τ).loc main_arg4))) (cosOf (angA m c) (i 0)) (sinOf (angA m c) (i 0)) (head 8 (by decide) (i 1)) (col (i 1))

/-- Its block at a point. -/
def blkKA : S512x128.Idx → Elt Ideal .bf16 := fun y => outKA m c (ix2 (row t (y 0)) (y 1))

/-- What is stored to it at a point. -/
theorem pointKA (y : S512x128.Idx) :
    out0_10 (iblk m c 0 t) (iblk m c 1 t) (iblk m c 2 t) (iblk m c 3 t) (iblk m c 4 t) (iblk m c 5 t) (iblk m c 6 t)
        (iblk m c 7 t) (iblk m c 8 t) y
      = blkKA m c t y := by
  unfold_out out0_10
  refine tiles (blkKA m c t) _ y ?_ ?_
  · apply cover0_10
  refine ⟨?_, trivial⟩
  · intro x
    obtain ⟨r, l, rfl⟩ : ∃ (r : Fin 512) (l : Fin 128), x = ix2 r l := ⟨x 0, x 1, eq_ix2 x⟩
    refine (pay30_at _ _ _ _ _ (fun n => pv_at m c t r n) (lanesKA m c t r) l).trans ?_
    refine Eq.trans ?_ (congrArg (blkKA m c t)
      (emb2 0 inb_S512x128_S512x128_0_0 r l (by omega)).symm)
    exact congrArg₂ (fun h d => turn (P m c (row t r)) (gainOf (m ((c : Thread nD τ).loc main_arg4))) (cosOf (angA m c) (row t r)) (sinOf (angA m c) (row t r)) h d)
      (Fin.ext (by simp only [head, ix2_1]; omega)) (Fin.ext (by simp only [col, ix2_1]; omega))

/-- The array after the run. -/
theorem finalKA : (dats m 0 c).arrAt 10 cfg0.N = outKA m c := by
  refine (dats m 0 c).arrAt_eq_of_covers 10 _ (by decide +kernel) fun t _ y => ?_
  blk_simp
  rw [after0_10]
  refine (pointKA m c t y).trans (congrArg (outKA m c) ?_)
  obtain ⟨r, n, rfl⟩ : ∃ (r : Fin 512) (n : Fin 128), y = ix2 r n := ⟨y 0, y 1, eq_ix2 y⟩
  unfold row
  blk_ext [idx t]

/-- The values of the first attention. -/
def outVA : FVec Ideal S32768x128 .bf16 := fun i =>
  P m c (i 0) ⟨640 + (i 1).val, by have : (i 1).val < 128 := (i 1).isLt; omega⟩

/-- Its block at a point. -/
def blkVA : S512x128.Idx → Elt Ideal .bf16 := fun y => outVA m c (ix2 (row t (y 0)) (y 1))

/-- What is stored to it at a point. -/
theorem pointVA (y : S512x128.Idx) :
    out0_11 (iblk m c 0 t) (iblk m c 1 t) (iblk m c 2 t) (iblk m c 3 t) (iblk m c 4 t) (iblk m c 5 t) (iblk m c 6 t)
        (iblk m c 7 t) (iblk m c 8 t) y
      = blkVA m c t y := by
  unfold_out out0_11
  refine tiles (blkVA m c t) _ y ?_ ?_
  · apply cover0_11
  refine ⟨?_, trivial⟩
  · intro x
    obtain ⟨r, l, rfl⟩ : ∃ (r : Fin 512) (l : Fin 128), x = ix2 r l := ⟨x 0, x 1, eq_ix2 x⟩
    refine (pay31_at _ (fun n => pv_at m c t r n) l).trans ?_
    refine Eq.trans ?_ (congrArg (blkVA m c t)
      (emb2 0 inb_S512x128_S512x128_0_0 r l (by omega)).symm)
    exact congrArg (P m c (row t r)) (Fin.ext (by simp only [ix2_1]; omega))

/-- The array after the run. -/
theorem finalVA : (dats m 0 c).arrAt 11 cfg0.N = outVA m c := by
  refine (dats m 0 c).arrAt_eq_of_covers 11 _ (by decide +kernel) fun t _ y => ?_
  blk_simp
  rw [after0_11]
  refine (pointVA m c t y).trans (congrArg (outVA m c) ?_)
  obtain ⟨r, n, rfl⟩ : ∃ (r : Fin 512) (n : Fin 128), y = ix2 r n := ⟨y 0, y 1, eq_ix2 y⟩
  unfold row
  blk_ext [idx t]

/-- The queries of the second attention. -/
def outQB : FVec Ideal S32768x512 .bf16 := fun i =>
  turn (P m c (i 0)) (gainOf (m ((c : Thread nD τ).loc main_arg5))) (cosOf (angB m c) (i 0)) (sinOf (angB m c) (i 0)) (head 12 (by decide) (i 1)) (col (i 1)) * qs

/-- Its block at a point. -/
def blkQB : S512x512.Idx → Elt Ideal .bf16 := fun y => outQB m c (ix2 (row t (y 0)) (y 1))

/-- What is stored to it at a point. -/
theorem pointQB (y : S512x512.Idx) :
    out0_12 (iblk m c 0 t) (iblk m c 1 t) (iblk m c 2 t) (iblk m c 3 t) (iblk m c 4 t) (iblk m c 5 t) (iblk m c 6 t)
        (iblk m c 7 t) (iblk m c 8 t) y
      = blkQB m c t y := by
  unfold_out out0_12
  refine tiles (blkQB m c t) _ y ?_ ?_
  · apply cover0_12
  refine ⟨?_, ?_, ?_, ?_, trivial⟩
  · intro x
    obtain ⟨r, l, rfl⟩ : ∃ (r : Fin 512) (l : Fin 128), x = ix2 r l := ⟨x 0, x 1, eq_ix2 x⟩
    refine (pay35_at _ _ _ _ _ (fun n => pv_at m c t r n) (lanesQB m c t r) l).trans ?_
    refine Eq.trans ?_ (congrArg (blkQB m c t)
      (emb2 384 inb_S512x512_S512x128_0_384 r l (by omega)).symm)
    exact congrArg₂ (fun h d => turn (P m c (row t r)) (gainOf (m ((c : Thread nD τ).loc main_arg5))) (cosOf (angB m c) (row t r)) (sinOf (angB m c) (row t r)) h d * qs)
      (Fin.ext (by simp only [head, ix2_1]; omega)) (Fin.ext (by simp only [col, ix2_1]; omega))
  · intro x
    obtain ⟨r, l, rfl⟩ : ∃ (r : Fin 512) (l : Fin 128), x = ix2 r l := ⟨x 0, x 1, eq_ix2 x⟩
    refine (pay34_at _ _ _ _ _ (fun n => pv_at m c t r n) (lanesQB m c t r) l).trans ?_
    refine Eq.trans ?_ (congrArg (blkQB m c t)
      (emb2 256 inb_S512x512_S512x128_0_256 r l (by omega)).symm)
    exact congrArg₂ (fun h d => turn (P m c (row t r)) (gainOf (m ((c : Thread nD τ).loc main_arg5))) (cosOf (angB m c) (row t r)) (sinOf (angB m c) (row t r)) h d * qs)
      (Fin.ext (by simp only [head, ix2_1]; omega)) (Fin.ext (by simp only [col, ix2_1]; omega))
  · intro x
    obtain ⟨r, l, rfl⟩ : ∃ (r : Fin 512) (l : Fin 128), x = ix2 r l := ⟨x 0, x 1, eq_ix2 x⟩
    refine (pay33_at _ _ _ _ _ (fun n => pv_at m c t r n) (lanesQB m c t r) l).trans ?_
    refine Eq.trans ?_ (congrArg (blkQB m c t)
      (emb2 128 inb_S512x512_S512x128_0_128 r l (by omega)).symm)
    exact congrArg₂ (fun h d => turn (P m c (row t r)) (gainOf (m ((c : Thread nD τ).loc main_arg5))) (cosOf (angB m c) (row t r)) (sinOf (angB m c) (row t r)) h d * qs)
      (Fin.ext (by simp only [head, ix2_1]; omega)) (Fin.ext (by simp only [col, ix2_1]; omega))
  · intro x
    obtain ⟨r, l, rfl⟩ : ∃ (r : Fin 512) (l : Fin 128), x = ix2 r l := ⟨x 0, x 1, eq_ix2 x⟩
    refine (pay32_at _ _ _ _ _ (fun n => pv_at m c t r n) (lanesQB m c t r) l).trans ?_
    refine Eq.trans ?_ (congrArg (blkQB m c t)
      (emb2 0 inb_S512x512_S512x128_0_0 r l (by omega)).symm)
    exact congrArg₂ (fun h d => turn (P m c (row t r)) (gainOf (m ((c : Thread nD τ).loc main_arg5))) (cosOf (angB m c) (row t r)) (sinOf (angB m c) (row t r)) h d * qs)
      (Fin.ext (by simp only [head, ix2_1]; omega)) (Fin.ext (by simp only [col, ix2_1]; omega))

/-- The array after the run. -/
theorem finalQB : (dats m 0 c).arrAt 12 cfg0.N = outQB m c := by
  refine (dats m 0 c).arrAt_eq_of_covers 12 _ (by decide +kernel) fun t _ y => ?_
  blk_simp
  rw [after0_12]
  refine (pointQB m c t y).trans (congrArg (outQB m c) ?_)
  obtain ⟨r, n, rfl⟩ : ∃ (r : Fin 512) (n : Fin 512), y = ix2 r n := ⟨y 0, y 1, eq_ix2 y⟩
  unfold row
  blk_ext [idx t]

/-- The keys of the second attention. -/
def outKB : FVec Ideal S32768x512 .bf16 := fun i =>
  turn (P m c (i 0)) (gainOf (m ((c : Thread nD τ).loc main_arg6))) (cosOf (angB m c) (i 0)) (sinOf (angB m c) (i 0)) (head 20 (by decide) (i 1)) (col (i 1))

/-- Its block at a point. -/
def blkKB : S512x512.Idx → Elt Ideal .bf16 := fun y => outKB m c (ix2 (row t (y 0)) (y 1))

/-- What is stored to it at a point. -/
theorem pointKB (y : S512x512.Idx) :
    out0_13 (iblk m c 0 t) (iblk m c 1 t) (iblk m c 2 t) (iblk m c 3 t) (iblk m c 4 t) (iblk m c 5 t) (iblk m c 6 t)
        (iblk m c 7 t) (iblk m c 8 t) y
      = blkKB m c t y := by
  unfold_out out0_13
  refine tiles (blkKB m c t) _ y ?_ ?_
  · apply cover0_13
  refine ⟨?_, ?_, ?_, ?_, trivial⟩
  · intro x
    obtain ⟨r, l, rfl⟩ : ∃ (r : Fin 512) (l : Fin 128), x = ix2 r l := ⟨x 0, x 1, eq_ix2 x⟩
    refine (pay41_at _ _ _ _ _ (fun n => pv_at m c t r n) (lanesKB m c t r) l).trans ?_
    refine Eq.trans ?_ (congrArg (blkKB m c t)
      (emb2 384 inb_S512x512_S512x128_0_384 r l (by omega)).symm)
    exact congrArg₂ (fun h d => turn (P m c (row t r)) (gainOf (m ((c : Thread nD τ).loc main_arg6))) (cosOf (angB m c) (row t r)) (sinOf (angB m c) (row t r)) h d)
      (Fin.ext (by simp only [head, ix2_1]; omega)) (Fin.ext (by simp only [col, ix2_1]; omega))
  · intro x
    obtain ⟨r, l, rfl⟩ : ∃ (r : Fin 512) (l : Fin 128), x = ix2 r l := ⟨x 0, x 1, eq_ix2 x⟩
    refine (pay40_at _ _ _ _ _ (fun n => pv_at m c t r n) (lanesKB m c t r) l).trans ?_
    refine Eq.trans ?_ (congrArg (blkKB m c t)
      (emb2 256 inb_S512x512_S512x128_0_256 r l (by omega)).symm)
    exact congrArg₂ (fun h d => turn (P m c (row t r)) (gainOf (m ((c : Thread nD τ).loc main_arg6))) (cosOf (angB m c) (row t r)) (sinOf (angB m c) (row t r)) h d)
      (Fin.ext (by simp only [head, ix2_1]; omega)) (Fin.ext (by simp only [col, ix2_1]; omega))
  · intro x
    obtain ⟨r, l, rfl⟩ : ∃ (r : Fin 512) (l : Fin 128), x = ix2 r l := ⟨x 0, x 1, eq_ix2 x⟩
    refine (pay37_at _ _ _ _ _ (fun n => pv_at m c t r n) (lanesKB m c t r) l).trans ?_
    refine Eq.trans ?_ (congrArg (blkKB m c t)
      (emb2 128 inb_S512x512_S512x128_0_128 r l (by omega)).symm)
    exact congrArg₂ (fun h d => turn (P m c (row t r)) (gainOf (m ((c : Thread nD τ).loc main_arg6))) (cosOf (angB m c) (row t r)) (sinOf (angB m c) (row t r)) h d)
      (Fin.ext (by simp only [head, ix2_1]; omega)) (Fin.ext (by simp only [col, ix2_1]; omega))
  · intro x
    obtain ⟨r, l, rfl⟩ : ∃ (r : Fin 512) (l : Fin 128), x = ix2 r l := ⟨x 0, x 1, eq_ix2 x⟩
    refine (pay36_at _ _ _ _ _ (fun n => pv_at m c t r n) (lanesKB m c t r) l).trans ?_
    refine Eq.trans ?_ (congrArg (blkKB m c t)
      (emb2 0 inb_S512x512_S512x128_0_0 r l (by omega)).symm)
    exact congrArg₂ (fun h d => turn (P m c (row t r)) (gainOf (m ((c : Thread nD τ).loc main_arg6))) (cosOf (angB m c) (row t r)) (sinOf (angB m c) (row t r)) h d)
      (Fin.ext (by simp only [head, ix2_1]; omega)) (Fin.ext (by simp only [col, ix2_1]; omega))

/-- The array after the run. -/
theorem finalKB : (dats m 0 c).arrAt 13 cfg0.N = outKB m c := by
  refine (dats m 0 c).arrAt_eq_of_covers 13 _ (by decide +kernel) fun t _ y => ?_
  blk_simp
  rw [after0_13]
  refine (pointKB m c t y).trans (congrArg (outKB m c) ?_)
  obtain ⟨r, n, rfl⟩ : ∃ (r : Fin 512) (n : Fin 512), y = ix2 r n := ⟨y 0, y 1, eq_ix2 y⟩
  unfold row
  blk_ext [idx t]

/-- The values of the second attention. -/
def outVB : FVec Ideal S32768x512 .bf16 := fun i =>
  P m c (i 0) ⟨1792 + (i 1).val, by have : (i 1).val < 512 := (i 1).isLt; omega⟩

/-- Its block at a point. -/
def blkVB : S512x512.Idx → Elt Ideal .bf16 := fun y => outVB m c (ix2 (row t (y 0)) (y 1))

/-- What is stored to it at a point. -/
theorem pointVB (y : S512x512.Idx) :
    out0_14 (iblk m c 0 t) (iblk m c 1 t) (iblk m c 2 t) (iblk m c 3 t) (iblk m c 4 t) (iblk m c 5 t) (iblk m c 6 t)
        (iblk m c 7 t) (iblk m c 8 t) y
      = blkVB m c t y := by
  unfold_out out0_14
  refine tiles (blkVB m c t) _ y ?_ ?_
  · apply cover0_14
  refine ⟨?_, trivial⟩
  · intro x
    obtain ⟨r, l, rfl⟩ : ∃ (r : Fin 512) (l : Fin 512), x = ix2 r l := ⟨x 0, x 1, eq_ix2 x⟩
    refine (pay1_at _ (fun n => pv_at m c t r n) l).trans ?_
    refine Eq.trans ?_ (congrArg (blkVB m c t)
      (emb2 0 inb_S512x512_S512x512_0_0 r l (by omega)).symm)
    exact congrArg (P m c (row t r)) (Fin.ext (by simp only [ix2_1]; omega))

/-- The array after the run. -/
theorem finalVB : (dats m 0 c).arrAt 14 cfg0.N = outVB m c := by
  refine (dats m 0 c).arrAt_eq_of_covers 14 _ (by decide +kernel) fun t _ y => ?_
  blk_simp
  rw [after0_14]
  refine (pointVB m c t y).trans (congrArg (outVB m c) ?_)
  obtain ⟨r, n, rfl⟩ : ∃ (r : Fin 512) (n : Fin 512), y = ix2 r n := ⟨y 0, y 1, eq_ix2 y⟩
  unfold row
  blk_ext [idx t]

end Cert.KernelDIdeal.Proj

end
-- ==== Proof.ProjRef.lean ====
/- The projection's reference, read at an index: heads of `ProjRow.prj`'s rows, normed and turned. -/
module

public import proofs.«01_k».proof.Proof.ProjPure
public import proofs.«01_k».proof.Proof.Gen.ReferenceDIdeal.Run

@[expose] public section

set_option maxRecDepth 16384

noncomputable section

namespace Cert.ReferenceDIdeal.Proj

open Cert.ReferenceDIdeal Cert.ReferenceDIdeal.Gen Idealize.ShloMosaic Idealize.ShloMosaic.TcCoe Idealize.SL.Sem
open Cert.ProjRow Cert.PostRow

/-- The projected rows. -/
def rprj (x : FVec Ideal S8x4096x1024 .f32) (g : FVec Ideal S1x1024 .f32) (w : FVec Ideal S1x1024x2304 .f32) :
    FVec Ideal S8x4096x2304 .f32 :=
  Host.dotGeneral (φ₁ := .f32) (φ₂ := .f32) dot_S8x4096x1024_S1024x2304_S8x4096x2304_2_0_01_1_n_n none (mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast S1024 g shapeCasts_S1x1024_S1024))))
    (shapeCast S1024x2304 w shapeCasts_S1x1024x2304_S1024x2304)

/-- The projected rows, at an index. -/
theorem rprj_at (x : FVec Ideal S8x4096x1024 .f32) (g : FVec Ideal S1x1024 .f32) (w : FVec Ideal S1x1024x2304 .f32)
    (s : Fin 8) (t : Fin 4096) (c : Fin 2304) :
    rprj x g w (ix3 s t c) = prj (fun n => x (ix3 s t n)) (fun n => g (ix2 0 n)) (fun k c => w (ix3 0 k c)) c := by
  pointwise [rprj, prj, nrm]

/-- Columns as 8 heads. -/
def heads8 (y : FVec Ideal S8x4096x512 .f32) : FVec Ideal S8x4096x8x64 .f32 := shapeCast S8x4096x8x64 y shapeCasts_S8x4096x512_S8x4096x8x64

/-- They, at an index. -/
theorem heads8_at (y : FVec Ideal S8x4096x512 .f32) (s : Fin 8) (t : Fin 4096) (h : Fin 8) (d : Fin 64) :
    heads8 y (ix4 s t h d) = y (ix3 s t ⟨64 * h.val + d.val, by omega⟩) := by
  pointwise [heads8]
  try exact congrArg (fun k => y (ix3 s t k)) (Fin.ext (by simp only []; omega))

/-- The norm of 8 heads, in pairs of lanes. -/
def nrm8 (u : FVec Ideal S8x4096x8x64 .f32) (g : FVec Ideal S1x64 .f32) : FVec Ideal S8x4096x8x32x2 .f32 :=
  shapeCast S8x4096x8x32x2 (mulf (mulf u (broadcastInDim S8x4096x8x64 ![0, 1, 2, 3] bcast_S8x4096x8x1_S8x4096x8x64_0_1_2_3
    (Host.rsqrt (addf (Host.divf (broadcastInDim S8x4096x8x1 ![0, 1, 2] bcast_S8x4096x8_S8x4096x8x1_0_1_2
      (Host.reduceAdd (mulf u u) (constant S_ .f32 0x00000000#32) reducesTo_S8x4096x8x64_S8x4096x8_d3 h_S_))
      (broadcastInDim S8x4096x8x1 ![] bcast_S_S8x4096x8x1 (constant S_ .f32 0x42800000#32)))
      (broadcastInDim S8x4096x8x1 ![] bcast_S_S8x4096x8x1 (constant S_ .f32 0x358637BD#32))))))
    (broadcastInDim S8x4096x8x64 ![0, 1, 2, 3] bcast_S1x1x1x64_S8x4096x8x64_0_1_2_3
      (broadcastInDim S1x1x1x64 ![3] bcast_S64_S1x1x1x64_3 (shapeCast S64 g shapeCasts_S1x64_S64)))) shapeCasts_S8x4096x8x64_S8x4096x8x32x2

/-- It, at an index. -/
theorem nrm8_at (u : FVec Ideal S8x4096x8x64 .f32) (g : FVec Ideal S1x64 .f32) (s : Fin 8) (t : Fin 4096) (h : Fin 8) (i : Fin 32) (b : Fin 2) :
    nrm8 u g (ix5 s t h i b) = hnrm (fun d => u (ix4 s t h d)) (fun d => g (ix2 0 d)) ⟨2 * i.val + b.val, by omega⟩ := by
  pointwise [nrm8, hnrm]
  simp only [Nat.mul_comm i.val 2]

/-- The even lanes. -/
def ev8 (v : FVec Ideal S8x4096x8x32x2 .f32) : FVec Ideal S8x4096x8x32 .f32 :=
  shapeCast S8x4096x8x32 (extractStridedSlice S8x4096x8x32x1 ![0, 0, 0, 0, 0] v slices_S8x4096x8x32x2_S8x4096x8x32x1_0_0_0_0_0) shapeCasts_S8x4096x8x32x1_S8x4096x8x32
/-- The odd lanes. -/
def od8 (v : FVec Ideal S8x4096x8x32x2 .f32) : FVec Ideal S8x4096x8x32 .f32 :=
  shapeCast S8x4096x8x32 (extractStridedSlice S8x4096x8x32x1 ![0, 0, 0, 0, 1] v slices_S8x4096x8x32x2_S8x4096x8x32x1_0_0_0_0_1) shapeCasts_S8x4096x8x32x1_S8x4096x8x32
/-- A table at every head. -/
def tab8 (a : FVec Ideal S4096x32 .f32) : FVec Ideal S8x4096x8x32 .f32 :=
  broadcastInDim S8x4096x8x32 ![0, 1, 2, 3] bcast_S1x4096x1x32_S8x4096x8x32_0_1_2_3 (broadcastInDim S1x4096x1x32 ![1, 3] bcast_S4096x32_S1x4096x1x32_1_3 a)
/-- Even and odd lanes put together. -/
def zip8 (u v : FVec Ideal S8x4096x8x32 .f32) : FVec Ideal S8x4096x8x64 .f32 :=
  shapeCast S8x4096x8x64 (concatenate S8x4096x8x32x2 4 [⟨S8x4096x8x32x1, (broadcastInDim S8x4096x8x32x1 ![0, 1, 2, 3] bcast_S8x4096x8x32_S8x4096x8x32x1_0_1_2_3 u)⟩,
    ⟨S8x4096x8x32x1, (broadcastInDim S8x4096x8x32x1 ![0, 1, 2, 3] bcast_S8x4096x8x32_S8x4096x8x32x1_0_1_2_3 v)⟩] concatenates_S8x4096x8x32x1_S8x4096x8x32x1_S8x4096x8x32x2_d4)
    shapeCasts_S8x4096x8x32x2_S8x4096x8x64

theorem ev8_at (v : FVec Ideal S8x4096x8x32x2 .f32) (s : Fin 8) (t : Fin 4096) (h : Fin 8) (i : Fin 32) :
    ev8 v (ix4 s t h i) = v (ix5 s t h i 0) := by
  pointwise [ev8]

theorem od8_at (v : FVec Ideal S8x4096x8x32x2 .f32) (s : Fin 8) (t : Fin 4096) (h : Fin 8) (i : Fin 32) :
    od8 v (ix4 s t h i) = v (ix5 s t h i 1) := by
  pointwise [od8]

theorem tab8_at (a : FVec Ideal S4096x32 .f32) (s : Fin 8) (t : Fin 4096) (h : Fin 8) (i : Fin 32) :
    tab8 a (ix4 s t h i) = a (ix2 t i) := by
  pointwise [tab8]

theorem zip8_at (u v : FVec Ideal S8x4096x8x32 .f32) (s : Fin 8) (t : Fin 4096) (h : Fin 8) (d : Fin 64) :
    zip8 u v (ix4 s t h d) = if d.val % 2 = 0 then u (ix4 s t h (pr d)) else v (ix4 s t h (pr d)) := by
  unfold pr
  pointwise [zip8]
  by_cases hd : d.val % 2 = 0
  · rw [dif_pos (by omega), if_pos hd]
  · rw [dif_neg (by omega), if_neg hd]

/-- The rotary embedding of 8 heads. -/
def rope8 (v : FVec Ideal S8x4096x8x32x2 .f32) (a : FVec Ideal S4096x32 .f32) : FVec Ideal S8x4096x8x64 .f32 :=
  zip8 (subf (mulf (ev8 v) (tab8 (Host.cos a))) (mulf (od8 v) (tab8 (Host.sin a))))
    (addf (mulf (ev8 v) (tab8 (Host.sin a))) (mulf (od8 v) (tab8 (Host.cos a))))

/-- It, at an index of normed heads. -/
theorem rope8_at (y : FVec Ideal S8x4096x512 .f32) (g : FVec Ideal S1x64 .f32) (a : FVec Ideal S4096x32 .f32)
    (s : Fin 8) (t : Fin 4096) (h : Fin 8) (d : Fin 64) :
    rope8 (nrm8 (heads8 y) g) a (ix4 s t h d)
      = rot (hnrm (fun d => y (ix3 s t ⟨64 * h.val + d.val, by omega⟩)) (fun d => g (ix2 0 d)))
          (fun i => Host.cos a (ix2 t i)) (fun i => Host.sin a (ix2 t i)) d := by
  unfold rope8 rot
  rw [zip8_at]
  have e : ∀ u v : FVec Ideal S8x4096x8x32 .f32, ∀ j, mulf u v j = (u j : EReal) * v j := fun _ _ _ => rfl
  have e' : ∀ u v : FVec Ideal S8x4096x8x32 .f32, ∀ j, subf u v j = (u j : EReal) - v j := fun _ _ _ => rfl
  have e'' : ∀ u v : FVec Ideal S8x4096x8x32 .f32, ∀ j, addf u v j = (u j : EReal) + v j := fun _ _ _ => rfl
  simp only [e, e', e'', ev8_at, od8_at, tab8_at, nrm8_at, heads8_at]
  rfl

/-- Columns as 2 heads. -/
def heads2 (y : FVec Ideal S8x4096x128 .f32) : FVec Ideal S8x4096x2x64 .f32 := shapeCast S8x4096x2x64 y shapeCasts_S8x4096x128_S8x4096x2x64

/-- They, at an index. -/
theorem heads2_at (y : FVec Ideal S8x4096x128 .f32) (s : Fin 8) (t : Fin 4096) (h : Fin 2) (d : Fin 64) :
    heads2 y (ix4 s t h d) = y (ix3 s t ⟨64 * h.val + d.val, by omega⟩) := by
  pointwise [heads2]
  try exact congrArg (fun k => y (ix3 s t k)) (Fin.ext (by simp only []; omega))

/-- The norm of 2 heads, in pairs of lanes. -/
def nrm2 (u : FVec Ideal S8x4096x2x64 .f32) (g : FVec Ideal S1x64 .f32) : FVec Ideal S8x4096x2x32x2 .f32 :=
  shapeCast S8x4096x2x32x2 (mulf (mulf u (broadcastInDim S8x4096x2x64 ![0, 1, 2, 3] bcast_S8x4096x2x1_S8x4096x2x64_0_1_2_3
    (Host.rsqrt (addf (Host.divf (broadcastInDim S8x4096x2x1 ![0, 1, 2] bcast_S8x4096x2_S8x4096x2x1_0_1_2
      (Host.reduceAdd (mulf u u) (constant S_ .f32 0x00000000#32) reducesTo_S8x4096x2x64_S8x4096x2_d3 h_S_))
      (broadcastInDim S8x4096x2x1 ![] bcast_S_S8x4096x2x1 (constant S_ .f32 0x42800000#32)))
      (broadcastInDim S8x4096x2x1 ![] bcast_S_S8x4096x2x1 (constant S_ .f32 0x358637BD#32))))))
    (broadcastInDim S8x4096x2x64 ![0, 1, 2, 3] bcast_S1x1x1x64_S8x4096x2x64_0_1_2_3
      (broadcastInDim S1x1x1x64 ![3] bcast_S64_S1x1x1x64_3 (shapeCast S64 g shapeCasts_S1x64_S64)))) shapeCasts_S8x4096x2x64_S8x4096x2x32x2

/-- It, at an index. -/
theorem nrm2_at (u : FVec Ideal S8x4096x2x64 .f32) (g : FVec Ideal S1x64 .f32) (s : Fin 8) (t : Fin 4096) (h : Fin 2) (i : Fin 32) (b : Fin 2) :
    nrm2 u g (ix5 s t h i b) = hnrm (fun d => u (ix4 s t h d)) (fun d => g (ix2 0 d)) ⟨2 * i.val + b.val, by omega⟩ := by
  pointwise [nrm2, hnrm]
  simp only [Nat.mul_comm i.val 2]

/-- The even lanes. -/
def ev2 (v : FVec Ideal S8x4096x2x32x2 .f32) : FVec Ideal S8x4096x2x32 .f32 :=
  shapeCast S8x4096x2x32 (extractStridedSlice S8x4096x2x32x1 ![0, 0, 0, 0, 0] v slices_S8x4096x2x32x2_S8x4096x2x32x1_0_0_0_0_0) shapeCasts_S8x4096x2x32x1_S8x4096x2x32
/-- The odd lanes. -/
def od2 (v : FVec Ideal S8x4096x2x32x2 .f32) : FVec Ideal S8x4096x2x32 .f32 :=
  shapeCast S8x4096x2x32 (extractStridedSlice S8x4096x2x32x1 ![0, 0, 0, 0, 1] v slices_S8x4096x2x32x2_S8x4096x2x32x1_0_0_0_0_1) shapeCasts_S8x4096x2x32x1_S8x4096x2x32
/-- A table at every head. -/
def tab2 (a : FVec Ideal S4096x32 .f32) : FVec Ideal S8x4096x2x32 .f32 :=
  broadcastInDim S8x4096x2x32 ![0, 1, 2, 3] bcast_S1x4096x1x32_S8x4096x2x32_0_1_2_3 (broadcastInDim S1x4096x1x32 ![1, 3] bcast_S4096x32_S1x4096x1x32_1_3 a)
/-- Even and odd lanes put together. -/
def zip2 (u v : FVec Ideal S8x4096x2x32 .f32) : FVec Ideal S8x4096x2x64 .f32 :=
  shapeCast S8x4096x2x64 (concatenate S8x4096x2x32x2 4 [⟨S8x4096x2x32x1, (broadcastInDim S8x4096x2x32x1 ![0, 1, 2, 3] bcast_S8x4096x2x32_S8x4096x2x32x1_0_1_2_3 u)⟩,
    ⟨S8x4096x2x32x1, (broadcastInDim S8x4096x2x32x1 ![0, 1, 2, 3] bcast_S8x4096x2x32_S8x4096x2x32x1_0_1_2_3 v)⟩] concatenates_S8x4096x2x32x1_S8x4096x2x32x1_S8x4096x2x32x2_d4)
    shapeCasts_S8x4096x2x32x2_S8x4096x2x64

theorem ev2_at (v : FVec Ideal S8x4096x2x32x2 .f32) (s : Fin 8) (t : Fin 4096) (h : Fin 2) (i : Fin 32) :
    ev2 v (ix4 s t h i) = v (ix5 s t h i 0) := by
  pointwise [ev2]

theorem od2_at (v : FVec Ideal S8x4096x2x32x2 .f32) (s : Fin 8) (t : Fin 4096) (h : Fin 2) (i : Fin 32) :
    od2 v (ix4 s t h i) = v (ix5 s t h i 1) := by
  pointwise [od2]

theorem tab2_at (a : FVec Ideal S4096x32 .f32) (s : Fin 8) (t : Fin 4096) (h : Fin 2) (i : Fin 32) :
    tab2 a (ix4 s t h i) = a (ix2 t i) := by
  pointwise [tab2]

theorem zip2_at (u v : FVec Ideal S8x4096x2x32 .f32) (s : Fin 8) (t : Fin 4096) (h : Fin 2) (d : Fin 64) :
    zip2 u v (ix4 s t h d) = if d.val % 2 = 0 then u (ix4 s t h (pr d)) else v (ix4 s t h (pr d)) := by
  unfold pr
  pointwise [zip2]
  by_cases hd : d.val % 2 = 0
  · rw [dif_pos (by omega), if_pos hd]
  · rw [dif_neg (by omega), if_neg hd]

/-- The rotary embedding of 2 heads. -/
def rope2 (v : FVec Ideal S8x4096x2x32x2 .f32) (a : FVec Ideal S4096x32 .f32) : FVec Ideal S8x4096x2x64 .f32 :=
  zip2 (subf (mulf (ev2 v) (tab2 (Host.cos a))) (mulf (od2 v) (tab2 (Host.sin a))))
    (addf (mulf (ev2 v) (tab2 (Host.sin a))) (mulf (od2 v) (tab2 (Host.cos a))))

/-- It, at an index of normed heads. -/
theorem rope2_at (y : FVec Ideal S8x4096x128 .f32) (g : FVec Ideal S1x64 .f32) (a : FVec Ideal S4096x32 .f32)
    (s : Fin 8) (t : Fin 4096) (h : Fin 2) (d : Fin 64) :
    rope2 (nrm2 (heads2 y) g) a (ix4 s t h d)
      = rot (hnrm (fun d => y (ix3 s t ⟨64 * h.val + d.val, by omega⟩)) (fun d => g (ix2 0 d)))
          (fun i => Host.cos a (ix2 t i)) (fun i => Host.sin a (ix2 t i)) d := by
  unfold rope2 rot
  rw [zip2_at]
  have e : ∀ u v : FVec Ideal S8x4096x2x32 .f32, ∀ j, mulf u v j = (u j : EReal) * v j := fun _ _ _ => rfl
  have e' : ∀ u v : FVec Ideal S8x4096x2x32 .f32, ∀ j, subf u v j = (u j : EReal) - v j := fun _ _ _ => rfl
  have e'' : ∀ u v : FVec Ideal S8x4096x2x32 .f32, ∀ j, addf u v j = (u j : EReal) + v j := fun _ _ _ => rfl
  simp only [e, e', e'', ev2_at, od2_at, tab2_at, nrm2_at, heads2_at]
  rfl

/-- A batch entry and a position of a row of the flattened results. -/
abbrev bt (r : Fin 32768) : Fin 8 := ⟨r.val / 4096, by omega⟩
/-- Its position. -/
abbrev ps (r : Fin 32768) : Fin 4096 := ⟨r.val % 4096, by omega⟩

/-- Eight heads as rows of columns. -/
theorem flat8_at (q : FVec Ideal S8x4096x8x64 .f32) (r : Fin 32768) (l : Fin 512) :
    (shapeCast S32768x512 q shapeCasts_S8x4096x8x64_S32768x512 : FVec Ideal S32768x512 .f32) (ix2 r l)
      = q (ix4 (bt r) (ps r) ⟨l.val / 64, by omega⟩ ⟨l.val % 64, by omega⟩) := by
  pointwise

/-- Two heads as rows of columns. -/
theorem flat2_at (q : FVec Ideal S8x4096x2x64 .f32) (r : Fin 32768) (l : Fin 128) :
    (shapeCast S32768x128 q shapeCasts_S8x4096x2x64_S32768x128 : FVec Ideal S32768x128 .f32) (ix2 r l)
      = q (ix4 (bt r) (ps r) ⟨l.val / 64, by omega⟩ ⟨l.val % 64, by omega⟩) := by
  pointwise

/-- Columns from `o` on, as rows. -/
theorem cols128_at (y : FVec Ideal S8x4096x2304 .f32) (r : Fin 32768) (l : Fin 128) :
    (shapeCast S32768x128 (extractStridedSlice S8x4096x128 ![0, 0, 640] y slices_S8x4096x2304_S8x4096x128_0_0_640)
        shapeCasts_S8x4096x128_S32768x128 : FVec Ideal S32768x128 .f32) (ix2 r l)
      = y (ix3 (bt r) (ps r) ⟨640 + l.val, by omega⟩) := by
  pointwise

/-- The last columns, as rows. -/
theorem cols512_at (y : FVec Ideal S8x4096x2304 .f32) (r : Fin 32768) (l : Fin 512) :
    (shapeCast S32768x512 (extractStridedSlice S8x4096x512 ![0, 0, 1792] y slices_S8x4096x2304_S8x4096x512_0_0_1792)
        shapeCasts_S8x4096x512_S32768x512 : FVec Ideal S32768x512 .f32) (ix2 r l)
      = y (ix3 (bt r) (ps r) ⟨1792 + l.val, by omega⟩) := by
  pointwise

/-- The queries, scaled. -/
def scaled (q : FVec Ideal S8x4096x8x64 .f32) : FVec Ideal S8x4096x8x64 .f32 :=
  mulf q (broadcastInDim S8x4096x8x64 ![] bcast_S_S8x4096x8x64 (constant S_ .f32 0x3E38AA3B#32))

theorem scaled_at (q : FVec Ideal S8x4096x8x64 .f32) (s : Fin 8) (t : Fin 4096) (h : Fin 8) (d : Fin 64) :
    scaled q (ix4 s t h d) = q (ix4 s t h d) * qs := by
  pointwise [scaled, qs]

/-- The zeros beside a head. -/
def nil4 : FVec Ideal S8x4096x4x64 .f32 := broadcastInDim S8x4096x4x64 ![] bcast_S_S8x4096x4x64 (constant S_ .f32 0x00000000#32)

theorem nil4_at (i : S8x4096x4x64.Idx) : nil4 i = (0 : EReal) := by
  obtain ⟨a, b, c, d, rfl⟩ : ∃ (a : Fin 8) (b : Fin 4096) (c : Fin 4) (d : Fin 64), i = ix4 a b c d := ⟨i 0, i 1, i 2, i 3, eq_ix4 i⟩
  pointwise [nil4]

/-- The heads of the first key head, in the first half of their lanes. -/
def layLow (q : FVec Ideal S8x4096x8x64 .f32) : FVec Ideal S8x4096x4x128 .f32 :=
  concatenate S8x4096x4x128 3 [⟨S8x4096x4x64, (shapeCast S8x4096x4x64 (extractStridedSlice S8x4096x1x4x64 ![0, 0, 0, 0, 0]
    (shapeCast S8x4096x2x4x64 q shapeCasts_S8x4096x8x64_S8x4096x2x4x64) slices_S8x4096x2x4x64_S8x4096x1x4x64_0_0_0_0_0)
    shapeCasts_S8x4096x1x4x64_S8x4096x4x64)⟩, ⟨S8x4096x4x64, nil4⟩] concatenates_S8x4096x4x64_S8x4096x4x64_S8x4096x4x128_d3
/-- The heads of the second, in the second half. -/
def layHigh (q : FVec Ideal S8x4096x8x64 .f32) : FVec Ideal S8x4096x4x128 .f32 :=
  concatenate S8x4096x4x128 3 [⟨S8x4096x4x64, nil4⟩, ⟨S8x4096x4x64, (shapeCast S8x4096x4x64 (extractStridedSlice S8x4096x1x4x64 ![0, 0, 1, 0, 0]
    (shapeCast S8x4096x2x4x64 q shapeCasts_S8x4096x8x64_S8x4096x2x4x64) slices_S8x4096x2x4x64_S8x4096x1x4x64_0_0_1_0_0)
    shapeCasts_S8x4096x1x4x64_S8x4096x4x64)⟩] concatenates_S8x4096x4x64_S8x4096x4x64_S8x4096x4x128_d3
/-- All heads as rows of columns. -/
def lay (u v : FVec Ideal S8x4096x4x128 .f32) : FVec Ideal S32768x1024 .f32 :=
  shapeCast S32768x1024 (concatenate S8x4096x2x4x128 2 [⟨S8x4096x1x4x128, (broadcastInDim S8x4096x1x4x128 ![0, 1, 3, 4] bcast_S8x4096x4x128_S8x4096x1x4x128_0_1_3_4 u)⟩,
    ⟨S8x4096x1x4x128, (broadcastInDim S8x4096x1x4x128 ![0, 1, 3, 4] bcast_S8x4096x4x128_S8x4096x1x4x128_0_1_3_4 v)⟩]
    concatenates_S8x4096x1x4x128_S8x4096x1x4x128_S8x4096x2x4x128_d2) shapeCasts_S8x4096x2x4x128_S32768x1024

theorem layLow_at (q : FVec Ideal S8x4096x8x64 .f32) (s : Fin 8) (t : Fin 4096) (k : Fin 4) (l : Fin 128) :
    layLow q (ix4 s t k l) = if l.val / 64 = 0 then q (ix4 s t ⟨k.val, by omega⟩ ⟨l.val % 64, by omega⟩) else (0 : EReal) := by
  pointwise [layLow]
  by_cases hl : l.val < 64
  · rw [dif_pos hl, if_pos (by omega)]
    exact congrArg (fun d => q (ix4 s t ⟨k.val, by omega⟩ d)) (Fin.ext (by simp only []; omega))
  · exact (dif_neg hl).trans ((nil4_at _).trans (if_neg (by omega)).symm)

theorem layHigh_at (q : FVec Ideal S8x4096x8x64 .f32) (s : Fin 8) (t : Fin 4096) (k : Fin 4) (l : Fin 128) :
    layHigh q (ix4 s t k l) = if l.val / 64 = 1 then q (ix4 s t ⟨4 + k.val, by omega⟩ ⟨l.val % 64, by omega⟩) else (0 : EReal) := by
  pointwise [layHigh]
  by_cases hl : l.val < 64
  · rw [dif_pos hl, if_neg (by omega)]
    exact nil4_at _
  · refine (dif_neg hl).trans (Eq.trans ?_ (if_pos (by omega)).symm)
    exact congrArg (fun d => q (ix4 s t ⟨4 + k.val, by omega⟩ d)) (Fin.ext (by simp only []; omega))

theorem lay_at (u v : FVec Ideal S8x4096x4x128 .f32) (r : Fin 32768) (c : Fin 1024) :
    lay u v (ix2 r c) = if c.val / 512 = 0 then u (ix4 (bt r) (ps r) ⟨c.val / 128 % 4, by omega⟩ ⟨c.val % 128, by omega⟩)
      else v (ix4 (bt r) (ps r) ⟨c.val / 128 % 4, by omega⟩ ⟨c.val % 128, by omega⟩) := by
  pointwise [lay]
  by_cases hl : c.val / 512 = 0
  · rw [dif_pos (by omega), if_pos hl]
  · rw [dif_neg (by omega), if_neg hl]

/-- The laid out heads, at an index. -/
theorem laid_at (q : FVec Ideal S8x4096x8x64 .f32) (r : Fin 32768) (c : Fin 1024) :
    lay (layLow q) (layHigh q) (ix2 r c)
      = if c.val % 128 / 64 = c.val / 512 then q (ix4 (bt r) (ps r) ⟨c.val / 128, by omega⟩ ⟨c.val % 64, by omega⟩) else (0 : EReal) := by
  rw [lay_at]
  by_cases hc : c.val / 512 = 0
  · rw [if_pos hc, layLow_at]
    by_cases hl : c.val % 128 / 64 = 0
    · rw [if_pos hl, if_pos (by omega)]
      exact congrArg₂ (fun h d => q (ix4 (bt r) (ps r) h d)) (Fin.ext (by simp only []; omega)) (Fin.ext (by simp only []; omega))
    · rw [if_neg hl, if_neg (by omega)]
  · rw [if_neg hc, layHigh_at]
    by_cases hl : c.val % 128 / 64 = 1
    · rw [if_pos hl, if_pos (by omega)]
      exact congrArg₂ (fun h d => q (ix4 (bt r) (ps r) h d)) (Fin.ext (by simp only []; omega)) (Fin.ext (by simp only []; omega))
    · rw [if_neg hl, if_neg (by omega)]

section
variable (x : FVec Ideal S8x4096x1024 .f32) (g : FVec Ideal S1x1024 .f32) (w : FVec Ideal S1x1024x2304 .f32)
  (ga : FVec Ideal S1x64 .f32) (a : FVec Ideal S4096x32 .f32) (r : Fin 32768)

/-- The queries of the first attention. -/
def rQA : FVec Ideal S32768x1024 .bf16 :=
  truncf .bf16 (lay (layLow (scaled (rope8 (nrm8 (heads8 (extractStridedSlice S8x4096x512 ![0, 0, 0] (rprj x g w)
    slices_S8x4096x2304_S8x4096x512_0_0_0)) ga) a)))
    (layHigh (scaled (rope8 (nrm8 (heads8 (extractStridedSlice S8x4096x512 ![0, 0, 0] (rprj x g w)
    slices_S8x4096x2304_S8x4096x512_0_0_0)) ga) a)))) bitsLt_bf16_f32
/-- The keys of the first attention. -/
def rKA : FVec Ideal S32768x128 .bf16 :=
  truncf .bf16 (shapeCast S32768x128 (rope2 (nrm2 (heads2 (extractStridedSlice S8x4096x128 ![0, 0, 512] (rprj x g w)
    slices_S8x4096x2304_S8x4096x128_0_0_512)) ga) a) shapeCasts_S8x4096x2x64_S32768x128) bitsLt_bf16_f32
/-- The values of the first attention. -/
def rVA : FVec Ideal S32768x128 .bf16 :=
  truncf .bf16 (shapeCast S32768x128 (extractStridedSlice S8x4096x128 ![0, 0, 640] (rprj x g w)
    slices_S8x4096x2304_S8x4096x128_0_0_640) shapeCasts_S8x4096x128_S32768x128) bitsLt_bf16_f32
/-- The queries of the second attention. -/
def rQB : FVec Ideal S32768x512 .bf16 :=
  truncf .bf16 (shapeCast S32768x512 (scaled (rope8 (nrm8 (heads8 (extractStridedSlice S8x4096x512 ![0, 0, 768] (rprj x g w)
    slices_S8x4096x2304_S8x4096x512_0_0_768)) ga) a)) shapeCasts_S8x4096x8x64_S32768x512) bitsLt_bf16_f32
/-- The keys of the second attention. -/
def rKB : FVec Ideal S32768x512 .bf16 :=
  truncf .bf16 (shapeCast S32768x512 (rope8 (nrm8 (heads8 (extractStridedSlice S8x4096x512 ![0, 0, 1280] (rprj x g w)
    slices_S8x4096x2304_S8x4096x512_0_0_1280)) ga) a) shapeCasts_S8x4096x8x64_S32768x512) bitsLt_bf16_f32
/-- The values of the second attention. -/
def rVB : FVec Ideal S32768x512 .bf16 :=
  truncf .bf16 (shapeCast S32768x512 (extractStridedSlice S8x4096x512 ![0, 0, 1792] (rprj x g w)
    slices_S8x4096x2304_S8x4096x512_0_0_1792) shapeCasts_S8x4096x512_S32768x512) bitsLt_bf16_f32

/-- A row of the projection. -/
abbrev rp (r : Fin 32768) : Fin 2304 → EReal :=
  prj (fun n => x (ix3 (bt r) (ps r) n)) (fun n => g (ix2 0 n)) (fun k c => w (ix3 0 k c))
/-- Cosines, sines and a gain. -/
abbrev rcos (i : Fin 32) : EReal := Host.cos a (ix2 (ps r) i)
/-- The sines. -/
abbrev rsin (i : Fin 32) : EReal := Host.sin a (ix2 (ps r) i)
/-- A gain. -/
abbrev rgain (d : Fin 64) : EReal := ga (ix2 0 d)

/-- Eight heads from column `64 * o` on, normed and turned. -/
theorem turn8 (o : ℕ) (ho : o + 8 ≤ 36) (y : FVec Ideal S8x4096x512 .f32)
    (hy : ∀ s t (k : Fin 512), y (ix3 s t k) = rprj x g w (ix3 s t ⟨64 * o + k.val, by omega⟩)) (h : Fin 8) (d : Fin 64) :
    rope8 (nrm8 (heads8 y) ga) a (ix4 (bt r) (ps r) h d)
      = turn (rp x g w r) (rgain ga) (rcos a r) (rsin a r) ⟨o + h.val, by omega⟩ d := by
  rw [rope8_at]
  refine congrArg (fun f => rot (hnrm f (rgain ga)) (rcos a r) (rsin a r) d) (funext fun d' => ?_)
  rw [hy, rprj_at]
  exact congrArg (rp x g w r) (Fin.ext (by simp only []; omega))

/-- Two heads. -/
theorem turn2 (o : ℕ) (ho : o + 2 ≤ 36) (y : FVec Ideal S8x4096x128 .f32)
    (hy : ∀ s t (k : Fin 128), y (ix3 s t k) = rprj x g w (ix3 s t ⟨64 * o + k.val, by omega⟩)) (h : Fin 2) (d : Fin 64) :
    rope2 (nrm2 (heads2 y) ga) a (ix4 (bt r) (ps r) h d)
      = turn (rp x g w r) (rgain ga) (rcos a r) (rsin a r) ⟨o + h.val, by omega⟩ d := by
  rw [rope2_at]
  refine congrArg (fun f => rot (hnrm f (rgain ga)) (rcos a r) (rsin a r) d) (funext fun d' => ?_)
  rw [hy, rprj_at]
  exact congrArg (rp x g w r) (Fin.ext (by simp only []; omega))

theorem rQA_at (l : Fin 1024) : rQA x g w ga a (ix2 r l) = qaRow (rp x g w r) (rgain ga) (rcos a r) (rsin a r) l := by
  refine (laid_at _ r l).trans ?_
  unfold qaRow
  by_cases h : l.val % 128 / 64 = l.val / 512
  · rw [if_pos h, if_pos h, scaled_at]
    refine congrArg (fun z => z * qs) ((turn8 x g w ga a r 0 (by decide) _ (fun s t k => ?_) _ _).trans
      (congrArg (fun h => turn (rp x g w r) (rgain ga) (rcos a r) (rsin a r) h _) (Fin.ext (Nat.zero_add _))))
    pointwise
  · rw [if_neg h, if_neg h]

theorem rKA_at (l : Fin 128) : rKA x g w ga a (ix2 r l)
    = turn (rp x g w r) (rgain ga) (rcos a r) (rsin a r) ⟨8 + l.val / 64, by omega⟩ ⟨l.val % 64, by omega⟩ :=
  (flat2_at _ r l).trans (turn2 x g w ga a r 8 (by decide) _ (fun s t k => by pointwise) _ _)

theorem rVA_at (l : Fin 128) : rVA x g w (ix2 r l) = rp x g w r ⟨640 + l.val, by omega⟩ :=
  (cols128_at _ r l).trans (rprj_at x g w _ _ _)

theorem rQB_at (l : Fin 512) : rQB x g w ga a (ix2 r l)
    = turn (rp x g w r) (rgain ga) (rcos a r) (rsin a r) ⟨12 + l.val / 64, by omega⟩ ⟨l.val % 64, by omega⟩ * qs :=
  (flat8_at _ r l).trans ((scaled_at _ _ _ _ _).trans
    (congrArg (fun z => z * qs) (turn8 x g w ga a r 12 (by decide) _ (fun s t k => by pointwise) _ _)))

theorem rKB_at (l : Fin 512) : rKB x g w ga a (ix2 r l)
    = turn (rp x g w r) (rgain ga) (rcos a r) (rsin a r) ⟨20 + l.val / 64, by omega⟩ ⟨l.val % 64, by omega⟩ :=
  (flat8_at _ r l).trans (turn8 x g w ga a r 20 (by decide) _ (fun s t k => by pointwise) _ _)

theorem rVB_at (l : Fin 512) : rVB x g w (ix2 r l) = rp x g w r ⟨1792 + l.val, by omega⟩ :=
  (cols512_at _ r l).trans (rprj_at x g w _ _ _)

end

end Cert.ReferenceDIdeal.Proj

end
-- ==== Proof.ProjClaim.lean ====
/- The value claim of the projection call: kernel and reference end at the same six arrays. -/
module

public import proofs.«01_k».proof.Defs
public import proofs.«01_k».proof.Proof.ProjOut
public import proofs.«01_k».proof.Proof.ProjRef

@[expose] public section

set_option maxRecDepth 16384

noncomputable section

namespace Cert.KernelDIdeal.Proj

open Cert.KernelDIdeal Cert.KernelDIdeal.Gen Idealize.ShloMosaic Idealize.ShloMosaic.TcCoe Idealize.SL.Sem
open Cert.ReferenceDIdeal.Proj (rQA rKA rVA rQB rKB rVB rQA_at rKA_at rVA_at rQB_at rKB_at rVB_at)

/-- The first attention's angles are the reference's. -/
theorem angA_eq (m : (ℓ : Loc nD τ sig) → Buf (Elt Ideal) ℓ) (c : Dev nD) (V0 : Valuation Cert.ReferenceDIdeal.τ Cert.ReferenceDIdeal.sig (Elt Ideal)) :
    angA m c = Cert.ReferenceDIdeal.Value.res_main_v25 (F := Ideal) V0 := by
  unfold angA V
  simp only [List.flatten_cons, List.flatten_nil, List.append_nil, List.cons_append, List.nil_append]
  after_reads_simp
  try simp only [StableHlo.TRef.ofBuf_toBuf]
  try simp -implicitDefEqProofs only [StableHlo.TRef.toBuf, StableHlo.TRef.ofBuf, cast_cast, cast_eq]
  try clean_types
  rfl

/-- So are the second's. -/
theorem angB_eq (m : (ℓ : Loc nD τ sig) → Buf (Elt Ideal) ℓ) (c : Dev nD) (V0 : Valuation Cert.ReferenceDIdeal.τ Cert.ReferenceDIdeal.sig (Elt Ideal)) :
    angB m c = Cert.ReferenceDIdeal.Value.res_main_v42 (F := Ideal) V0 := by
  unfold angB V
  simp only [List.flatten_cons, List.flatten_nil, List.append_nil, List.cons_append, List.nil_append]
  after_reads_simp
  try simp only [StableHlo.TRef.ofBuf_toBuf]
  try simp -implicitDefEqProofs only [StableHlo.TRef.toBuf, StableHlo.TRef.ofBuf, cast_cast, cast_eq]
  try clean_types
  rfl

section
variable (m : (ℓ : Loc nD τ sig) → Buf (Elt Ideal) ℓ) (c : Dev nD)
  (x : FVec Ideal S8x4096x1024 .f32) (g : FVec Ideal S1x1024 .f32) (w : FVec Ideal S1x1024x2304 .f32)
  (hx : x = m ((c.tc : Thread nD τ).loc main_arg0)) (hg : g = m ((c.tc : Thread nD τ).loc main_arg1))
  (hw : w = m ((c.tc : Thread nD τ).loc main_arg2))
include hx hg hw

theorem rQA_eq (ga : FVec Ideal S1x64 .f32) (hga : ga = m ((c.tc : Thread nD τ).loc main_arg3)) (a : FVec Ideal S4096x32 .f32) (ha : angA m c = a) : rQA x g w ga a = outQA m c := by
  subst hx hg hw hga ha
  funext i
  obtain ⟨r, l, rfl⟩ : ∃ (r : Fin 32768) (l : Fin 1024), i = ix2 r l := ⟨i 0, i 1, eq_ix2 i⟩
  exact rQA_at _ _ _ _ _ r l

theorem rKA_eq (ga : FVec Ideal S1x64 .f32) (hga : ga = m ((c.tc : Thread nD τ).loc main_arg4)) (a : FVec Ideal S4096x32 .f32) (ha : angA m c = a) : rKA x g w ga a = outKA m c := by
  subst hx hg hw hga ha
  funext i
  obtain ⟨r, l, rfl⟩ : ∃ (r : Fin 32768) (l : Fin 128), i = ix2 r l := ⟨i 0, i 1, eq_ix2 i⟩
  exact rKA_at _ _ _ _ _ r l

theorem rVA_eq : rVA x g w = outVA m c := by
  subst hx hg hw
  funext i
  obtain ⟨r, l, rfl⟩ : ∃ (r : Fin 32768) (l : Fin 128), i = ix2 r l := ⟨i 0, i 1, eq_ix2 i⟩
  exact rVA_at _ _ _ r l

theorem rQB_eq (ga : FVec Ideal S1x64 .f32) (hga : ga = m ((c.tc : Thread nD τ).loc main_arg5)) (a : FVec Ideal S4096x32 .f32) (ha : angB m c = a) : rQB x g w ga a = outQB m c := by
  subst hx hg hw hga ha
  funext i
  obtain ⟨r, l, rfl⟩ : ∃ (r : Fin 32768) (l : Fin 512), i = ix2 r l := ⟨i 0, i 1, eq_ix2 i⟩
  exact rQB_at _ _ _ _ _ r l

theorem rKB_eq (ga : FVec Ideal S1x64 .f32) (hga : ga = m ((c.tc : Thread nD τ).loc main_arg6)) (a : FVec Ideal S4096x32 .f32) (ha : angB m c = a) : rKB x g w ga a = outKB m c := by
  subst hx hg hw hga ha
  funext i
  obtain ⟨r, l, rfl⟩ : ∃ (r : Fin 32768) (l : Fin 512), i = ix2 r l := ⟨i 0, i 1, eq_ix2 i⟩
  exact rKB_at _ _ _ _ _ r l

theorem rVB_eq : rVB x g w = outVB m c := by
  subst hx hg hw
  funext i
  obtain ⟨r, l, rfl⟩ : ∃ (r : Fin 32768) (l : Fin 512), i = ix2 r l := ⟨i 0, i 1, eq_ix2 i⟩
  exact rVB_at _ _ _ r l

end

end Cert.KernelDIdeal.Proj

namespace Cert.ReferenceDIdeal.Proj

open Cert.ReferenceDIdeal Cert.ReferenceDIdeal.Gen Idealize.ShloMosaic Idealize.ShloMosaic.TcCoe Idealize.SL.Sem

variable (m : (ℓ : Loc nD τ sig) → Buf (Elt Ideal) ℓ)

/-- What the reference ends with. -/
theorem run_res (ρ : Dev nD → PrngReg) :
    θ_run (defs (F := Ideal)) (onTc (τ := τ) (main (F := Ideal))) ⟨m, fun _ => 0, ρ⟩ fun r => ∀ c : Dev nD,
      r.2.mem ((c.tc : Thread nD τ).loc main_v233) = rQA (m ((c.tc : Thread nD τ).loc main_arg0)) (m ((c.tc : Thread nD τ).loc main_arg1)) (m ((c.tc : Thread nD τ).loc main_arg2)) (m ((c.tc : Thread nD τ).loc main_arg3)) (Value.res_main_v25 (F := Ideal) (StableHlo.launchContents m c))
      ∧ r.2.mem ((c.tc : Thread nD τ).loc main_v235) = rKA (m ((c.tc : Thread nD τ).loc main_arg0)) (m ((c.tc : Thread nD τ).loc main_arg1)) (m ((c.tc : Thread nD τ).loc main_arg2)) (m ((c.tc : Thread nD τ).loc main_arg4)) (Value.res_main_v25 (F := Ideal) (StableHlo.launchContents m c))
      ∧ r.2.mem ((c.tc : Thread nD τ).loc main_v237) = rVA (m ((c.tc : Thread nD τ).loc main_arg0)) (m ((c.tc : Thread nD τ).loc main_arg1)) (m ((c.tc : Thread nD τ).loc main_arg2))
      ∧ r.2.mem ((c.tc : Thread nD τ).loc main_v239) = rQB (m ((c.tc : Thread nD τ).loc main_arg0)) (m ((c.tc : Thread nD τ).loc main_arg1)) (m ((c.tc : Thread nD τ).loc main_arg2)) (m ((c.tc : Thread nD τ).loc main_arg5)) (Value.res_main_v42 (F := Ideal) (StableHlo.launchContents m c))
      ∧ r.2.mem ((c.tc : Thread nD τ).loc main_v241) = rKB (m ((c.tc : Thread nD τ).loc main_arg0)) (m ((c.tc : Thread nD τ).loc main_arg1)) (m ((c.tc : Thread nD τ).loc main_arg2)) (m ((c.tc : Thread nD τ).loc main_arg6)) (Value.res_main_v42 (F := Ideal) (StableHlo.launchContents m c))
      ∧ r.2.mem ((c.tc : Thread nD τ).loc main_v243) = rVB (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h⟩ := h c
    exact ⟨h0.trans rfl, h1.trans rfl, h2.trans rfl, h3.trans rfl, h4.trans rfl, h5.trans rfl, h⟩)
    (Value.run (F := Ideal) m ρ)

end Cert.ReferenceDIdeal.Proj

namespace Cert.Proof.ProjClaim

open Idealize.ShloMosaic Idealize.SL.Sem
open Cert.KernelDIdeal.Proj

/-- At `Ideal` the projection kernel and its reference end with the same arrays. -/
theorem algebraic : Cert.algebraic_KernelDIdeal_ReferenceDIdeal := by
  intro m ρ m' ρ' _ hag
  refine ⟨fun c => outQA m c, fun c => outKA m c, fun c => outVA m c, fun c => outQB m c, fun c => outKB m c, fun c => outVB m c,
    (θ_run _ _ _).mono (fun _ h c => ?_) (Cert.KernelDIdeal.Value.run_blocks m ρ),
    (θ_run _ _ _).mono (fun _ h c => ?_) (Cert.ReferenceDIdeal.Proj.run_res m' ρ')⟩
  · obtain ⟨h0, h1, h2, h3, h4, h5, h⟩ := h c
    exact ⟨h0.trans (finalQA m c), h1.trans (finalKA m c), h2.trans (finalVA m c), h3.trans (finalQB m c),
      h4.trans (finalKB m c), h5.trans (finalVB m c), h⟩
  · obtain ⟨h0, h1, h2, h3, h4, h5, h⟩ := h c
    obtain ⟨g0, g1, g2, g3, g4, g5, g6⟩ := hag c
    exact ⟨h0.trans (rQA_eq m c _ _ _ g0 g1 g2 _ g3 _ (angA_eq m c _)), h1.trans (rKA_eq m c _ _ _ g0 g1 g2 _ g4 _ (angA_eq m c _)),
      h2.trans (rVA_eq m c _ _ _ g0 g1 g2), h3.trans (rQB_eq m c _ _ _ g0 g1 g2 _ g5 _ (angB_eq m c _)),
      h4.trans (rKB_eq m c _ _ _ g0 g1 g2 _ g6 _ (angB_eq m c _)), h5.trans (rVB_eq m c _ _ _ g0 g1 g2), h⟩

end Cert.Proof.ProjClaim

end
-- ==== Proof.lean ====
/- The certificate: the frames, and the value claims of the calls. -/
module

public import proofs.«01_k».proof.Defs
public import proofs.«01_k».proof.Proof.AttnAClaim
public import proofs.«01_k».proof.Proof.AttnBClaim
public import proofs.«01_k».proof.Proof.Frames
public import proofs.«01_k».proof.Proof.PostClaim
public import proofs.«01_k».proof.Proof.ProjClaim
public import proofs.«01_k».proof.Proof.Gen.KernelB
public import proofs.«01_k».proof.Proof.Gen.KernelBIdeal
public import proofs.«01_k».proof.Proof.Gen.ReferenceBIdeal
public import proofs.«01_k».proof.Proof.Gen.KernelA
public import proofs.«01_k».proof.Proof.Gen.KernelAIdeal
public import proofs.«01_k».proof.Proof.Gen.ReferenceAIdeal
public import proofs.«01_k».proof.Proof.Gen.KernelC
public import proofs.«01_k».proof.Proof.Gen.KernelCIdeal
public import proofs.«01_k».proof.Proof.Gen.ReferenceCIdeal
public import proofs.«01_k».proof.Proof.Gen.KernelD
public import proofs.«01_k».proof.Proof.Gen.KernelDIdeal
public import proofs.«01_k».proof.Proof.Gen.ReferenceDIdeal
public import proofs.«01_k».proof.Proof.Gen.Pre_finite_b
public import proofs.«01_k».proof.Proof.Gen.Pre_laid_out_a

@[expose] public section

noncomputable section

namespace Cert.Proof

open Idealize.ShloMosaic Idealize.SL.Sem

/-- The claim of the package. -/
theorem claim : Cert.Claim :=
  ⟨Cert.KernelB.Gen.facts,
    Cert.KernelBIdeal.Gen.facts,
    Cert.ReferenceBIdeal.Gen.facts,
    Cert.KernelA.Gen.facts,
    Cert.KernelAIdeal.Gen.facts,
    Cert.ReferenceAIdeal.Gen.facts,
    Cert.KernelC.Gen.facts,
    Cert.KernelCIdeal.Gen.facts,
    Cert.ReferenceCIdeal.Gen.facts,
    Cert.KernelD.Gen.facts,
    Cert.KernelDIdeal.Gen.facts,
    Cert.ReferenceDIdeal.Gen.facts,
    Cert.Pre_finite_b.Gen.facts,
    Cert.Pre_laid_out_a.Gen.facts,
    Frames.kB,
    Frames.kBI,
    fun m ρ _ => Frames.kBI m ρ trivial,
    Frames.rB,
    fun m ρ _ => Frames.rB m ρ trivial,
    Frames.kA,
    Frames.kAI,
    fun m ρ _ => Frames.kAI m ρ trivial,
    Frames.rA,
    fun m ρ _ => Frames.rA m ρ trivial,
    Frames.kC,
    Frames.kCI,
    Frames.rC,
    Frames.kD,
    Frames.kDI,
    Frames.rD,
    IdealRules.named_const.statement Cert.KernelBIdeal.κ "mask" .f32 0xF149F2CA#32 ⊥ rfl,
    AttnBClaim.algebraic,
    IdealRules.named_const.statement Cert.KernelAIdeal.κ "mask" .f32 0xF149F2CA#32 ⊥ rfl,
    AttnAClaim.algebraic,
    trivial,
    PostClaim.algebraic,
    trivial,
    ProjClaim.algebraic⟩

end Cert.Proof

end
